-- ==== Defs.lean ====
def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def Pre_GuK (m : (ℓ : Loc Cert.GuK.nD Cert.GuK.τ Cert.GuK.sig) → Buf (Elt Bits) ℓ) : Prop :=
  True

def Pre_GuKIdeal (m : (ℓ : Loc Cert.GuKIdeal.nD Cert.GuKIdeal.τ Cert.GuKIdeal.sig) → Buf (Elt Ideal) ℓ) : Prop :=
  True

def Pre_GuRIdeal (m : (ℓ : Loc Cert.GuRIdeal.nD Cert.GuRIdeal.τ Cert.GuRIdeal.sig) → Buf (Elt Ideal) ℓ) : Prop :=
  True

def Pre_OprojK (m : (ℓ : Loc Cert.OprojK.nD Cert.OprojK.τ Cert.OprojK.sig) → Buf (Elt Bits) ℓ) : Prop :=
  True

def Pre_OprojKIdeal (m : (ℓ : Loc Cert.OprojKIdeal.nD Cert.OprojKIdeal.τ Cert.OprojKIdeal.sig) → Buf (Elt Ideal) ℓ) : Prop :=
  True

def Pre_OprojRIdeal (m : (ℓ : Loc Cert.OprojRIdeal.nD Cert.OprojRIdeal.τ Cert.OprojRIdeal.sig) → Buf (Elt Ideal) ℓ) : Prop :=
  True

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2)
      ∧ r.2.mem ((c.tc : Thread Cert.DownK.nD Cert.DownK.τ).loc Cert.DownK.main_arg3) = m ((c.tc : Thread Cert.DownK.nD Cert.DownK.τ).loc Cert.DownK.main_arg3)
      ∧ r.2.mem ((c.tc : Thread Cert.DownK.nD Cert.DownK.τ).loc Cert.DownK.main_arg4) = m ((c.tc : Thread Cert.DownK.nD Cert.DownK.τ).loc Cert.DownK.main_arg4))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
      ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3)
      ∧ r.2.mem ((c.tc : Thread Cert.DownKIdeal.nD Cert.DownKIdeal.τ).loc Cert.DownKIdeal.main_arg4) = m ((c.tc : Thread Cert.DownKIdeal.nD Cert.DownKIdeal.τ).loc Cert.DownKIdeal.main_arg4))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2)
      ∧ r.2.mem ((c.tc : Thread Cert.DownRIdeal.nD Cert.DownRIdeal.τ).loc Cert.DownRIdeal.main_arg3) = m ((c.tc : Thread Cert.DownRIdeal.nD Cert.DownRIdeal.τ).loc Cert.DownRIdeal.main_arg3)
      ∧ r.2.mem ((c.tc : Thread Cert.DownRIdeal.nD Cert.DownRIdeal.τ).loc Cert.DownRIdeal.main_arg4) = m ((c.tc : Thread Cert.DownRIdeal.nD Cert.DownRIdeal.τ).loc Cert.DownRIdeal.main_arg4))
      ∧ r.2.sem = fun _ => 0)

def quiescent_GuK [hGuK : Cert.GuK.Facts] : Prop :=
  ∀ (m : (ℓ : Loc Cert.GuK.nD Cert.GuK.τ Cert.GuK.sig) → Buf (Elt Bits) ℓ) (g : Dev Cert.GuK.nD → PrngReg), Pre_GuK m →
    θ_run (Cert.GuK.defs (F := Bits)) (onTc (τ := Cert.GuK.τ) (Cert.GuK.main (F := Bits))) ⟨m, fun _ => 0, g⟩ (fun r => (∀ c : Dev Cert.GuK.nD,
      r.2.mem ((c.tc : Thread Cert.GuK.nD Cert.GuK.τ).loc Cert.GuK.main_arg0) = m ((c.tc : Thread Cert.GuK.nD Cert.GuK.τ).loc Cert.GuK.main_arg0)
      ∧ r.2.mem ((c.tc : Thread Cert.GuK.nD Cert.GuK.τ).loc Cert.GuK.main_arg1) = m ((c.tc : Thread Cert.GuK.nD Cert.GuK.τ).loc Cert.GuK.main_arg1)
      ∧ r.2.mem ((c.tc : Thread Cert.GuK.nD Cert.GuK.τ).loc Cert.GuK.main_arg2) = m ((c.tc : Thread Cert.GuK.nD Cert.GuK.τ).loc Cert.GuK.main_arg2)
      ∧ r.2.mem ((c.tc : Thread Cert.GuK.nD Cert.GuK.τ).loc Cert.GuK.main_arg3) = m ((c.tc : Thread Cert.GuK.nD Cert.GuK.τ).loc Cert.GuK.main_arg3))
      ∧ r.2.sem = fun _ => 0)

def quiescent_GuKIdeal [hGuKIdeal : Cert.GuKIdeal.Facts] : Prop :=
  ∀ (m : (ℓ : Loc Cert.GuKIdeal.nD Cert.GuKIdeal.τ Cert.GuKIdeal.sig) → Buf (Elt Ideal) ℓ) (g : Dev Cert.GuKIdeal.nD → PrngReg), Pre_GuKIdeal m →
    θ_run (Cert.GuKIdeal.defs (F := Ideal)) (onTc (τ := Cert.GuKIdeal.τ) (Cert.GuKIdeal.main (F := Ideal))) ⟨m, fun _ => 0, g⟩ (fun r => (∀ c : Dev Cert.GuKIdeal.nD,
      r.2.mem ((c.tc : Thread Cert.GuKIdeal.nD Cert.GuKIdeal.τ).loc Cert.GuKIdeal.main_arg0) = m ((c.tc : Thread Cert.GuKIdeal.nD Cert.GuKIdeal.τ).loc Cert.GuKIdeal.main_arg0)
      ∧ r.2.mem ((c.tc : Thread Cert.GuKIdeal.nD Cert.GuKIdeal.τ).loc Cert.GuKIdeal.main_arg1) = m ((c.tc : Thread Cert.GuKIdeal.nD Cert.GuKIdeal.τ).loc Cert.GuKIdeal.main_arg1)
      ∧ r.2.mem ((c.tc : Thread Cert.GuKIdeal.nD Cert.GuKIdeal.τ).loc Cert.GuKIdeal.main_arg2) = m ((c.tc : Thread Cert.GuKIdeal.nD Cert.GuKIdeal.τ).loc Cert.GuKIdeal.main_arg2)
      ∧ r.2.mem ((c.tc : Thread Cert.GuKIdeal.nD Cert.GuKIdeal.τ).loc Cert.GuKIdeal.main_arg3) = m ((c.tc : Thread Cert.GuKIdeal.nD Cert.GuKIdeal.τ).loc Cert.GuKIdeal.main_arg3))
      ∧ r.2.sem = fun _ => 0)

def quiescent_GuRIdeal [hGuRIdeal : Cert.GuRIdeal.Facts] : Prop :=
  ∀ (m : (ℓ : Loc Cert.GuRIdeal.nD Cert.GuRIdeal.τ Cert.GuRIdeal.sig) → Buf (Elt Ideal) ℓ) (g : Dev Cert.GuRIdeal.nD → PrngReg), Pre_GuRIdeal m →
    θ_run (Cert.GuRIdeal.defs (F := Ideal)) (onTc (τ := Cert.GuRIdeal.τ) (Cert.GuRIdeal.main (F := Ideal))) ⟨m, fun _ => 0, g⟩ (fun r => (∀ c : Dev Cert.GuRIdeal.nD,
      r.2.mem ((c.tc : Thread Cert.GuRIdeal.nD Cert.GuRIdeal.τ).loc Cert.GuRIdeal.main_arg0) = m ((c.tc : Thread Cert.GuRIdeal.nD Cert.GuRIdeal.τ).loc Cert.GuRIdeal.main_arg0)
      ∧ r.2.mem ((c.tc : Thread Cert.GuRIdeal.nD Cert.GuRIdeal.τ).loc Cert.GuRIdeal.main_arg1) = m ((c.tc : Thread Cert.GuRIdeal.nD Cert.GuRIdeal.τ).loc Cert.GuRIdeal.main_arg1)
      ∧ r.2.mem ((c.tc : Thread Cert.GuRIdeal.nD Cert.GuRIdeal.τ).loc Cert.GuRIdeal.main_arg2) = m ((c.tc : Thread Cert.GuRIdeal.nD Cert.GuRIdeal.τ).loc Cert.GuRIdeal.main_arg2)
      ∧ r.2.mem ((c.tc : Thread Cert.GuRIdeal.nD Cert.GuRIdeal.τ).loc Cert.GuRIdeal.main_arg3) = m ((c.tc : Thread Cert.GuRIdeal.nD Cert.GuRIdeal.τ).loc Cert.GuRIdeal.main_arg3))
      ∧ r.2.sem = fun _ => 0)

def quiescent_OprojK [hOprojK : Cert.OprojK.Facts] : Prop :=
  ∀ (m : (ℓ : Loc Cert.OprojK.nD Cert.OprojK.τ Cert.OprojK.sig) → Buf (Elt Bits) ℓ) (g : Dev Cert.OprojK.nD → PrngReg), Pre_OprojK m →
    θ_run (Cert.OprojK.defs (F := Bits)) (onTc (τ := Cert.OprojK.τ) (Cert.OprojK.main (F := Bits))) ⟨m, fun _ => 0, g⟩ (fun r => (∀ c : Dev Cert.OprojK.nD,
      r.2.mem ((c.tc : Thread Cert.OprojK.nD Cert.OprojK.τ).loc Cert.OprojK.main_arg0) = m ((c.tc : Thread Cert.OprojK.nD Cert.OprojK.τ).loc Cert.OprojK.main_arg0)
      ∧ r.2.mem ((c.tc : Thread Cert.OprojK.nD Cert.OprojK.τ).loc Cert.OprojK.main_arg1) = m ((c.tc : Thread Cert.OprojK.nD Cert.OprojK.τ).loc Cert.OprojK.main_arg1)
      ∧ r.2.mem ((c.tc : Thread Cert.OprojK.nD Cert.OprojK.τ).loc Cert.OprojK.main_arg2) = m ((c.tc : Thread Cert.OprojK.nD Cert.OprojK.τ).loc Cert.OprojK.main_arg2)
      ∧ r.2.mem ((c.tc : Thread Cert.OprojK.nD Cert.OprojK.τ).loc Cert.OprojK.main_arg3) = m ((c.tc : Thread Cert.OprojK.nD Cert.OprojK.τ).loc Cert.OprojK.main_arg3)
      ∧ r.2.mem ((c.tc : Thread Cert.OprojK.nD Cert.OprojK.τ).loc Cert.OprojK.main_arg4) = m ((c.tc : Thread Cert.OprojK.nD Cert.OprojK.τ).loc Cert.OprojK.main_arg4)
      ∧ r.2.mem ((c.tc : Thread Cert.OprojK.nD Cert.OprojK.τ).loc Cert.OprojK.main_arg5) = m ((c.tc : Thread Cert.OprojK.nD Cert.OprojK.τ).loc Cert.OprojK.main_arg5))
      ∧ r.2.sem = fun _ => 0)

def quiescent_OprojKIdeal [hOprojKIdeal : Cert.OprojKIdeal.Facts] : Prop :=
  ∀ (m : (ℓ : Loc Cert.OprojKIdeal.nD Cert.OprojKIdeal.τ Cert.OprojKIdeal.sig) → Buf (Elt Ideal) ℓ) (g : Dev Cert.OprojKIdeal.nD → PrngReg), Pre_OprojKIdeal m →
    θ_run (Cert.OprojKIdeal.defs (F := Ideal)) (onTc (τ := Cert.OprojKIdeal.τ) (Cert.OprojKIdeal.main (F := Ideal))) ⟨m, fun _ => 0, g⟩ (fun r => (∀ c : Dev Cert.OprojKIdeal.nD,
      r.2.mem ((c.tc : Thread Cert.OprojKIdeal.nD Cert.OprojKIdeal.τ).loc Cert.OprojKIdeal.main_arg0) = m ((c.tc : Thread Cert.OprojKIdeal.nD Cert.OprojKIdeal.τ).loc Cert.OprojKIdeal.main_arg0)
      ∧ r.2.mem ((c.tc : Thread Cert.OprojKIdeal.nD Cert.OprojKIdeal.τ).loc Cert.OprojKIdeal.main_arg1) = m ((c.tc : Thread Cert.OprojKIdeal.nD Cert.OprojKIdeal.τ).loc Cert.OprojKIdeal.main_arg1)
      ∧ r.2.mem ((c.tc : Thread Cert.OprojKIdeal.nD Cert.OprojKIdeal.τ).loc Cert.OprojKIdeal.main_arg2) = m ((c.tc : Thread Cert.OprojKIdeal.nD Cert.OprojKIdeal.τ).loc Cert.OprojKIdeal.main_arg2)
      ∧ r.2.mem ((c.tc : Thread Cert.OprojKIdeal.nD Cert.OprojKIdeal.τ).loc Cert.OprojKIdeal.main_arg3) = m ((c.tc : Thread Cert.OprojKIdeal.nD Cert.OprojKIdeal.τ).loc Cert.OprojKIdeal.main_arg3)
      ∧ r.2.mem ((c.tc : Thread Cert.OprojKIdeal.nD Cert.OprojKIdeal.τ).loc Cert.OprojKIdeal.main_arg4) = m ((c.tc : Thread Cert.OprojKIdeal.nD Cert.OprojKIdeal.τ).loc Cert.OprojKIdeal.main_arg4)
      ∧ r.2.mem ((c.tc : Thread Cert.OprojKIdeal.nD Cert.OprojKIdeal.τ).loc Cert.OprojKIdeal.main_arg5) = m ((c.tc : Thread Cert.OprojKIdeal.nD Cert.OprojKIdeal.τ).loc Cert.OprojKIdeal.main_arg5))
      ∧ r.2.sem = fun _ => 0)

def quiescent_OprojRIdeal [hOprojRIdeal : Cert.OprojRIdeal.Facts] : Prop :=
  ∀ (m : (ℓ : Loc Cert.OprojRIdeal.nD Cert.OprojRIdeal.τ Cert.OprojRIdeal.sig) → Buf (Elt Ideal) ℓ) (g : Dev Cert.OprojRIdeal.nD → PrngReg), Pre_OprojRIdeal m →
    θ_run (Cert.OprojRIdeal.defs (F := Ideal)) (onTc (τ := Cert.OprojRIdeal.τ) (Cert.OprojRIdeal.main (F := Ideal))) ⟨m, fun _ => 0, g⟩ (fun r => (∀ c : Dev Cert.OprojRIdeal.nD,
      r.2.mem ((c.tc : Thread Cert.OprojRIdeal.nD Cert.OprojRIdeal.τ).loc Cert.OprojRIdeal.main_arg0) = m ((c.tc : Thread Cert.OprojRIdeal.nD Cert.OprojRIdeal.τ).loc Cert.OprojRIdeal.main_arg0)
      ∧ r.2.mem ((c.tc : Thread Cert.OprojRIdeal.nD Cert.OprojRIdeal.τ).loc Cert.OprojRIdeal.main_arg1) = m ((c.tc : Thread Cert.OprojRIdeal.nD Cert.OprojRIdeal.τ).loc Cert.OprojRIdeal.main_arg1)
      ∧ r.2.mem ((c.tc : Thread Cert.OprojRIdeal.nD Cert.OprojRIdeal.τ).loc Cert.OprojRIdeal.main_arg2) = m ((c.tc : Thread Cert.OprojRIdeal.nD Cert.OprojRIdeal.τ).loc Cert.OprojRIdeal.main_arg2)
      ∧ r.2.mem ((c.tc : Thread Cert.OprojRIdeal.nD Cert.OprojRIdeal.τ).loc Cert.OprojRIdeal.main_arg3) = m ((c.tc : Thread Cert.OprojRIdeal.nD Cert.OprojRIdeal.τ).loc Cert.OprojRIdeal.main_arg3)
      ∧ r.2.mem ((c.tc : Thread Cert.OprojRIdeal.nD Cert.OprojRIdeal.τ).loc Cert.OprojRIdeal.main_arg4) = m ((c.tc : Thread Cert.OprojRIdeal.nD Cert.OprojRIdeal.τ).loc Cert.OprojRIdeal.main_arg4)
      ∧ r.2.mem ((c.tc : Thread Cert.OprojRIdeal.nD Cert.OprojRIdeal.τ).loc Cert.OprojRIdeal.main_arg5) = m ((c.tc : Thread Cert.OprojRIdeal.nD Cert.OprojRIdeal.τ).loc Cert.OprojRIdeal.main_arg5))
      ∧ r.2.sem = fun _ => 0)

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)
      ∧ m' ((c.tc : Thread Cert.DownRIdeal.nD Cert.DownRIdeal.τ).loc Cert.DownRIdeal.main_arg3) = m ((c.tc : Thread Cert.DownKIdeal.nD Cert.DownKIdeal.τ).loc Cert.DownKIdeal.main_arg3)
      ∧ m' ((c.tc : Thread Cert.DownRIdeal.nD Cert.DownRIdeal.τ).loc Cert.DownRIdeal.main_arg4) = m ((c.tc : Thread Cert.DownKIdeal.nD Cert.DownKIdeal.τ).loc Cert.DownKIdeal.main_arg4)) →
    ∃ (v0 : (c : Dev Cert.DownKIdeal.nD) → Buf (Elt Ideal) ((c.tc : Thread Cert.DownKIdeal.nD Cert.DownKIdeal.τ).loc Cert.DownKIdeal.main_v4)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v4) = v0 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
          ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3)
          ∧ r.2.mem ((c.tc : Thread Cert.DownKIdeal.nD Cert.DownKIdeal.τ).loc Cert.DownKIdeal.main_arg4) = m ((c.tc : Thread Cert.DownKIdeal.nD Cert.DownKIdeal.τ).loc Cert.DownKIdeal.main_arg4))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v0) = v0 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2)
          ∧ r.2.mem ((c.tc : Thread Cert.DownRIdeal.nD Cert.DownRIdeal.τ).loc Cert.DownRIdeal.main_arg3) = m' ((c.tc : Thread Cert.DownRIdeal.nD Cert.DownRIdeal.τ).loc Cert.DownRIdeal.main_arg3)
          ∧ r.2.mem ((c.tc : Thread Cert.DownRIdeal.nD Cert.DownRIdeal.τ).loc Cert.DownRIdeal.main_arg4) = m' ((c.tc : Thread Cert.DownRIdeal.nD Cert.DownRIdeal.τ).loc Cert.DownRIdeal.main_arg4))

def preserves_GuK_GuKIdeal : Prop :=
  True

def algebraic_GuKIdeal_GuRIdeal [hGuKIdeal : Cert.GuKIdeal.Facts] [hGuRIdeal : Cert.GuRIdeal.Facts] : Prop :=
  ∀ (m : (ℓ : Loc Cert.GuKIdeal.nD Cert.GuKIdeal.τ Cert.GuKIdeal.sig) → Buf (Elt Ideal) ℓ) (g : Dev Cert.GuKIdeal.nD → PrngReg)
    (m' : (ℓ : Loc Cert.GuRIdeal.nD Cert.GuRIdeal.τ Cert.GuRIdeal.sig) → Buf (Elt Ideal) ℓ) (g' : Dev Cert.GuRIdeal.nD → PrngReg), Pre_GuKIdeal m →
    (∀ c : Dev Cert.GuKIdeal.nD,
      m' ((c.tc : Thread Cert.GuRIdeal.nD Cert.GuRIdeal.τ).loc Cert.GuRIdeal.main_arg0) = m ((c.tc : Thread Cert.GuKIdeal.nD Cert.GuKIdeal.τ).loc Cert.GuKIdeal.main_arg0)
      ∧ m' ((c.tc : Thread Cert.GuRIdeal.nD Cert.GuRIdeal.τ).loc Cert.GuRIdeal.main_arg1) = m ((c.tc : Thread Cert.GuKIdeal.nD Cert.GuKIdeal.τ).loc Cert.GuKIdeal.main_arg1)
      ∧ m' ((c.tc : Thread Cert.GuRIdeal.nD Cert.GuRIdeal.τ).loc Cert.GuRIdeal.main_arg2) = m ((c.tc : Thread Cert.GuKIdeal.nD Cert.GuKIdeal.τ).loc Cert.GuKIdeal.main_arg2)
      ∧ m' ((c.tc : Thread Cert.GuRIdeal.nD Cert.GuRIdeal.τ).loc Cert.GuRIdeal.main_arg3) = m ((c.tc : Thread Cert.GuKIdeal.nD Cert.GuKIdeal.τ).loc Cert.GuKIdeal.main_arg3)) →
    ∃ (v0 : (c : Dev Cert.GuKIdeal.nD) → Buf (Elt Ideal) ((c.tc : Thread Cert.GuKIdeal.nD Cert.GuKIdeal.τ).loc Cert.GuKIdeal.main_v1_0)) (v1 : (c : Dev Cert.GuKIdeal.nD) → Buf (Elt Ideal) ((c.tc : Thread Cert.GuKIdeal.nD Cert.GuKIdeal.τ).loc Cert.GuKIdeal.main_v1_1)),
      θ_run (Cert.GuKIdeal.defs (F := Ideal)) (onTc (τ := Cert.GuKIdeal.τ) (Cert.GuKIdeal.main (F := Ideal))) ⟨m, fun _ => 0, g⟩ (fun r => ∀ c : Dev Cert.GuKIdeal.nD,
          r.2.mem ((c.tc : Thread Cert.GuKIdeal.nD Cert.GuKIdeal.τ).loc Cert.GuKIdeal.main_v1_0) = v0 c
          ∧ r.2.mem ((c.tc : Thread Cert.GuKIdeal.nD Cert.GuKIdeal.τ).loc Cert.GuKIdeal.main_v1_1) = v1 c
          ∧ r.2.mem ((c.tc : Thread Cert.GuKIdeal.nD Cert.GuKIdeal.τ).loc Cert.GuKIdeal.main_arg0) = m ((c.tc : Thread Cert.GuKIdeal.nD Cert.GuKIdeal.τ).loc Cert.GuKIdeal.main_arg0)
          ∧ r.2.mem ((c.tc : Thread Cert.GuKIdeal.nD Cert.GuKIdeal.τ).loc Cert.GuKIdeal.main_arg1) = m ((c.tc : Thread Cert.GuKIdeal.nD Cert.GuKIdeal.τ).loc Cert.GuKIdeal.main_arg1)
          ∧ r.2.mem ((c.tc : Thread Cert.GuKIdeal.nD Cert.GuKIdeal.τ).loc Cert.GuKIdeal.main_arg2) = m ((c.tc : Thread Cert.GuKIdeal.nD Cert.GuKIdeal.τ).loc Cert.GuKIdeal.main_arg2)
          ∧ r.2.mem ((c.tc : Thread Cert.GuKIdeal.nD Cert.GuKIdeal.τ).loc Cert.GuKIdeal.main_arg3) = m ((c.tc : Thread Cert.GuKIdeal.nD Cert.GuKIdeal.τ).loc Cert.GuKIdeal.main_arg3))
      ∧ θ_run (Cert.GuRIdeal.defs (F := Ideal)) (onTc (τ := Cert.GuRIdeal.τ) (Cert.GuRIdeal.main (F := Ideal))) ⟨m', fun _ => 0, g'⟩ (fun r => ∀ c : Dev Cert.GuRIdeal.nD,
          r.2.mem ((c.tc : Thread Cert.GuRIdeal.nD Cert.GuRIdeal.τ).loc Cert.GuRIdeal.main_v0_0) = v0 c
          ∧ r.2.mem ((c.tc : Thread Cert.GuRIdeal.nD Cert.GuRIdeal.τ).loc Cert.GuRIdeal.main_v0_1) = v1 c
          ∧ r.2.mem ((c.tc : Thread Cert.GuRIdeal.nD Cert.GuRIdeal.τ).loc Cert.GuRIdeal.main_arg0) = m' ((c.tc : Thread Cert.GuRIdeal.nD Cert.GuRIdeal.τ).loc Cert.GuRIdeal.main_arg0)
          ∧ r.2.mem ((c.tc : Thread Cert.GuRIdeal.nD Cert.GuRIdeal.τ).loc Cert.GuRIdeal.main_arg1) = m' ((c.tc : Thread Cert.GuRIdeal.nD Cert.GuRIdeal.τ).loc Cert.GuRIdeal.main_arg1)
          ∧ r.2.mem ((c.tc : Thread Cert.GuRIdeal.nD Cert.GuRIdeal.τ).loc Cert.GuRIdeal.main_arg2) = m' ((c.tc : Thread Cert.GuRIdeal.nD Cert.GuRIdeal.τ).loc Cert.GuRIdeal.main_arg2)
          ∧ r.2.mem ((c.tc : Thread Cert.GuRIdeal.nD Cert.GuRIdeal.τ).loc Cert.GuRIdeal.main_arg3) = m' ((c.tc : Thread Cert.GuRIdeal.nD Cert.GuRIdeal.τ).loc Cert.GuRIdeal.main_arg3))

def preserves_OprojK_OprojKIdeal : Prop :=
  True

def algebraic_OprojKIdeal_OprojRIdeal [hOprojKIdeal : Cert.OprojKIdeal.Facts] [hOprojRIdeal : Cert.OprojRIdeal.Facts] : Prop :=
  ∀ (m : (ℓ : Loc Cert.OprojKIdeal.nD Cert.OprojKIdeal.τ Cert.OprojKIdeal.sig) → Buf (Elt Ideal) ℓ) (g : Dev Cert.OprojKIdeal.nD → PrngReg)
    (m' : (ℓ : Loc Cert.OprojRIdeal.nD Cert.OprojRIdeal.τ Cert.OprojRIdeal.sig) → Buf (Elt Ideal) ℓ) (g' : Dev Cert.OprojRIdeal.nD → PrngReg), Pre_OprojKIdeal m →
    (∀ c : Dev Cert.OprojKIdeal.nD,
      m' ((c.tc : Thread Cert.OprojRIdeal.nD Cert.OprojRIdeal.τ).loc Cert.OprojRIdeal.main_arg0) = m ((c.tc : Thread Cert.OprojKIdeal.nD Cert.OprojKIdeal.τ).loc Cert.OprojKIdeal.main_arg0)
      ∧ m' ((c.tc : Thread Cert.OprojRIdeal.nD Cert.OprojRIdeal.τ).loc Cert.OprojRIdeal.main_arg1) = m ((c.tc : Thread Cert.OprojKIdeal.nD Cert.OprojKIdeal.τ).loc Cert.OprojKIdeal.main_arg1)
      ∧ m' ((c.tc : Thread Cert.OprojRIdeal.nD Cert.OprojRIdeal.τ).loc Cert.OprojRIdeal.main_arg2) = m ((c.tc : Thread Cert.OprojKIdeal.nD Cert.OprojKIdeal.τ).loc Cert.OprojKIdeal.main_arg2)
      ∧ m' ((c.tc : Thread Cert.OprojRIdeal.nD Cert.OprojRIdeal.τ).loc Cert.OprojRIdeal.main_arg3) = m ((c.tc : Thread Cert.OprojKIdeal.nD Cert.OprojKIdeal.τ).loc Cert.OprojKIdeal.main_arg3)
      ∧ m' ((c.tc : Thread Cert.OprojRIdeal.nD Cert.OprojRIdeal.τ).loc Cert.OprojRIdeal.main_arg4) = m ((c.tc : Thread Cert.OprojKIdeal.nD Cert.OprojKIdeal.τ).loc Cert.OprojKIdeal.main_arg4)
      ∧ m' ((c.tc : Thread Cert.OprojRIdeal.nD Cert.OprojRIdeal.τ).loc Cert.OprojRIdeal.main_arg5) = m ((c.tc : Thread Cert.OprojKIdeal.nD Cert.OprojKIdeal.τ).loc Cert.OprojKIdeal.main_arg5)) →
    ∃ (v0 : (c : Dev Cert.OprojKIdeal.nD) → Buf (Elt Ideal) ((c.tc : Thread Cert.OprojKIdeal.nD Cert.OprojKIdeal.τ).loc Cert.OprojKIdeal.main_v2_0)) (v1 : (c : Dev Cert.OprojKIdeal.nD) → Buf (Elt Ideal) ((c.tc : Thread Cert.OprojKIdeal.nD Cert.OprojKIdeal.τ).loc Cert.OprojKIdeal.main_v2_1)) (v2 : (c : Dev Cert.OprojKIdeal.nD) → Buf (Elt Ideal) ((c.tc : Thread Cert.OprojKIdeal.nD Cert.OprojKIdeal.τ).loc Cert.OprojKIdeal.main_v2_2)),
      θ_run (Cert.OprojKIdeal.defs (F := Ideal)) (onTc (τ := Cert.OprojKIdeal.τ) (Cert.OprojKIdeal.main (F := Ideal))) ⟨m, fun _ => 0, g⟩ (fun r => ∀ c : Dev Cert.OprojKIdeal.nD,
          r.2.mem ((c.tc : Thread Cert.OprojKIdeal.nD Cert.OprojKIdeal.τ).loc Cert.OprojKIdeal.main_v2_0) = v0 c
          ∧ r.2.mem ((c.tc : Thread Cert.OprojKIdeal.nD Cert.OprojKIdeal.τ).loc Cert.OprojKIdeal.main_v2_1) = v1 c
          ∧ r.2.mem ((c.tc : Thread Cert.OprojKIdeal.nD Cert.OprojKIdeal.τ).loc Cert.OprojKIdeal.main_v2_2) = v2 c
          ∧ r.2.mem ((c.tc : Thread Cert.OprojKIdeal.nD Cert.OprojKIdeal.τ).loc Cert.OprojKIdeal.main_arg0) = m ((c.tc : Thread Cert.OprojKIdeal.nD Cert.OprojKIdeal.τ).loc Cert.OprojKIdeal.main_arg0)
          ∧ r.2.mem ((c.tc : Thread Cert.OprojKIdeal.nD Cert.OprojKIdeal.τ).loc Cert.OprojKIdeal.main_arg1) = m ((c.tc : Thread Cert.OprojKIdeal.nD Cert.OprojKIdeal.τ).loc Cert.OprojKIdeal.main_arg1)
          ∧ r.2.mem ((c.tc : Thread Cert.OprojKIdeal.nD Cert.OprojKIdeal.τ).loc Cert.OprojKIdeal.main_arg2) = m ((c.tc : Thread Cert.OprojKIdeal.nD Cert.OprojKIdeal.τ).loc Cert.OprojKIdeal.main_arg2)
          ∧ r.2.mem ((c.tc : Thread Cert.OprojKIdeal.nD Cert.OprojKIdeal.τ).loc Cert.OprojKIdeal.main_arg3) = m ((c.tc : Thread Cert.OprojKIdeal.nD Cert.OprojKIdeal.τ).loc Cert.OprojKIdeal.main_arg3)
          ∧ r.2.mem ((c.tc : Thread Cert.OprojKIdeal.nD Cert.OprojKIdeal.τ).loc Cert.OprojKIdeal.main_arg4) = m ((c.tc : Thread Cert.OprojKIdeal.nD Cert.OprojKIdeal.τ).loc Cert.OprojKIdeal.main_arg4)
          ∧ r.2.mem ((c.tc : Thread Cert.OprojKIdeal.nD Cert.OprojKIdeal.τ).loc Cert.OprojKIdeal.main_arg5) = m ((c.tc : Thread Cert.OprojKIdeal.nD Cert.OprojKIdeal.τ).loc Cert.OprojKIdeal.main_arg5))
      ∧ θ_run (Cert.OprojRIdeal.defs (F := Ideal)) (onTc (τ := Cert.OprojRIdeal.τ) (Cert.OprojRIdeal.main (F := Ideal))) ⟨m', fun _ => 0, g'⟩ (fun r => ∀ c : Dev Cert.OprojRIdeal.nD,
          r.2.mem ((c.tc : Thread Cert.OprojRIdeal.nD Cert.OprojRIdeal.τ).loc Cert.OprojRIdeal.main_v0_0) = v0 c
          ∧ r.2.mem ((c.tc : Thread Cert.OprojRIdeal.nD Cert.OprojRIdeal.τ).loc Cert.OprojRIdeal.main_v0_1) = v1 c
          ∧ r.2.mem ((c.tc : Thread Cert.OprojRIdeal.nD Cert.OprojRIdeal.τ).loc Cert.OprojRIdeal.main_v0_2) = v2 c
          ∧ r.2.mem ((c.tc : Thread Cert.OprojRIdeal.nD Cert.OprojRIdeal.τ).loc Cert.OprojRIdeal.main_arg0) = m' ((c.tc : Thread Cert.OprojRIdeal.nD Cert.OprojRIdeal.τ).loc Cert.OprojRIdeal.main_arg0)
          ∧ r.2.mem ((c.tc : Thread Cert.OprojRIdeal.nD Cert.OprojRIdeal.τ).loc Cert.OprojRIdeal.main_arg1) = m' ((c.tc : Thread Cert.OprojRIdeal.nD Cert.OprojRIdeal.τ).loc Cert.OprojRIdeal.main_arg1)
          ∧ r.2.mem ((c.tc : Thread Cert.OprojRIdeal.nD Cert.OprojRIdeal.τ).loc Cert.OprojRIdeal.main_arg2) = m' ((c.tc : Thread Cert.OprojRIdeal.nD Cert.OprojRIdeal.τ).loc Cert.OprojRIdeal.main_arg2)
          ∧ r.2.mem ((c.tc : Thread Cert.OprojRIdeal.nD Cert.OprojRIdeal.τ).loc Cert.OprojRIdeal.main_arg3) = m' ((c.tc : Thread Cert.OprojRIdeal.nD Cert.OprojRIdeal.τ).loc Cert.OprojRIdeal.main_arg3)
          ∧ r.2.mem ((c.tc : Thread Cert.OprojRIdeal.nD Cert.OprojRIdeal.τ).loc Cert.OprojRIdeal.main_arg4) = m' ((c.tc : Thread Cert.OprojRIdeal.nD Cert.OprojRIdeal.τ).loc Cert.OprojRIdeal.main_arg4)
          ∧ r.2.mem ((c.tc : Thread Cert.OprojRIdeal.nD Cert.OprojRIdeal.τ).loc Cert.OprojRIdeal.main_arg5) = m' ((c.tc : Thread Cert.OprojRIdeal.nD Cert.OprojRIdeal.τ).loc Cert.OprojRIdeal.main_arg5))

def Claim : Prop :=
  ∃ (hDownK : Cert.DownK.Facts) (hDownKIdeal : Cert.DownKIdeal.Facts) (hDownRIdeal : Cert.DownRIdeal.Facts) (hGuK : Cert.GuK.Facts) (hGuKIdeal : Cert.GuKIdeal.Facts) (hGuRIdeal : Cert.GuRIdeal.Facts) (hOprojK : Cert.OprojK.Facts) (hOprojKIdeal : Cert.OprojKIdeal.Facts) (hOprojRIdeal : Cert.OprojRIdeal.Facts),
    quiescent_DownK (hDownK := hDownK)
    ∧ quiescent_DownKIdeal (hDownKIdeal := hDownKIdeal)
    ∧ quiescent_DownRIdeal (hDownRIdeal := hDownRIdeal)
    ∧ quiescent_GuK (hGuK := hGuK)
    ∧ quiescent_GuKIdeal (hGuKIdeal := hGuKIdeal)
    ∧ quiescent_GuRIdeal (hGuRIdeal := hGuRIdeal)
    ∧ quiescent_OprojK (hOprojK := hOprojK)
    ∧ quiescent_OprojKIdeal (hOprojKIdeal := hOprojKIdeal)
    ∧ quiescent_OprojRIdeal (hOprojRIdeal := hOprojRIdeal)
    ∧ preserves_DownK_DownKIdeal
    ∧ algebraic_DownKIdeal_DownRIdeal (hDownKIdeal := hDownKIdeal) (hDownRIdeal := hDownRIdeal)
    ∧ preserves_GuK_GuKIdeal
    ∧ algebraic_GuKIdeal_GuRIdeal (hGuKIdeal := hGuKIdeal) (hGuRIdeal := hGuRIdeal)
    ∧ preserves_OprojK_OprojKIdeal
    ∧ algebraic_OprojKIdeal_OprojRIdeal (hOprojKIdeal := hOprojKIdeal) (hOprojRIdeal := hOprojRIdeal)
-- ==== DownK.lean ====
abbrev S3x640x9472 : Shape := ⟨3, ![3, 640, 9472]⟩
abbrev S3x640 : Shape := ⟨2, ![3, 640]⟩
abbrev S9472x3584 : Shape := ⟨2, ![9472, 3584]⟩
abbrev S3584 : Shape := ⟨1, ![3584]⟩
abbrev S3x640x3584 : Shape := ⟨3, ![3, 640, 3584]⟩
abbrev S1920x9472 : Shape := ⟨2, ![1920, 9472]⟩
abbrev S1920x1 : Shape := ⟨2, ![1920, 1]⟩
abbrev S1x3584 : Shape := ⟨2, ![1, 3584]⟩
abbrev S1920x3584 : Shape := ⟨2, ![1920, 3584]⟩
abbrev S9472x512 : Shape := ⟨2, ![9472, 512]⟩
abbrev S1x512 : Shape := ⟨2, ![1, 512]⟩
abbrev S1920x512 : Shape := ⟨2, ![1920, 512]⟩

abbrev nBuf : Space → Nat
  | .hbm => 10
  | .vmem => 10
  | .smem => 0
  | _ => 0

abbrev bufTy : (tb : Table) → Fin (tcTables nBuf tb) → BufTy
  | .hbm, ⟨0, _⟩ => ⟨S3x640x9472, .fp8e4m3⟩
  | .hbm, ⟨1, _⟩ => ⟨S3x640, .f32⟩
  | .hbm, ⟨2, _⟩ => ⟨S9472x3584, .fp8e4m3⟩
  | .hbm, ⟨3, _⟩ => ⟨S3584, .f32⟩
  | .hbm, ⟨4, _⟩ => ⟨S3x640x3584, .f32⟩
  | .hbm, ⟨5, _⟩ => ⟨S1920x9472, .fp8e4m3⟩
  | .hbm, ⟨6, _⟩ => ⟨S1920x1, .f32⟩
  | .hbm, ⟨7, _⟩ => ⟨S1x3584, .f32⟩
  | .hbm, ⟨8, _⟩ => ⟨S1920x3584, .f32⟩
  | .hbm, ⟨9, _⟩ => ⟨S1920x3584, .bf16⟩
  | .local _ .vmem, ⟨0, _⟩ => ⟨S1920x9472, .fp8e4m3⟩
  | .local _ .vmem, ⟨1, _⟩ => ⟨S1920x1, .f32⟩
  | .local _ .vmem, ⟨2, _⟩ => ⟨S9472x512, .fp8e4m3⟩
  | .local _ .vmem, ⟨3, _⟩ => ⟨S9472x512, .fp8e4m3⟩
  | .local _ .vmem, ⟨4, _⟩ => ⟨S1x512, .f32⟩
  | .local _ .vmem, ⟨5, _⟩ => ⟨S1x512, .f32⟩
  | .local _ .vmem, ⟨6, _⟩ => ⟨S1920x512, .f32⟩
  | .local _ .vmem, ⟨7, _⟩ => ⟨S1920x512, .f32⟩
  | .local _ .vmem, ⟨8, _⟩ => ⟨S1920x512, .bf16⟩
  | .local _ .vmem, ⟨9, _⟩ => ⟨S1920x512, .bf16⟩
  | _, _ => ⟨S3x640x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9472x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRIdeal.lean ====
abbrev S3x640x9472 : Shape := ⟨3, ![3, 640, 9472]⟩
abbrev S3x640 : Shape := ⟨2, ![3, 640]⟩
abbrev S9472x3584 : Shape := ⟨2, ![9472, 3584]⟩
abbrev S3584 : Shape := ⟨1, ![3584]⟩
abbrev S3x640x3584 : Shape := ⟨3, ![3, 640, 3584]⟩
abbrev S1920x3584 : Shape := ⟨2, ![1920, 3584]⟩
abbrev S1920x9472 : Shape := ⟨2, ![1920, 9472]⟩
abbrev S3x640x1 : Shape := ⟨3, ![3, 640, 1]⟩
abbrev S1x1x3584 : Shape := ⟨3, ![1, 1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S3x640x9472, .fp8e4m3⟩
  | .hbm, ⟨1, _⟩ => ⟨S3x640, .f32⟩
  | .hbm, ⟨2, _⟩ => ⟨S9472x3584, .fp8e4m3⟩
  | .hbm, ⟨3, _⟩ => ⟨S3584, .f32⟩
  | .hbm, ⟨4, _⟩ => ⟨S3x640x3584, .f32⟩
  | .hbm, ⟨5, _⟩ => ⟨S1920x3584, .bf16⟩
  | .local _ .vmem, ⟨0, _⟩ => ⟨S3x640x9472, .fp8e4m3⟩
  | .local _ .vmem, ⟨1, _⟩ => ⟨S3x640, .f32⟩
  | .local _ .vmem, ⟨2, _⟩ => ⟨S9472x3584, .fp8e4m3⟩
  | .local _ .vmem, ⟨3, _⟩ => ⟨S3584, .f32⟩
  | .local _ .vmem, ⟨4, _⟩ => ⟨S3x640x3584, .f32⟩
  | .local _ .vmem, ⟨5, _⟩ => ⟨S1920x3584, .bf16⟩
  | _, _ => ⟨S3x640x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GuK.lean ====
abbrev S3x640x3584 : Shape := ⟨3, ![3, 640, 3584]⟩
abbrev S3x640 : Shape := ⟨2, ![3, 640]⟩
abbrev S3584x18944 : Shape := ⟨2, ![3584, 18944]⟩
abbrev S18944 : Shape := ⟨1, ![18944]⟩
abbrev S1x18944 : Shape := ⟨2, ![1, 18944]⟩
abbrev S3x640x9472 : Shape := ⟨3, ![3, 640, 9472]⟩
abbrev S1x640x3584 : Shape := ⟨3, ![1, 640, 3584]⟩
abbrev S3584x256 : Shape := ⟨2, ![3584, 256]⟩
abbrev S1x256 : Shape := ⟨2, ![1, 256]⟩
abbrev S1x640x9472 : Shape := ⟨3, ![1, 640, 9472]⟩
abbrev S37x640x256 : Shape := ⟨3, ![37, 640, 256]⟩
abbrev S640x128 : Shape := ⟨2, ![640, 128]⟩
abbrev S1x640 : Shape := ⟨2, ![1, 640]⟩
abbrev S1x128 : Shape := ⟨2, ![1, 128]⟩
abbrev S128x128 : Shape := ⟨2, ![128, 128]⟩
abbrev S640x3584 : Shape := ⟨2, ![640, 3584]⟩
abbrev S640x256 : Shape := ⟨2, ![640, 256]⟩
abbrev S1x640x128 : Shape := ⟨3, ![1, 640, 128]⟩
abbrev S128 : Shape := ⟨1, ![128]⟩
abbrev S128x1 : Shape := ⟨2, ![128, 1]⟩
abbrev S1x64x128 : Shape := ⟨3, ![1, 64, 128]⟩
abbrev S64x128 : Shape := ⟨2, ![64, 128]⟩

abbrev nBuf : Space → Nat
  | .hbm => 7
  | .vmem => 17
  | .smem => 0
  | _ => 0

abbrev bufTy : (tb : Table) → Fin (tcTables nBuf tb) → BufTy
  | .hbm, ⟨0, _⟩ => ⟨S3x640x3584, .fp8e4m3⟩
  | .hbm, ⟨1, _⟩ => ⟨S3x640, .f32⟩
  | .hbm, ⟨2, _⟩ => ⟨S3584x18944, .fp8e4m3⟩
  | .hbm, ⟨3, _⟩ => ⟨S18944, .f32⟩
  | .hbm, ⟨4, _⟩ => ⟨S1x18944, .f32⟩
  | .hbm, ⟨5, _⟩ => ⟨S3x640x9472, .fp8e4m3⟩
  | .hbm, ⟨6, _⟩ => ⟨S3x640, .f32⟩
  | .local _ .vmem, ⟨0, _⟩ => ⟨S1x640x3584, .fp8e4m3⟩
  | .local _ .vmem, ⟨1, _⟩ => ⟨S1x640x3584, .fp8e4m3⟩
  | .local _ .vmem, ⟨2, _⟩ => ⟨S3x640, .f32⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S3584x256, .fp8e4m3⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x640x9472, .fp8e4m3⟩
  | .local _ .vmem, ⟨12, _⟩ => ⟨S1x640x9472, .fp8e4m3⟩
  | .local _ .vmem, ⟨13, _⟩ => ⟨S3x640, .f32⟩
  | .local _ .vmem, ⟨14, _⟩ => ⟨S37x640x256, .f32⟩
  | .local _ .vmem, ⟨15, _⟩ => ⟨S640x128, .f32⟩
  | .local _ .vmem, ⟨16, _⟩ => ⟨S640x128, .f32⟩
  | _, _ => ⟨S3x640x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![3, 37], ![false, false]⟩

def k0_off1 (i : grid0.Coords) : Fin 3 → Nat :=
  let arg1 : BitVec 32 := BitVec.ofNat 32 (i 1).val
  let v28 : Index := Scalar.indexCast arg1
  let c0_19 : Index := 0#32
  let c0_20 : Index := 0#32
  ![v28.toNat, 0, 0]
def k0_off2 (i : grid0.Coords) : Fin 3 → Nat :=
  let arg1 : BitVec 32 := BitVec.ofNat 32 (i 1).val
  let v55 : Index := Scalar.indexCast arg1
  let c0_32 : Index := 0#32
  let c128_33 : Index := 128#32
  ![v55.toNat, 0, 128]
def k0_cond2 (i : grid0.Coords) : BitVec 1 :=
  let arg1 : BitVec 32 := BitVec.ofNat 32 (i 1).val
  let c36_i32 : BitVec 32 := 36#32
  let v65 : BitVec 1 := Scalar.cmpi .eq arg1 c36_i32
  let v66 : BitVec 32 := Scalar.extui v65
  let c0_i32_38 : BitVec 32 := 0#32
  let v67 : BitVec 1 := Scalar.cmpi .ne v66 c0_i32_38
  v67

@[reducible] def k0_t1_loop : Scf.Loop 32 :=
  let c0_i32_90 : BitVec 32 := 0#32
  let c10_i32 : BitVec 32 := 10#32
  let v163 : BitVec 32 := Scalar.addi c0_i32_90 c10_i32
  let c1_i32_91 : BitVec 32 := 1#32
  ⟨c0_i32_90, v163, c1_i32_91⟩
def k0_mult1 (k0_t1 : Fin k0_t1_loop.trips) : BitVec 32 :=
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  v200
def k0_off3 (k0_t1 : Fin k0_t1_loop.trips) : Fin 3 → Nat :=
  let c0_237 : Index := 0#32
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  let v201 : BitVec 32 := v200
  let v202 : Index := Scalar.indexCast v201
  let c0_238 : Index := 0#32
  ![0, v202.toNat, 0]
def k0_off4 (k0_t1 : Fin k0_t1_loop.trips) : Fin 2 → Nat :=
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  let v201 : BitVec 32 := v200
  let v205 : Index := Scalar.indexCast v201
  let c0_239 : Index := 0#32
  ![v205.toNat, 0]
def k0_off5 (k0_t1 : Fin k0_t1_loop.trips) : Fin 3 → Nat :=
  let c0_242 : Index := 0#32
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  let v201 : BitVec 32 := v200
  let v213 : Index := Scalar.indexCast v201
  let c0_243 : Index := 0#32
  ![0, v213.toNat, 0]
def k0_off6 (k0_t1 : Fin k0_t1_loop.trips) : Fin 3 → Nat :=
  let c0_244 : Index := 0#32
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  let v201 : BitVec 32 := v200
  let v217 : Index := Scalar.indexCast v201
  let c128_245 : Index := 128#32
  ![0, v217.toNat, 128]
def k0_off7 (k0_t1 : Fin k0_t1_loop.trips) : Fin 3 → Nat :=
  let c0_249 : Index := 0#32
  let c0_i32_90 : BitVec 32 := 0#32
  let c1_i32_91 : BitVec 32 := 1#32
  let arg13 : BitVec 32 := Scf.iv c0_i32_90 c1_i32_91 k0_t1
  let c64_i32 : BitVec 32 := 64#32
  let v200 : BitVec 32 := Scalar.muli arg13 c64_i32
  let v201 : BitVec 32 := v200
  let v228 : Index := Scalar.indexCast v201
  let c128_250 : Index := 128#32
  ![0, v228.toNat, 128]
@[reducible] def k0_t2_loop : Scf.Loop 32 :=
  let c0_i32_93 : BitVec 32 := 0#32
  let c10_i32_94 : BitVec 32 := 10#32
  let v164 : BitVec 32 := Scalar.addi c0_i32_93 c10_i32_94
  let c1_i32_95 : BitVec 32 := 1#32
  ⟨c0_i32_93, v164, c1_i32_95⟩
def k0_mult2 (k0_t2 : Fin k0_t2_loop.trips) : BitVec 32 :=
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  v200
def k0_off8 (k0_t2 : Fin k0_t2_loop.trips) : Fin 3 → Nat :=
  let c1 : Index := 1#32
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  let v201 : BitVec 32 := v200
  let v202 : Index := Scalar.indexCast v201
  let c0_237 : Index := 0#32
  ![1, v202.toNat, 0]
def k0_off9 (k0_t2 : Fin k0_t2_loop.trips) : Fin 2 → Nat :=
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off10 (k0_t2 : Fin k0_t2_loop.trips) : Fin 3 → Nat :=
  let c0_241 : Index := 0#32
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  let v201 : BitVec 32 := v200
  let v213 : Index := Scalar.indexCast v201
  let c256_242 : Index := 256#32
  ![0, v213.toNat, 256]
def k0_off11 (k0_t2 : Fin k0_t2_loop.trips) : Fin 3 → Nat :=
  let c1_243 : Index := 1#32
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  let v201 : BitVec 32 := v200
  let v217 : Index := Scalar.indexCast v201
  let c128_244 : Index := 128#32
  ![1, v217.toNat, 128]
def k0_off12 (k0_t2 : Fin k0_t2_loop.trips) : Fin 3 → Nat :=
  let c0_248 : Index := 0#32
  let c0_i32_93 : BitVec 32 := 0#32
  let c1_i32_95 : BitVec 32 := 1#32
  let arg13 : BitVec 32 := Scf.iv c0_i32_93 c1_i32_95 k0_t2
  let c64_i32 : BitVec 32 := 64#32
  let v200 : BitVec 32 := Scalar.muli arg13 c64_i32
  let v201 : BitVec 32 := v200
  let v228 : Index := Scalar.indexCast v201
  let c384_249 : Index := 384#32
  ![0, v228.toNat, 384]
@[reducible] def k0_t3_loop : Scf.Loop 32 :=
  let c0_i32_97 : BitVec 32 := 0#32
  let c10_i32_98 : BitVec 32 := 10#32
  let v165 : BitVec 32 := Scalar.addi c0_i32_97 c10_i32_98
  let c1_i32_99 : BitVec 32 := 1#32
  ⟨c0_i32_97, v165, c1_i32_99⟩
def k0_mult3 (k0_t3 : Fin k0_t3_loop.trips) : BitVec 32 :=
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  v200
def k0_off13 (k0_t3 : Fin k0_t3_loop.trips) : Fin 3 → Nat :=
  let c2 : Index := 2#32
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  let v201 : BitVec 32 := v200
  let v202 : Index := Scalar.indexCast v201
  let c0_237 : Index := 0#32
  ![2, v202.toNat, 0]
def k0_off14 (k0_t3 : Fin k0_t3_loop.trips) : Fin 2 → Nat :=
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off15 (k0_t3 : Fin k0_t3_loop.trips) : Fin 3 → Nat :=
  let c0_241 : Index := 0#32
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  let v201 : BitVec 32 := v200
  let v213 : Index := Scalar.indexCast v201
  let c512_242 : Index := 512#32
  ![0, v213.toNat, 512]
def k0_off16 (k0_t3 : Fin k0_t3_loop.trips) : Fin 3 → Nat :=
  let c2_243 : Index := 2#32
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  let v201 : BitVec 32 := v200
  let v217 : Index := Scalar.indexCast v201
  let c128_244 : Index := 128#32
  ![2, v217.toNat, 128]
def k0_off17 (k0_t3 : Fin k0_t3_loop.trips) : Fin 3 → Nat :=
  let c0_248 : Index := 0#32
  let c0_i32_97 : BitVec 32 := 0#32
  let c1_i32_99 : BitVec 32 := 1#32
  let arg13 : BitVec 32 := Scf.iv c0_i32_97 c1_i32_99 k0_t3
  let c64_i32 : BitVec 32 := 64#32
  let v200 : BitVec 32 := Scalar.muli arg13 c64_i32
  let v201 : BitVec 32 := v200
  let v228 : Index := Scalar.indexCast v201
  let c640 : Index := 640#32
  ![0, v228.toNat, 640]
@[reducible] def k0_t4_loop : Scf.Loop 32 :=
  let c0_i32_101 : BitVec 32 := 0#32
  let c10_i32_102 : BitVec 32 := 10#32
  let v166 : BitVec 32 := Scalar.addi c0_i32_101 c10_i32_102
  let c1_i32_103 : BitVec 32 := 1#32
  ⟨c0_i32_101, v166, c1_i32_103⟩
def k0_mult4 (k0_t4 : Fin k0_t4_loop.trips) : BitVec 32 :=
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  v200
def k0_off18 (k0_t4 : Fin k0_t4_loop.trips) : Fin 3 → Nat :=
  let c3 : Index := 3#32
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  let v201 : BitVec 32 := v200
  let v202 : Index := Scalar.indexCast v201
  let c0_237 : Index := 0#32
  ![3, v202.toNat, 0]
def k0_off19 (k0_t4 : Fin k0_t4_loop.trips) : Fin 2 → Nat :=
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off20 (k0_t4 : Fin k0_t4_loop.trips) : Fin 3 → Nat :=
  let c0_241 : Index := 0#32
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  let v201 : BitVec 32 := v200
  let v213 : Index := Scalar.indexCast v201
  let c768 : Index := 768#32
  ![0, v213.toNat, 768]
def k0_off21 (k0_t4 : Fin k0_t4_loop.trips) : Fin 3 → Nat :=
  let c3_242 : Index := 3#32
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  let v201 : BitVec 32 := v200
  let v217 : Index := Scalar.indexCast v201
  let c128_243 : Index := 128#32
  ![3, v217.toNat, 128]
def k0_off22 (k0_t4 : Fin k0_t4_loop.trips) : Fin 3 → Nat :=
  let c0_247 : Index := 0#32
  let c0_i32_101 : BitVec 32 := 0#32
  let c1_i32_103 : BitVec 32 := 1#32
  let arg13 : BitVec 32 := Scf.iv c0_i32_101 c1_i32_103 k0_t4
  let c64_i32 : BitVec 32 := 64#32
  let v200 : BitVec 32 := Scalar.muli arg13 c64_i32
  let v201 : BitVec 32 := v200
  let v228 : Index := Scalar.indexCast v201
  let c896 : Index := 896#32
  ![0, v228.toNat, 896]
@[reducible] def k0_t5_loop : Scf.Loop 32 :=
  let c0_i32_105 : BitVec 32 := 0#32
  let c10_i32_106 : BitVec 32 := 10#32
  let v167 : BitVec 32 := Scalar.addi c0_i32_105 c10_i32_106
  let c1_i32_107 : BitVec 32 := 1#32
  ⟨c0_i32_105, v167, c1_i32_107⟩
def k0_mult5 (k0_t5 : Fin k0_t5_loop.trips) : BitVec 32 :=
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  v200
def k0_off23 (k0_t5 : Fin k0_t5_loop.trips) : Fin 3 → Nat :=
  let c4 : Index := 4#32
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  let v201 : BitVec 32 := v200
  let v202 : Index := Scalar.indexCast v201
  let c0_237 : Index := 0#32
  ![4, v202.toNat, 0]
def k0_off24 (k0_t5 : Fin k0_t5_loop.trips) : Fin 2 → Nat :=
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off25 (k0_t5 : Fin k0_t5_loop.trips) : Fin 3 → Nat :=
  let c0_241 : Index := 0#32
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  let v201 : BitVec 32 := v200
  let v213 : Index := Scalar.indexCast v201
  let c1024 : Index := 1024#32
  ![0, v213.toNat, 1024]
def k0_off26 (k0_t5 : Fin k0_t5_loop.trips) : Fin 3 → Nat :=
  let c4_242 : Index := 4#32
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  let v201 : BitVec 32 := v200
  let v217 : Index := Scalar.indexCast v201
  let c128_243 : Index := 128#32
  ![4, v217.toNat, 128]
def k0_off27 (k0_t5 : Fin k0_t5_loop.trips) : Fin 3 → Nat :=
  let c0_247 : Index := 0#32
  let c0_i32_105 : BitVec 32 := 0#32
  let c1_i32_107 : BitVec 32 := 1#32
  let arg13 : BitVec 32 := Scf.iv c0_i32_105 c1_i32_107 k0_t5
  let c64_i32 : BitVec 32 := 64#32
  let v200 : BitVec 32 := Scalar.muli arg13 c64_i32
  let v201 : BitVec 32 := v200
  let v228 : Index := Scalar.indexCast v201
  let c1152 : Index := 1152#32
  ![0, v228.toNat, 1152]
@[reducible] def k0_t6_loop : Scf.Loop 32 :=
  let c0_i32_109 : BitVec 32 := 0#32
  let c10_i32_110 : BitVec 32 := 10#32
  let v168 : BitVec 32 := Scalar.addi c0_i32_109 c10_i32_110
  let c1_i32_111 : BitVec 32 := 1#32
  ⟨c0_i32_109, v168, c1_i32_111⟩
def k0_mult6 (k0_t6 : Fin k0_t6_loop.trips) : BitVec 32 :=
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  v200
def k0_off28 (k0_t6 : Fin k0_t6_loop.trips) : Fin 3 → Nat :=
  let c5 : Index := 5#32
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  let v201 : BitVec 32 := v200
  let v202 : Index := Scalar.indexCast v201
  let c0_237 : Index := 0#32
  ![5, v202.toNat, 0]
def k0_off29 (k0_t6 : Fin k0_t6_loop.trips) : Fin 2 → Nat :=
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off30 (k0_t6 : Fin k0_t6_loop.trips) : Fin 3 → Nat :=
  let c0_241 : Index := 0#32
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  let v201 : BitVec 32 := v200
  let v213 : Index := Scalar.indexCast v201
  let c1280 : Index := 1280#32
  ![0, v213.toNat, 1280]
def k0_off31 (k0_t6 : Fin k0_t6_loop.trips) : Fin 3 → Nat :=
  let c5_242 : Index := 5#32
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  let v201 : BitVec 32 := v200
  let v217 : Index := Scalar.indexCast v201
  let c128_243 : Index := 128#32
  ![5, v217.toNat, 128]
def k0_off32 (k0_t6 : Fin k0_t6_loop.trips) : Fin 3 → Nat :=
  let c0_247 : Index := 0#32
  let c0_i32_109 : BitVec 32 := 0#32
  let c1_i32_111 : BitVec 32 := 1#32
  let arg13 : BitVec 32 := Scf.iv c0_i32_109 c1_i32_111 k0_t6
  let c64_i32 : BitVec 32 := 64#32
  let v200 : BitVec 32 := Scalar.muli arg13 c64_i32
  let v201 : BitVec 32 := v200
  let v228 : Index := Scalar.indexCast v201
  let c1408 : Index := 1408#32
  ![0, v228.toNat, 1408]
@[reducible] def k0_t7_loop : Scf.Loop 32 :=
  let c0_i32_113 : BitVec 32 := 0#32
  let c10_i32_114 : BitVec 32 := 10#32
  let v169 : BitVec 32 := Scalar.addi c0_i32_113 c10_i32_114
  let c1_i32_115 : BitVec 32 := 1#32
  ⟨c0_i32_113, v169, c1_i32_115⟩
def k0_mult7 (k0_t7 : Fin k0_t7_loop.trips) : BitVec 32 :=
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  v200
def k0_off33 (k0_t7 : Fin k0_t7_loop.trips) : Fin 3 → Nat :=
  let c6 : Index := 6#32
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  let v201 : BitVec 32 := v200
  let v202 : Index := Scalar.indexCast v201
  let c0_237 : Index := 0#32
  ![6, v202.toNat, 0]
def k0_off34 (k0_t7 : Fin k0_t7_loop.trips) : Fin 2 → Nat :=
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off35 (k0_t7 : Fin k0_t7_loop.trips) : Fin 3 → Nat :=
  let c0_241 : Index := 0#32
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  let v201 : BitVec 32 := v200
  let v213 : Index := Scalar.indexCast v201
  let c1536 : Index := 1536#32
  ![0, v213.toNat, 1536]
def k0_off36 (k0_t7 : Fin k0_t7_loop.trips) : Fin 3 → Nat :=
  let c6_242 : Index := 6#32
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  let v201 : BitVec 32 := v200
  let v217 : Index := Scalar.indexCast v201
  let c128_243 : Index := 128#32
  ![6, v217.toNat, 128]
def k0_off37 (k0_t7 : Fin k0_t7_loop.trips) : Fin 3 → Nat :=
  let c0_247 : Index := 0#32
  let c0_i32_113 : BitVec 32 := 0#32
  let c1_i32_115 : BitVec 32 := 1#32
  let arg13 : BitVec 32 := Scf.iv c0_i32_113 c1_i32_115 k0_t7
  let c64_i32 : BitVec 32 := 64#32
  let v200 : BitVec 32 := Scalar.muli arg13 c64_i32
  let v201 : BitVec 32 := v200
  let v228 : Index := Scalar.indexCast v201
  let c1664 : Index := 1664#32
  ![0, v228.toNat, 1664]
@[reducible] def k0_t8_loop : Scf.Loop 32 :=
  let c0_i32_117 : BitVec 32 := 0#32
  let c10_i32_118 : BitVec 32 := 10#32
  let v170 : BitVec 32 := Scalar.addi c0_i32_117 c10_i32_118
  let c1_i32_119 : BitVec 32 := 1#32
  ⟨c0_i32_117, v170, c1_i32_119⟩
def k0_mult8 (k0_t8 : Fin k0_t8_loop.trips) : BitVec 32 :=
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  v200
def k0_off38 (k0_t8 : Fin k0_t8_loop.trips) : Fin 3 → Nat :=
  let c7 : Index := 7#32
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  let v201 : BitVec 32 := v200
  let v202 : Index := Scalar.indexCast v201
  let c0_237 : Index := 0#32
  ![7, v202.toNat, 0]
def k0_off39 (k0_t8 : Fin k0_t8_loop.trips) : Fin 2 → Nat :=
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off40 (k0_t8 : Fin k0_t8_loop.trips) : Fin 3 → Nat :=
  let c0_241 : Index := 0#32
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  let v201 : BitVec 32 := v200
  let v213 : Index := Scalar.indexCast v201
  let c1792 : Index := 1792#32
  ![0, v213.toNat, 1792]
def k0_off41 (k0_t8 : Fin k0_t8_loop.trips) : Fin 3 → Nat :=
  let c7_242 : Index := 7#32
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  let v201 : BitVec 32 := v200
  let v217 : Index := Scalar.indexCast v201
  let c128_243 : Index := 128#32
  ![7, v217.toNat, 128]
def k0_off42 (k0_t8 : Fin k0_t8_loop.trips) : Fin 3 → Nat :=
  let c0_247 : Index := 0#32
  let c0_i32_117 : BitVec 32 := 0#32
  let c1_i32_119 : BitVec 32 := 1#32
  let arg13 : BitVec 32 := Scf.iv c0_i32_117 c1_i32_119 k0_t8
  let c64_i32 : BitVec 32 := 64#32
  let v200 : BitVec 32 := Scalar.muli arg13 c64_i32
  let v201 : BitVec 32 := v200
  let v228 : Index := Scalar.indexCast v201
  let c1920 : Index := 1920#32
  ![0, v228.toNat, 1920]
@[reducible] def k0_t9_loop : Scf.Loop 32 :=
  let c0_i32_121 : BitVec 32 := 0#32
  let c10_i32_122 : BitVec 32 := 10#32
  let v171 : BitVec 32 := Scalar.addi c0_i32_121 c10_i32_122
  let c1_i32_123 : BitVec 32 := 1#32
  ⟨c0_i32_121, v171, c1_i32_123⟩
def k0_mult9 (k0_t9 : Fin k0_t9_loop.trips) : BitVec 32 :=
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  v200
def k0_off43 (k0_t9 : Fin k0_t9_loop.trips) : Fin 3 → Nat :=
  let c8 : Index := 8#32
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  let v201 : BitVec 32 := v200
  let v202 : Index := Scalar.indexCast v201
  let c0_237 : Index := 0#32
  ![8, v202.toNat, 0]
def k0_off44 (k0_t9 : Fin k0_t9_loop.trips) : Fin 2 → Nat :=
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off45 (k0_t9 : Fin k0_t9_loop.trips) : Fin 3 → Nat :=
  let c0_241 : Index := 0#32
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  let v201 : BitVec 32 := v200
  let v213 : Index := Scalar.indexCast v201
  let c2048 : Index := 2048#32
  ![0, v213.toNat, 2048]
def k0_off46 (k0_t9 : Fin k0_t9_loop.trips) : Fin 3 → Nat :=
  let c8_242 : Index := 8#32
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  let v201 : BitVec 32 := v200
  let v217 : Index := Scalar.indexCast v201
  let c128_243 : Index := 128#32
  ![8, v217.toNat, 128]
def k0_off47 (k0_t9 : Fin k0_t9_loop.trips) : Fin 3 → Nat :=
  let c0_247 : Index := 0#32
  let c0_i32_121 : BitVec 32 := 0#32
  let c1_i32_123 : BitVec 32 := 1#32
  let arg13 : BitVec 32 := Scf.iv c0_i32_121 c1_i32_123 k0_t9
  let c64_i32 : BitVec 32 := 64#32
  let v200 : BitVec 32 := Scalar.muli arg13 c64_i32
  let v201 : BitVec 32 := v200
  let v228 : Index := Scalar.indexCast v201
  let c2176 : Index := 2176#32
  ![0, v228.toNat, 2176]
@[reducible] def k0_t10_loop : Scf.Loop 32 :=
  let c0_i32_125 : BitVec 32 := 0#32
  let c10_i32_126 : BitVec 32 := 10#32
  let v172 : BitVec 32 := Scalar.addi c0_i32_125 c10_i32_126
  let c1_i32_127 : BitVec 32 := 1#32
  ⟨c0_i32_125, v172, c1_i32_127⟩
def k0_mult10 (k0_t10 : Fin k0_t10_loop.trips) : BitVec 32 :=
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  v200
def k0_off48 (k0_t10 : Fin k0_t10_loop.trips) : Fin 3 → Nat :=
  let c9 : Index := 9#32
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  let v201 : BitVec 32 := v200
  let v202 : Index := Scalar.indexCast v201
  let c0_237 : Index := 0#32
  ![9, v202.toNat, 0]
def k0_off49 (k0_t10 : Fin k0_t10_loop.trips) : Fin 2 → Nat :=
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off50 (k0_t10 : Fin k0_t10_loop.trips) : Fin 3 → Nat :=
  let c0_241 : Index := 0#32
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  let v201 : BitVec 32 := v200
  let v213 : Index := Scalar.indexCast v201
  let c2304 : Index := 2304#32
  ![0, v213.toNat, 2304]
def k0_off51 (k0_t10 : Fin k0_t10_loop.trips) : Fin 3 → Nat :=
  let c9_242 : Index := 9#32
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  let v201 : BitVec 32 := v200
  let v217 : Index := Scalar.indexCast v201
  let c128_243 : Index := 128#32
  ![9, v217.toNat, 128]
def k0_off52 (k0_t10 : Fin k0_t10_loop.trips) : Fin 3 → Nat :=
  let c0_247 : Index := 0#32
  let c0_i32_125 : BitVec 32 := 0#32
  let c1_i32_127 : BitVec 32 := 1#32
  let arg13 : BitVec 32 := Scf.iv c0_i32_125 c1_i32_127 k0_t10
  let c64_i32 : BitVec 32 := 64#32
  let v200 : BitVec 32 := Scalar.muli arg13 c64_i32
  let v201 : BitVec 32 := v200
  let v228 : Index := Scalar.indexCast v201
  let c2432 : Index := 2432#32
  ![0, v228.toNat, 2432]
@[reducible] def k0_t11_loop : Scf.Loop 32 :=
  let c0_i32_129 : BitVec 32 := 0#32
  let c10_i32_130 : BitVec 32 := 10#32
  let v173 : BitVec 32 := Scalar.addi c0_i32_129 c10_i32_130
  let c1_i32_131 : BitVec 32 := 1#32
  ⟨c0_i32_129, v173, c1_i32_131⟩
def k0_mult11 (k0_t11 : Fin k0_t11_loop.trips) : BitVec 32 :=
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  v200
def k0_off53 (k0_t11 : Fin k0_t11_loop.trips) : Fin 3 → Nat :=
  let c10 : Index := 10#32
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  let v201 : BitVec 32 := v200
  let v202 : Index := Scalar.indexCast v201
  let c0_237 : Index := 0#32
  ![10, v202.toNat, 0]
def k0_off54 (k0_t11 : Fin k0_t11_loop.trips) : Fin 2 → Nat :=
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off55 (k0_t11 : Fin k0_t11_loop.trips) : Fin 3 → Nat :=
  let c0_241 : Index := 0#32
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  let v201 : BitVec 32 := v200
  let v213 : Index := Scalar.indexCast v201
  let c2560 : Index := 2560#32
  ![0, v213.toNat, 2560]
def k0_off56 (k0_t11 : Fin k0_t11_loop.trips) : Fin 3 → Nat :=
  let c10_242 : Index := 10#32
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  let v201 : BitVec 32 := v200
  let v217 : Index := Scalar.indexCast v201
  let c128_243 : Index := 128#32
  ![10, v217.toNat, 128]
def k0_off57 (k0_t11 : Fin k0_t11_loop.trips) : Fin 3 → Nat :=
  let c0_247 : Index := 0#32
  let c0_i32_129 : BitVec 32 := 0#32
  let c1_i32_131 : BitVec 32 := 1#32
  let arg13 : BitVec 32 := Scf.iv c0_i32_129 c1_i32_131 k0_t11
  let c64_i32 : BitVec 32 := 64#32
  let v200 : BitVec 32 := Scalar.muli arg13 c64_i32
  let v201 : BitVec 32 := v200
  let v228 : Index := Scalar.indexCast v201
  let c2688 : Index := 2688#32
  ![0, v228.toNat, 2688]
@[reducible] def k0_t12_loop : Scf.Loop 32 :=
  let c0_i32_133 : BitVec 32 := 0#32
  let c10_i32_134 : BitVec 32 := 10#32
  let v174 : BitVec 32 := Scalar.addi c0_i32_133 c10_i32_134
  let c1_i32_135 : BitVec 32 := 1#32
  ⟨c0_i32_133, v174, c1_i32_135⟩
def k0_mult12 (k0_t12 : Fin k0_t12_loop.trips) : BitVec 32 :=
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  v200
def k0_off58 (k0_t12 : Fin k0_t12_loop.trips) : Fin 3 → Nat :=
  let c11 : Index := 11#32
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  let v201 : BitVec 32 := v200
  let v202 : Index := Scalar.indexCast v201
  let c0_237 : Index := 0#32
  ![11, v202.toNat, 0]
def k0_off59 (k0_t12 : Fin k0_t12_loop.trips) : Fin 2 → Nat :=
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off60 (k0_t12 : Fin k0_t12_loop.trips) : Fin 3 → Nat :=
  let c0_241 : Index := 0#32
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  let v201 : BitVec 32 := v200
  let v213 : Index := Scalar.indexCast v201
  let c2816 : Index := 2816#32
  ![0, v213.toNat, 2816]
def k0_off61 (k0_t12 : Fin k0_t12_loop.trips) : Fin 3 → Nat :=
  let c11_242 : Index := 11#32
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  let v201 : BitVec 32 := v200
  let v217 : Index := Scalar.indexCast v201
  let c128_243 : Index := 128#32
  ![11, v217.toNat, 128]
def k0_off62 (k0_t12 : Fin k0_t12_loop.trips) : Fin 3 → Nat :=
  let c0_247 : Index := 0#32
  let c0_i32_133 : BitVec 32 := 0#32
  let c1_i32_135 : BitVec 32 := 1#32
  let arg13 : BitVec 32 := Scf.iv c0_i32_133 c1_i32_135 k0_t12
  let c64_i32 : BitVec 32 := 64#32
  let v200 : BitVec 32 := Scalar.muli arg13 c64_i32
  let v201 : BitVec 32 := v200
  let v228 : Index := Scalar.indexCast v201
  let c2944 : Index := 2944#32
  ![0, v228.toNat, 2944]
@[reducible] def k0_t13_loop : Scf.Loop 32 :=
  let c0_i32_137 : BitVec 32 := 0#32
  let c10_i32_138 : BitVec 32 := 10#32
  let v175 : BitVec 32 := Scalar.addi c0_i32_137 c10_i32_138
  let c1_i32_139 : BitVec 32 := 1#32
  ⟨c0_i32_137, v175, c1_i32_139⟩
def k0_mult13 (k0_t13 : Fin k0_t13_loop.trips) : BitVec 32 :=
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  v200
def k0_off63 (k0_t13 : Fin k0_t13_loop.trips) : Fin 3 → Nat :=
  let c12 : Index := 12#32
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  let v201 : BitVec 32 := v200
  let v202 : Index := Scalar.indexCast v201
  let c0_237 : Index := 0#32
  ![12, v202.toNat, 0]
def k0_off64 (k0_t13 : Fin k0_t13_loop.trips) : Fin 2 → Nat :=
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off65 (k0_t13 : Fin k0_t13_loop.trips) : Fin 3 → Nat :=
  let c0_241 : Index := 0#32
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  let v201 : BitVec 32 := v200
  let v213 : Index := Scalar.indexCast v201
  let c3072 : Index := 3072#32
  ![0, v213.toNat, 3072]
def k0_off66 (k0_t13 : Fin k0_t13_loop.trips) : Fin 3 → Nat :=
  let c12_242 : Index := 12#32
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  let v201 : BitVec 32 := v200
  let v217 : Index := Scalar.indexCast v201
  let c128_243 : Index := 128#32
  ![12, v217.toNat, 128]
def k0_off67 (k0_t13 : Fin k0_t13_loop.trips) : Fin 3 → Nat :=
  let c0_247 : Index := 0#32
  let c0_i32_137 : BitVec 32 := 0#32
  let c1_i32_139 : BitVec 32 := 1#32
  let arg13 : BitVec 32 := Scf.iv c0_i32_137 c1_i32_139 k0_t13
  let c64_i32 : BitVec 32 := 64#32
  let v200 : BitVec 32 := Scalar.muli arg13 c64_i32
  let v201 : BitVec 32 := v200
  let v228 : Index := Scalar.indexCast v201
  let c3200 : Index := 3200#32
  ![0, v228.toNat, 3200]
@[reducible] def k0_t14_loop : Scf.Loop 32 :=
  let c0_i32_141 : BitVec 32 := 0#32
  let c10_i32_142 : BitVec 32 := 10#32
  let v176 : BitVec 32 := Scalar.addi c0_i32_141 c10_i32_142
  let c1_i32_143 : BitVec 32 := 1#32
  ⟨c0_i32_141, v176, c1_i32_143⟩
def k0_mult14 (k0_t14 : Fin k0_t14_loop.trips) : BitVec 32 :=
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  v200
def k0_off68 (k0_t14 : Fin k0_t14_loop.trips) : Fin 3 → Nat :=
  let c13 : Index := 13#32
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  let v201 : BitVec 32 := v200
  let v202 : Index := Scalar.indexCast v201
  let c0_237 : Index := 0#32
  ![13, v202.toNat, 0]
def k0_off69 (k0_t14 : Fin k0_t14_loop.trips) : Fin 2 → Nat :=
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off70 (k0_t14 : Fin k0_t14_loop.trips) : Fin 3 → Nat :=
  let c0_241 : Index := 0#32
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  let v201 : BitVec 32 := v200
  let v213 : Index := Scalar.indexCast v201
  let c3328 : Index := 3328#32
  ![0, v213.toNat, 3328]
def k0_off71 (k0_t14 : Fin k0_t14_loop.trips) : Fin 3 → Nat :=
  let c13_242 : Index := 13#32
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  let v201 : BitVec 32 := v200
  let v217 : Index := Scalar.indexCast v201
  let c128_243 : Index := 128#32
  ![13, v217.toNat, 128]
def k0_off72 (k0_t14 : Fin k0_t14_loop.trips) : Fin 3 → Nat :=
  let c0_247 : Index := 0#32
  let c0_i32_141 : BitVec 32 := 0#32
  let c1_i32_143 : BitVec 32 := 1#32
  let arg13 : BitVec 32 := Scf.iv c0_i32_141 c1_i32_143 k0_t14
  let c64_i32 : BitVec 32 := 64#32
  let v200 : BitVec 32 := Scalar.muli arg13 c64_i32
  let v201 : BitVec 32 := v200
  let v228 : Index := Scalar.indexCast v201
  let c3456 : Index := 3456#32
  ![0, v228.toNat, 3456]
@[reducible] def k0_t15_loop : Scf.Loop 32 :=
  let c0_i32_145 : BitVec 32 := 0#32
  let c10_i32_146 : BitVec 32 := 10#32
  let v177 : BitVec 32 := Scalar.addi c0_i32_145 c10_i32_146
  let c1_i32_147 : BitVec 32 := 1#32
  ⟨c0_i32_145, v177, c1_i32_147⟩
def k0_mult15 (k0_t15 : Fin k0_t15_loop.trips) : BitVec 32 :=
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  v200
def k0_off73 (k0_t15 : Fin k0_t15_loop.trips) : Fin 3 → Nat :=
  let c14 : Index := 14#32
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  let v201 : BitVec 32 := v200
  let v202 : Index := Scalar.indexCast v201
  let c0_237 : Index := 0#32
  ![14, v202.toNat, 0]
def k0_off74 (k0_t15 : Fin k0_t15_loop.trips) : Fin 2 → Nat :=
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off75 (k0_t15 : Fin k0_t15_loop.trips) : Fin 3 → Nat :=
  let c0_241 : Index := 0#32
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  let v201 : BitVec 32 := v200
  let v213 : Index := Scalar.indexCast v201
  let c3584 : Index := 3584#32
  ![0, v213.toNat, 3584]
def k0_off76 (k0_t15 : Fin k0_t15_loop.trips) : Fin 3 → Nat :=
  let c14_242 : Index := 14#32
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  let v201 : BitVec 32 := v200
  let v217 : Index := Scalar.indexCast v201
  let c128_243 : Index := 128#32
  ![14, v217.toNat, 128]
def k0_off77 (k0_t15 : Fin k0_t15_loop.trips) : Fin 3 → Nat :=
  let c0_247 : Index := 0#32
  let c0_i32_145 : BitVec 32 := 0#32
  let c1_i32_147 : BitVec 32 := 1#32
  let arg13 : BitVec 32 := Scf.iv c0_i32_145 c1_i32_147 k0_t15
  let c64_i32 : BitVec 32 := 64#32
  let v200 : BitVec 32 := Scalar.muli arg13 c64_i32
  let v201 : BitVec 32 := v200
  let v228 : Index := Scalar.indexCast v201
  let c3712 : Index := 3712#32
  ![0, v228.toNat, 3712]
@[reducible] def k0_t16_loop : Scf.Loop 32 :=
  let c0_i32_149 : BitVec 32 := 0#32
  let c10_i32_150 : BitVec 32 := 10#32
  let v178 : BitVec 32 := Scalar.addi c0_i32_149 c10_i32_150
  let c1_i32_151 : BitVec 32 := 1#32
  ⟨c0_i32_149, v178, c1_i32_151⟩
def k0_mult16 (k0_t16 : Fin k0_t16_loop.trips) : BitVec 32 :=
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  v200
def k0_off78 (k0_t16 : Fin k0_t16_loop.trips) : Fin 3 → Nat :=
  let c15 : Index := 15#32
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  let v201 : BitVec 32 := v200
  let v202 : Index := Scalar.indexCast v201
  let c0_237 : Index := 0#32
  ![15, v202.toNat, 0]
def k0_off79 (k0_t16 : Fin k0_t16_loop.trips) : Fin 2 → Nat :=
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off80 (k0_t16 : Fin k0_t16_loop.trips) : Fin 3 → Nat :=
  let c0_241 : Index := 0#32
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  let v201 : BitVec 32 := v200
  let v213 : Index := Scalar.indexCast v201
  let c3840 : Index := 3840#32
  ![0, v213.toNat, 3840]
def k0_off81 (k0_t16 : Fin k0_t16_loop.trips) : Fin 3 → Nat :=
  let c15_242 : Index := 15#32
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  let v201 : BitVec 32 := v200
  let v217 : Index := Scalar.indexCast v201
  let c128_243 : Index := 128#32
  ![15, v217.toNat, 128]
def k0_off82 (k0_t16 : Fin k0_t16_loop.trips) : Fin 3 → Nat :=
  let c0_247 : Index := 0#32
  let c0_i32_149 : BitVec 32 := 0#32
  let c1_i32_151 : BitVec 32 := 1#32
  let arg13 : BitVec 32 := Scf.iv c0_i32_149 c1_i32_151 k0_t16
  let c64_i32 : BitVec 32 := 64#32
  let v200 : BitVec 32 := Scalar.muli arg13 c64_i32
  let v201 : BitVec 32 := v200
  let v228 : Index := Scalar.indexCast v201
  let c3968 : Index := 3968#32
  ![0, v228.toNat, 3968]
@[reducible] def k0_t17_loop : Scf.Loop 32 :=
  let c0_i32_153 : BitVec 32 := 0#32
  let c10_i32_154 : BitVec 32 := 10#32
  let v179 : BitVec 32 := Scalar.addi c0_i32_153 c10_i32_154
  let c1_i32_155 : BitVec 32 := 1#32
  ⟨c0_i32_153, v179, c1_i32_155⟩
def k0_mult17 (k0_t17 : Fin k0_t17_loop.trips) : BitVec 32 :=
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  v200
def k0_off83 (k0_t17 : Fin k0_t17_loop.trips) : Fin 3 → Nat :=
  let c16 : Index := 16#32
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  let v201 : BitVec 32 := v200
  let v202 : Index := Scalar.indexCast v201
  let c0_237 : Index := 0#32
  ![16, v202.toNat, 0]
def k0_off84 (k0_t17 : Fin k0_t17_loop.trips) : Fin 2 → Nat :=
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off85 (k0_t17 : Fin k0_t17_loop.trips) : Fin 3 → Nat :=
  let c0_241 : Index := 0#32
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  let v201 : BitVec 32 := v200
  let v213 : Index := Scalar.indexCast v201
  let c4096 : Index := 4096#32
  ![0, v213.toNat, 4096]
def k0_off86 (k0_t17 : Fin k0_t17_loop.trips) : Fin 3 → Nat :=
  let c16_242 : Index := 16#32
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  let v201 : BitVec 32 := v200
  let v217 : Index := Scalar.indexCast v201
  let c128_243 : Index := 128#32
  ![16, v217.toNat, 128]
def k0_off87 (k0_t17 : Fin k0_t17_loop.trips) : Fin 3 → Nat :=
  let c0_247 : Index := 0#32
  let c0_i32_153 : BitVec 32 := 0#32
  let c1_i32_155 : BitVec 32 := 1#32
  let arg13 : BitVec 32 := Scf.iv c0_i32_153 c1_i32_155 k0_t17
  let c64_i32 : BitVec 32 := 64#32
  let v200 : BitVec 32 := Scalar.muli arg13 c64_i32
  let v201 : BitVec 32 := v200
  let v228 : Index := Scalar.indexCast v201
  let c4224 : Index := 4224#32
  ![0, v228.toNat, 4224]
@[reducible] def k0_t18_loop : Scf.Loop 32 :=
  let c0_i32_157 : BitVec 32 := 0#32
  let c10_i32_158 : BitVec 32 := 10#32
  let v180 : BitVec 32 := Scalar.addi c0_i32_157 c10_i32_158
  let c1_i32_159 : BitVec 32 := 1#32
  ⟨c0_i32_157, v180, c1_i32_159⟩
def k0_mult18 (k0_t18 : Fin k0_t18_loop.trips) : BitVec 32 :=
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  v200
def k0_off88 (k0_t18 : Fin k0_t18_loop.trips) : Fin 3 → Nat :=
  let c17 : Index := 17#32
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  let v201 : BitVec 32 := v200
  let v202 : Index := Scalar.indexCast v201
  let c0_237 : Index := 0#32
  ![17, v202.toNat, 0]
def k0_off89 (k0_t18 : Fin k0_t18_loop.trips) : Fin 2 → Nat :=
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off90 (k0_t18 : Fin k0_t18_loop.trips) : Fin 3 → Nat :=
  let c0_241 : Index := 0#32
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  let v201 : BitVec 32 := v200
  let v213 : Index := Scalar.indexCast v201
  let c4352 : Index := 4352#32
  ![0, v213.toNat, 4352]
def k0_off91 (k0_t18 : Fin k0_t18_loop.trips) : Fin 3 → Nat :=
  let c17_242 : Index := 17#32
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  let v201 : BitVec 32 := v200
  let v217 : Index := Scalar.indexCast v201
  let c128_243 : Index := 128#32
  ![17, v217.toNat, 128]
def k0_off92 (k0_t18 : Fin k0_t18_loop.trips) : Fin 3 → Nat :=
  let c0_247 : Index := 0#32
  let c0_i32_157 : BitVec 32 := 0#32
  let c1_i32_159 : BitVec 32 := 1#32
  let arg13 : BitVec 32 := Scf.iv c0_i32_157 c1_i32_159 k0_t18
  let c64_i32 : BitVec 32 := 64#32
  let v200 : BitVec 32 := Scalar.muli arg13 c64_i32
  let v201 : BitVec 32 := v200
  let v228 : Index := Scalar.indexCast v201
  let c4480 : Index := 4480#32
  ![0, v228.toNat, 4480]
@[reducible] def k0_t19_loop : Scf.Loop 32 :=
  let c0_i32_161 : BitVec 32 := 0#32
  let c10_i32_162 : BitVec 32 := 10#32
  let v181 : BitVec 32 := Scalar.addi c0_i32_161 c10_i32_162
  let c1_i32_163 : BitVec 32 := 1#32
  ⟨c0_i32_161, v181, c1_i32_163⟩
def k0_mult19 (k0_t19 : Fin k0_t19_loop.trips) : BitVec 32 :=
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  v200
def k0_off93 (k0_t19 : Fin k0_t19_loop.trips) : Fin 3 → Nat :=
  let c18 : Index := 18#32
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  let v201 : BitVec 32 := v200
  let v202 : Index := Scalar.indexCast v201
  let c0_237 : Index := 0#32
  ![18, v202.toNat, 0]
def k0_off94 (k0_t19 : Fin k0_t19_loop.trips) : Fin 2 → Nat :=
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off95 (k0_t19 : Fin k0_t19_loop.trips) : Fin 3 → Nat :=
  let c0_241 : Index := 0#32
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  let v201 : BitVec 32 := v200
  let v213 : Index := Scalar.indexCast v201
  let c4608 : Index := 4608#32
  ![0, v213.toNat, 4608]
def k0_off96 (k0_t19 : Fin k0_t19_loop.trips) : Fin 3 → Nat :=
  let c18_242 : Index := 18#32
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  let v201 : BitVec 32 := v200
  let v217 : Index := Scalar.indexCast v201
  let c128_243 : Index := 128#32
  ![18, v217.toNat, 128]
def k0_off97 (k0_t19 : Fin k0_t19_loop.trips) : Fin 3 → Nat :=
  let c0_247 : Index := 0#32
  let c0_i32_161 : BitVec 32 := 0#32
  let c1_i32_163 : BitVec 32 := 1#32
  let arg13 : BitVec 32 := Scf.iv c0_i32_161 c1_i32_163 k0_t19
  let c64_i32 : BitVec 32 := 64#32
  let v200 : BitVec 32 := Scalar.muli arg13 c64_i32
  let v201 : BitVec 32 := v200
  let v228 : Index := Scalar.indexCast v201
  let c4736 : Index := 4736#32
  ![0, v228.toNat, 4736]
@[reducible] def k0_t20_loop : Scf.Loop 32 :=
  let c0_i32_165 : BitVec 32 := 0#32
  let c10_i32_166 : BitVec 32 := 10#32
  let v182 : BitVec 32 := Scalar.addi c0_i32_165 c10_i32_166
  let c1_i32_167 : BitVec 32 := 1#32
  ⟨c0_i32_165, v182, c1_i32_167⟩
def k0_mult20 (k0_t20 : Fin k0_t20_loop.trips) : BitVec 32 :=
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  v200
def k0_off98 (k0_t20 : Fin k0_t20_loop.trips) : Fin 3 → Nat :=
  let c19 : Index := 19#32
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  let v201 : BitVec 32 := v200
  let v202 : Index := Scalar.indexCast v201
  let c0_237 : Index := 0#32
  ![19, v202.toNat, 0]
def k0_off99 (k0_t20 : Fin k0_t20_loop.trips) : Fin 2 → Nat :=
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off100 (k0_t20 : Fin k0_t20_loop.trips) : Fin 3 → Nat :=
  let c0_241 : Index := 0#32
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  let v201 : BitVec 32 := v200
  let v213 : Index := Scalar.indexCast v201
  let c4864 : Index := 4864#32
  ![0, v213.toNat, 4864]
def k0_off101 (k0_t20 : Fin k0_t20_loop.trips) : Fin 3 → Nat :=
  let c19_242 : Index := 19#32
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  let v201 : BitVec 32 := v200
  let v217 : Index := Scalar.indexCast v201
  let c128_243 : Index := 128#32
  ![19, v217.toNat, 128]
def k0_off102 (k0_t20 : Fin k0_t20_loop.trips) : Fin 3 → Nat :=
  let c0_247 : Index := 0#32
  let c0_i32_165 : BitVec 32 := 0#32
  let c1_i32_167 : BitVec 32 := 1#32
  let arg13 : BitVec 32 := Scf.iv c0_i32_165 c1_i32_167 k0_t20
  let c64_i32 : BitVec 32 := 64#32
  let v200 : BitVec 32 := Scalar.muli arg13 c64_i32
  let v201 : BitVec 32 := v200
  let v228 : Index := Scalar.indexCast v201
  let c4992 : Index := 4992#32
  ![0, v228.toNat, 4992]
@[reducible] def k0_t21_loop : Scf.Loop 32 :=
  let c0_i32_169 : BitVec 32 := 0#32
  let c10_i32_170 : BitVec 32 := 10#32
  let v183 : BitVec 32 := Scalar.addi c0_i32_169 c10_i32_170
  let c1_i32_171 : BitVec 32 := 1#32
  ⟨c0_i32_169, v183, c1_i32_171⟩
def k0_mult21 (k0_t21 : Fin k0_t21_loop.trips) : BitVec 32 :=
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  v200
def k0_off103 (k0_t21 : Fin k0_t21_loop.trips) : Fin 3 → Nat :=
  let c20 : Index := 20#32
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  let v201 : BitVec 32 := v200
  let v202 : Index := Scalar.indexCast v201
  let c0_237 : Index := 0#32
  ![20, v202.toNat, 0]
def k0_off104 (k0_t21 : Fin k0_t21_loop.trips) : Fin 2 → Nat :=
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off105 (k0_t21 : Fin k0_t21_loop.trips) : Fin 3 → Nat :=
  let c0_241 : Index := 0#32
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  let v201 : BitVec 32 := v200
  let v213 : Index := Scalar.indexCast v201
  let c5120 : Index := 5120#32
  ![0, v213.toNat, 5120]
def k0_off106 (k0_t21 : Fin k0_t21_loop.trips) : Fin 3 → Nat :=
  let c20_242 : Index := 20#32
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  let v201 : BitVec 32 := v200
  let v217 : Index := Scalar.indexCast v201
  let c128_243 : Index := 128#32
  ![20, v217.toNat, 128]
def k0_off107 (k0_t21 : Fin k0_t21_loop.trips) : Fin 3 → Nat :=
  let c0_247 : Index := 0#32
  let c0_i32_169 : BitVec 32 := 0#32
  let c1_i32_171 : BitVec 32 := 1#32
  let arg13 : BitVec 32 := Scf.iv c0_i32_169 c1_i32_171 k0_t21
  let c64_i32 : BitVec 32 := 64#32
  let v200 : BitVec 32 := Scalar.muli arg13 c64_i32
  let v201 : BitVec 32 := v200
  let v228 : Index := Scalar.indexCast v201
  let c5248 : Index := 5248#32
  ![0, v228.toNat, 5248]
@[reducible] def k0_t22_loop : Scf.Loop 32 :=
  let c0_i32_173 : BitVec 32 := 0#32
  let c10_i32_174 : BitVec 32 := 10#32
  let v184 : BitVec 32 := Scalar.addi c0_i32_173 c10_i32_174
  let c1_i32_175 : BitVec 32 := 1#32
  ⟨c0_i32_173, v184, c1_i32_175⟩
def k0_mult22 (k0_t22 : Fin k0_t22_loop.trips) : BitVec 32 :=
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  v200
def k0_off108 (k0_t22 : Fin k0_t22_loop.trips) : Fin 3 → Nat :=
  let c21 : Index := 21#32
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  let v201 : BitVec 32 := v200
  let v202 : Index := Scalar.indexCast v201
  let c0_237 : Index := 0#32
  ![21, v202.toNat, 0]
def k0_off109 (k0_t22 : Fin k0_t22_loop.trips) : Fin 2 → Nat :=
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off110 (k0_t22 : Fin k0_t22_loop.trips) : Fin 3 → Nat :=
  let c0_241 : Index := 0#32
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  let v201 : BitVec 32 := v200
  let v213 : Index := Scalar.indexCast v201
  let c5376 : Index := 5376#32
  ![0, v213.toNat, 5376]
def k0_off111 (k0_t22 : Fin k0_t22_loop.trips) : Fin 3 → Nat :=
  let c21_242 : Index := 21#32
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  let v201 : BitVec 32 := v200
  let v217 : Index := Scalar.indexCast v201
  let c128_243 : Index := 128#32
  ![21, v217.toNat, 128]
def k0_off112 (k0_t22 : Fin k0_t22_loop.trips) : Fin 3 → Nat :=
  let c0_247 : Index := 0#32
  let c0_i32_173 : BitVec 32 := 0#32
  let c1_i32_175 : BitVec 32 := 1#32
  let arg13 : BitVec 32 := Scf.iv c0_i32_173 c1_i32_175 k0_t22
  let c64_i32 : BitVec 32 := 64#32
  let v200 : BitVec 32 := Scalar.muli arg13 c64_i32
  let v201 : BitVec 32 := v200
  let v228 : Index := Scalar.indexCast v201
  let c5504 : Index := 5504#32
  ![0, v228.toNat, 5504]
@[reducible] def k0_t23_loop : Scf.Loop 32 :=
  let c0_i32_177 : BitVec 32 := 0#32
  let c10_i32_178 : BitVec 32 := 10#32
  let v185 : BitVec 32 := Scalar.addi c0_i32_177 c10_i32_178
  let c1_i32_179 : BitVec 32 := 1#32
  ⟨c0_i32_177, v185, c1_i32_179⟩
def k0_mult23 (k0_t23 : Fin k0_t23_loop.trips) : BitVec 32 :=
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  v200
def k0_off113 (k0_t23 : Fin k0_t23_loop.trips) : Fin 3 → Nat :=
  let c22 : Index := 22#32
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  let v201 : BitVec 32 := v200
  let v202 : Index := Scalar.indexCast v201
  let c0_237 : Index := 0#32
  ![22, v202.toNat, 0]
def k0_off114 (k0_t23 : Fin k0_t23_loop.trips) : Fin 2 → Nat :=
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off115 (k0_t23 : Fin k0_t23_loop.trips) : Fin 3 → Nat :=
  let c0_241 : Index := 0#32
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  let v201 : BitVec 32 := v200
  let v213 : Index := Scalar.indexCast v201
  let c5632 : Index := 5632#32
  ![0, v213.toNat, 5632]
def k0_off116 (k0_t23 : Fin k0_t23_loop.trips) : Fin 3 → Nat :=
  let c22_242 : Index := 22#32
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  let v201 : BitVec 32 := v200
  let v217 : Index := Scalar.indexCast v201
  let c128_243 : Index := 128#32
  ![22, v217.toNat, 128]
def k0_off117 (k0_t23 : Fin k0_t23_loop.trips) : Fin 3 → Nat :=
  let c0_247 : Index := 0#32
  let c0_i32_177 : BitVec 32 := 0#32
  let c1_i32_179 : BitVec 32 := 1#32
  let arg13 : BitVec 32 := Scf.iv c0_i32_177 c1_i32_179 k0_t23
  let c64_i32 : BitVec 32 := 64#32
  let v200 : BitVec 32 := Scalar.muli arg13 c64_i32
  let v201 : BitVec 32 := v200
  let v228 : Index := Scalar.indexCast v201
  let c5760 : Index := 5760#32
  ![0, v228.toNat, 5760]
@[reducible] def k0_t24_loop : Scf.Loop 32 :=
  let c0_i32_181 : BitVec 32 := 0#32
  let c10_i32_182 : BitVec 32 := 10#32
  let v186 : BitVec 32 := Scalar.addi c0_i32_181 c10_i32_182
  let c1_i32_183 : BitVec 32 := 1#32
  ⟨c0_i32_181, v186, c1_i32_183⟩
def k0_mult24 (k0_t24 : Fin k0_t24_loop.trips) : BitVec 32 :=
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  v200
def k0_off118 (k0_t24 : Fin k0_t24_loop.trips) : Fin 3 → Nat :=
  let c23 : Index := 23#32
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  let v201 : BitVec 32 := v200
  let v202 : Index := Scalar.indexCast v201
  let c0_237 : Index := 0#32
  ![23, v202.toNat, 0]
def k0_off119 (k0_t24 : Fin k0_t24_loop.trips) : Fin 2 → Nat :=
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off120 (k0_t24 : Fin k0_t24_loop.trips) : Fin 3 → Nat :=
  let c0_241 : Index := 0#32
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  let v201 : BitVec 32 := v200
  let v213 : Index := Scalar.indexCast v201
  let c5888 : Index := 5888#32
  ![0, v213.toNat, 5888]
def k0_off121 (k0_t24 : Fin k0_t24_loop.trips) : Fin 3 → Nat :=
  let c23_242 : Index := 23#32
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  let v201 : BitVec 32 := v200
  let v217 : Index := Scalar.indexCast v201
  let c128_243 : Index := 128#32
  ![23, v217.toNat, 128]
def k0_off122 (k0_t24 : Fin k0_t24_loop.trips) : Fin 3 → Nat :=
  let c0_247 : Index := 0#32
  let c0_i32_181 : BitVec 32 := 0#32
  let c1_i32_183 : BitVec 32 := 1#32
  let arg13 : BitVec 32 := Scf.iv c0_i32_181 c1_i32_183 k0_t24
  let c64_i32 : BitVec 32 := 64#32
  let v200 : BitVec 32 := Scalar.muli arg13 c64_i32
  let v201 : BitVec 32 := v200
  let v228 : Index := Scalar.indexCast v201
  let c6016 : Index := 6016#32
  ![0, v228.toNat, 6016]
@[reducible] def k0_t25_loop : Scf.Loop 32 :=
  let c0_i32_185 : BitVec 32 := 0#32
  let c10_i32_186 : BitVec 32 := 10#32
  let v187 : BitVec 32 := Scalar.addi c0_i32_185 c10_i32_186
  let c1_i32_187 : BitVec 32 := 1#32
  ⟨c0_i32_185, v187, c1_i32_187⟩
def k0_mult25 (k0_t25 : Fin k0_t25_loop.trips) : BitVec 32 :=
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  v200
def k0_off123 (k0_t25 : Fin k0_t25_loop.trips) : Fin 3 → Nat :=
  let c24 : Index := 24#32
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  let v201 : BitVec 32 := v200
  let v202 : Index := Scalar.indexCast v201
  let c0_237 : Index := 0#32
  ![24, v202.toNat, 0]
def k0_off124 (k0_t25 : Fin k0_t25_loop.trips) : Fin 2 → Nat :=
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off125 (k0_t25 : Fin k0_t25_loop.trips) : Fin 3 → Nat :=
  let c0_241 : Index := 0#32
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  let v201 : BitVec 32 := v200
  let v213 : Index := Scalar.indexCast v201
  let c6144 : Index := 6144#32
  ![0, v213.toNat, 6144]
def k0_off126 (k0_t25 : Fin k0_t25_loop.trips) : Fin 3 → Nat :=
  let c24_242 : Index := 24#32
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  let v201 : BitVec 32 := v200
  let v217 : Index := Scalar.indexCast v201
  let c128_243 : Index := 128#32
  ![24, v217.toNat, 128]
def k0_off127 (k0_t25 : Fin k0_t25_loop.trips) : Fin 3 → Nat :=
  let c0_247 : Index := 0#32
  let c0_i32_185 : BitVec 32 := 0#32
  let c1_i32_187 : BitVec 32 := 1#32
  let arg13 : BitVec 32 := Scf.iv c0_i32_185 c1_i32_187 k0_t25
  let c64_i32 : BitVec 32 := 64#32
  let v200 : BitVec 32 := Scalar.muli arg13 c64_i32
  let v201 : BitVec 32 := v200
  let v228 : Index := Scalar.indexCast v201
  let c6272 : Index := 6272#32
  ![0, v228.toNat, 6272]
@[reducible] def k0_t26_loop : Scf.Loop 32 :=
  let c0_i32_189 : BitVec 32 := 0#32
  let c10_i32_190 : BitVec 32 := 10#32
  let v188 : BitVec 32 := Scalar.addi c0_i32_189 c10_i32_190
  let c1_i32_191 : BitVec 32 := 1#32
  ⟨c0_i32_189, v188, c1_i32_191⟩
def k0_mult26 (k0_t26 : Fin k0_t26_loop.trips) : BitVec 32 :=
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  v200
def k0_off128 (k0_t26 : Fin k0_t26_loop.trips) : Fin 3 → Nat :=
  let c25 : Index := 25#32
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  let v201 : BitVec 32 := v200
  let v202 : Index := Scalar.indexCast v201
  let c0_237 : Index := 0#32
  ![25, v202.toNat, 0]
def k0_off129 (k0_t26 : Fin k0_t26_loop.trips) : Fin 2 → Nat :=
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off130 (k0_t26 : Fin k0_t26_loop.trips) : Fin 3 → Nat :=
  let c0_241 : Index := 0#32
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  let v201 : BitVec 32 := v200
  let v213 : Index := Scalar.indexCast v201
  let c6400 : Index := 6400#32
  ![0, v213.toNat, 6400]
def k0_off131 (k0_t26 : Fin k0_t26_loop.trips) : Fin 3 → Nat :=
  let c25_242 : Index := 25#32
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  let v201 : BitVec 32 := v200
  let v217 : Index := Scalar.indexCast v201
  let c128_243 : Index := 128#32
  ![25, v217.toNat, 128]
def k0_off132 (k0_t26 : Fin k0_t26_loop.trips) : Fin 3 → Nat :=
  let c0_247 : Index := 0#32
  let c0_i32_189 : BitVec 32 := 0#32
  let c1_i32_191 : BitVec 32 := 1#32
  let arg13 : BitVec 32 := Scf.iv c0_i32_189 c1_i32_191 k0_t26
  let c64_i32 : BitVec 32 := 64#32
  let v200 : BitVec 32 := Scalar.muli arg13 c64_i32
  let v201 : BitVec 32 := v200
  let v228 : Index := Scalar.indexCast v201
  let c6528 : Index := 6528#32
  ![0, v228.toNat, 6528]
@[reducible] def k0_t27_loop : Scf.Loop 32 :=
  let c0_i32_193 : BitVec 32 := 0#32
  let c10_i32_194 : BitVec 32 := 10#32
  let v189 : BitVec 32 := Scalar.addi c0_i32_193 c10_i32_194
  let c1_i32_195 : BitVec 32 := 1#32
  ⟨c0_i32_193, v189, c1_i32_195⟩
def k0_mult27 (k0_t27 : Fin k0_t27_loop.trips) : BitVec 32 :=
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  v200
def k0_off133 (k0_t27 : Fin k0_t27_loop.trips) : Fin 3 → Nat :=
  let c26 : Index := 26#32
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  let v201 : BitVec 32 := v200
  let v202 : Index := Scalar.indexCast v201
  let c0_237 : Index := 0#32
  ![26, v202.toNat, 0]
def k0_off134 (k0_t27 : Fin k0_t27_loop.trips) : Fin 2 → Nat :=
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off135 (k0_t27 : Fin k0_t27_loop.trips) : Fin 3 → Nat :=
  let c0_241 : Index := 0#32
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  let v201 : BitVec 32 := v200
  let v213 : Index := Scalar.indexCast v201
  let c6656 : Index := 6656#32
  ![0, v213.toNat, 6656]
def k0_off136 (k0_t27 : Fin k0_t27_loop.trips) : Fin 3 → Nat :=
  let c26_242 : Index := 26#32
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  let v201 : BitVec 32 := v200
  let v217 : Index := Scalar.indexCast v201
  let c128_243 : Index := 128#32
  ![26, v217.toNat, 128]
def k0_off137 (k0_t27 : Fin k0_t27_loop.trips) : Fin 3 → Nat :=
  let c0_247 : Index := 0#32
  let c0_i32_193 : BitVec 32 := 0#32
  let c1_i32_195 : BitVec 32 := 1#32
  let arg13 : BitVec 32 := Scf.iv c0_i32_193 c1_i32_195 k0_t27
  let c64_i32 : BitVec 32 := 64#32
  let v200 : BitVec 32 := Scalar.muli arg13 c64_i32
  let v201 : BitVec 32 := v200
  let v228 : Index := Scalar.indexCast v201
  let c6784 : Index := 6784#32
  ![0, v228.toNat, 6784]
@[reducible] def k0_t28_loop : Scf.Loop 32 :=
  let c0_i32_197 : BitVec 32 := 0#32
  let c10_i32_198 : BitVec 32 := 10#32
  let v190 : BitVec 32 := Scalar.addi c0_i32_197 c10_i32_198
  let c1_i32_199 : BitVec 32 := 1#32
  ⟨c0_i32_197, v190, c1_i32_199⟩
def k0_mult28 (k0_t28 : Fin k0_t28_loop.trips) : BitVec 32 :=
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  v200
def k0_off138 (k0_t28 : Fin k0_t28_loop.trips) : Fin 3 → Nat :=
  let c27 : Index := 27#32
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  let v201 : BitVec 32 := v200
  let v202 : Index := Scalar.indexCast v201
  let c0_237 : Index := 0#32
  ![27, v202.toNat, 0]
def k0_off139 (k0_t28 : Fin k0_t28_loop.trips) : Fin 2 → Nat :=
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off140 (k0_t28 : Fin k0_t28_loop.trips) : Fin 3 → Nat :=
  let c0_241 : Index := 0#32
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  let v201 : BitVec 32 := v200
  let v213 : Index := Scalar.indexCast v201
  let c6912 : Index := 6912#32
  ![0, v213.toNat, 6912]
def k0_off141 (k0_t28 : Fin k0_t28_loop.trips) : Fin 3 → Nat :=
  let c27_242 : Index := 27#32
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  let v201 : BitVec 32 := v200
  let v217 : Index := Scalar.indexCast v201
  let c128_243 : Index := 128#32
  ![27, v217.toNat, 128]
def k0_off142 (k0_t28 : Fin k0_t28_loop.trips) : Fin 3 → Nat :=
  let c0_247 : Index := 0#32
  let c0_i32_197 : BitVec 32 := 0#32
  let c1_i32_199 : BitVec 32 := 1#32
  let arg13 : BitVec 32 := Scf.iv c0_i32_197 c1_i32_199 k0_t28
  let c64_i32 : BitVec 32 := 64#32
  let v200 : BitVec 32 := Scalar.muli arg13 c64_i32
  let v201 : BitVec 32 := v200
  let v228 : Index := Scalar.indexCast v201
  let c7040 : Index := 7040#32
  ![0, v228.toNat, 7040]
@[reducible] def k0_t29_loop : Scf.Loop 32 :=
  let c0_i32_201 : BitVec 32 := 0#32
  let c10_i32_202 : BitVec 32 := 10#32
  let v191 : BitVec 32 := Scalar.addi c0_i32_201 c10_i32_202
  let c1_i32_203 : BitVec 32 := 1#32
  ⟨c0_i32_201, v191, c1_i32_203⟩
def k0_mult29 (k0_t29 : Fin k0_t29_loop.trips) : BitVec 32 :=
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  v200
def k0_off143 (k0_t29 : Fin k0_t29_loop.trips) : Fin 3 → Nat :=
  let c28 : Index := 28#32
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  let v201 : BitVec 32 := v200
  let v202 : Index := Scalar.indexCast v201
  let c0_237 : Index := 0#32
  ![28, v202.toNat, 0]
def k0_off144 (k0_t29 : Fin k0_t29_loop.trips) : Fin 2 → Nat :=
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off145 (k0_t29 : Fin k0_t29_loop.trips) : Fin 3 → Nat :=
  let c0_241 : Index := 0#32
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  let v201 : BitVec 32 := v200
  let v213 : Index := Scalar.indexCast v201
  let c7168 : Index := 7168#32
  ![0, v213.toNat, 7168]
def k0_off146 (k0_t29 : Fin k0_t29_loop.trips) : Fin 3 → Nat :=
  let c28_242 : Index := 28#32
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  let v201 : BitVec 32 := v200
  let v217 : Index := Scalar.indexCast v201
  let c128_243 : Index := 128#32
  ![28, v217.toNat, 128]
def k0_off147 (k0_t29 : Fin k0_t29_loop.trips) : Fin 3 → Nat :=
  let c0_247 : Index := 0#32
  let c0_i32_201 : BitVec 32 := 0#32
  let c1_i32_203 : BitVec 32 := 1#32
  let arg13 : BitVec 32 := Scf.iv c0_i32_201 c1_i32_203 k0_t29
  let c64_i32 : BitVec 32 := 64#32
  let v200 : BitVec 32 := Scalar.muli arg13 c64_i32
  let v201 : BitVec 32 := v200
  let v228 : Index := Scalar.indexCast v201
  let c7296 : Index := 7296#32
  ![0, v228.toNat, 7296]
@[reducible] def k0_t30_loop : Scf.Loop 32 :=
  let c0_i32_205 : BitVec 32 := 0#32
  let c10_i32_206 : BitVec 32 := 10#32
  let v192 : BitVec 32 := Scalar.addi c0_i32_205 c10_i32_206
  let c1_i32_207 : BitVec 32 := 1#32
  ⟨c0_i32_205, v192, c1_i32_207⟩
def k0_mult30 (k0_t30 : Fin k0_t30_loop.trips) : BitVec 32 :=
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  v200
def k0_off148 (k0_t30 : Fin k0_t30_loop.trips) : Fin 3 → Nat :=
  let c29 : Index := 29#32
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  let v201 : BitVec 32 := v200
  let v202 : Index := Scalar.indexCast v201
  let c0_237 : Index := 0#32
  ![29, v202.toNat, 0]
def k0_off149 (k0_t30 : Fin k0_t30_loop.trips) : Fin 2 → Nat :=
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off150 (k0_t30 : Fin k0_t30_loop.trips) : Fin 3 → Nat :=
  let c0_241 : Index := 0#32
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  let v201 : BitVec 32 := v200
  let v213 : Index := Scalar.indexCast v201
  let c7424 : Index := 7424#32
  ![0, v213.toNat, 7424]
def k0_off151 (k0_t30 : Fin k0_t30_loop.trips) : Fin 3 → Nat :=
  let c29_242 : Index := 29#32
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  let v201 : BitVec 32 := v200
  let v217 : Index := Scalar.indexCast v201
  let c128_243 : Index := 128#32
  ![29, v217.toNat, 128]
def k0_off152 (k0_t30 : Fin k0_t30_loop.trips) : Fin 3 → Nat :=
  let c0_247 : Index := 0#32
  let c0_i32_205 : BitVec 32 := 0#32
  let c1_i32_207 : BitVec 32 := 1#32
  let arg13 : BitVec 32 := Scf.iv c0_i32_205 c1_i32_207 k0_t30
  let c64_i32 : BitVec 32 := 64#32
  let v200 : BitVec 32 := Scalar.muli arg13 c64_i32
  let v201 : BitVec 32 := v200
  let v228 : Index := Scalar.indexCast v201
  let c7552 : Index := 7552#32
  ![0, v228.toNat, 7552]
@[reducible] def k0_t31_loop : Scf.Loop 32 :=
  let c0_i32_209 : BitVec 32 := 0#32
  let c10_i32_210 : BitVec 32 := 10#32
  let v193 : BitVec 32 := Scalar.addi c0_i32_209 c10_i32_210
  let c1_i32_211 : BitVec 32 := 1#32
  ⟨c0_i32_209, v193, c1_i32_211⟩
def k0_mult31 (k0_t31 : Fin k0_t31_loop.trips) : BitVec 32 :=
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  v200
def k0_off153 (k0_t31 : Fin k0_t31_loop.trips) : Fin 3 → Nat :=
  let c30 : Index := 30#32
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  let v201 : BitVec 32 := v200
  let v202 : Index := Scalar.indexCast v201
  let c0_237 : Index := 0#32
  ![30, v202.toNat, 0]
def k0_off154 (k0_t31 : Fin k0_t31_loop.trips) : Fin 2 → Nat :=
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off155 (k0_t31 : Fin k0_t31_loop.trips) : Fin 3 → Nat :=
  let c0_241 : Index := 0#32
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  let v201 : BitVec 32 := v200
  let v213 : Index := Scalar.indexCast v201
  let c7680 : Index := 7680#32
  ![0, v213.toNat, 7680]
def k0_off156 (k0_t31 : Fin k0_t31_loop.trips) : Fin 3 → Nat :=
  let c30_242 : Index := 30#32
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  let v201 : BitVec 32 := v200
  let v217 : Index := Scalar.indexCast v201
  let c128_243 : Index := 128#32
  ![30, v217.toNat, 128]
def k0_off157 (k0_t31 : Fin k0_t31_loop.trips) : Fin 3 → Nat :=
  let c0_247 : Index := 0#32
  let c0_i32_209 : BitVec 32 := 0#32
  let c1_i32_211 : BitVec 32 := 1#32
  let arg13 : BitVec 32 := Scf.iv c0_i32_209 c1_i32_211 k0_t31
  let c64_i32 : BitVec 32 := 64#32
  let v200 : BitVec 32 := Scalar.muli arg13 c64_i32
  let v201 : BitVec 32 := v200
  let v228 : Index := Scalar.indexCast v201
  let c7808 : Index := 7808#32
  ![0, v228.toNat, 7808]
@[reducible] def k0_t32_loop : Scf.Loop 32 :=
  let c0_i32_213 : BitVec 32 := 0#32
  let c10_i32_214 : BitVec 32 := 10#32
  let v194 : BitVec 32 := Scalar.addi c0_i32_213 c10_i32_214
  let c1_i32_215 : BitVec 32 := 1#32
  ⟨c0_i32_213, v194, c1_i32_215⟩
def k0_mult32 (k0_t32 : Fin k0_t32_loop.trips) : BitVec 32 :=
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  v200
def k0_off158 (k0_t32 : Fin k0_t32_loop.trips) : Fin 3 → Nat :=
  let c31 : Index := 31#32
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  let v201 : BitVec 32 := v200
  let v202 : Index := Scalar.indexCast v201
  let c0_237 : Index := 0#32
  ![31, v202.toNat, 0]
def k0_off159 (k0_t32 : Fin k0_t32_loop.trips) : Fin 2 → Nat :=
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off160 (k0_t32 : Fin k0_t32_loop.trips) : Fin 3 → Nat :=
  let c0_241 : Index := 0#32
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  let v201 : BitVec 32 := v200
  let v213 : Index := Scalar.indexCast v201
  let c7936 : Index := 7936#32
  ![0, v213.toNat, 7936]
def k0_off161 (k0_t32 : Fin k0_t32_loop.trips) : Fin 3 → Nat :=
  let c31_242 : Index := 31#32
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  let v201 : BitVec 32 := v200
  let v217 : Index := Scalar.indexCast v201
  let c128_243 : Index := 128#32
  ![31, v217.toNat, 128]
def k0_off162 (k0_t32 : Fin k0_t32_loop.trips) : Fin 3 → Nat :=
  let c0_247 : Index := 0#32
  let c0_i32_213 : BitVec 32 := 0#32
  let c1_i32_215 : BitVec 32 := 1#32
  let arg13 : BitVec 32 := Scf.iv c0_i32_213 c1_i32_215 k0_t32
  let c64_i32 : BitVec 32 := 64#32
  let v200 : BitVec 32 := Scalar.muli arg13 c64_i32
  let v201 : BitVec 32 := v200
  let v228 : Index := Scalar.indexCast v201
  let c8064 : Index := 8064#32
  ![0, v228.toNat, 8064]
@[reducible] def k0_t33_loop : Scf.Loop 32 :=
  let c0_i32_217 : BitVec 32 := 0#32
  let c10_i32_218 : BitVec 32 := 10#32
  let v195 : BitVec 32 := Scalar.addi c0_i32_217 c10_i32_218
  let c1_i32_219 : BitVec 32 := 1#32
  ⟨c0_i32_217, v195, c1_i32_219⟩
def k0_mult33 (k0_t33 : Fin k0_t33_loop.trips) : BitVec 32 :=
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  v200
def k0_off163 (k0_t33 : Fin k0_t33_loop.trips) : Fin 3 → Nat :=
  let c32 : Index := 32#32
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  let v201 : BitVec 32 := v200
  let v202 : Index := Scalar.indexCast v201
  let c0_237 : Index := 0#32
  ![32, v202.toNat, 0]
def k0_off164 (k0_t33 : Fin k0_t33_loop.trips) : Fin 2 → Nat :=
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off165 (k0_t33 : Fin k0_t33_loop.trips) : Fin 3 → Nat :=
  let c0_241 : Index := 0#32
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  let v201 : BitVec 32 := v200
  let v213 : Index := Scalar.indexCast v201
  let c8192 : Index := 8192#32
  ![0, v213.toNat, 8192]
def k0_off166 (k0_t33 : Fin k0_t33_loop.trips) : Fin 3 → Nat :=
  let c32_242 : Index := 32#32
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  let v201 : BitVec 32 := v200
  let v217 : Index := Scalar.indexCast v201
  let c128_243 : Index := 128#32
  ![32, v217.toNat, 128]
def k0_off167 (k0_t33 : Fin k0_t33_loop.trips) : Fin 3 → Nat :=
  let c0_247 : Index := 0#32
  let c0_i32_217 : BitVec 32 := 0#32
  let c1_i32_219 : BitVec 32 := 1#32
  let arg13 : BitVec 32 := Scf.iv c0_i32_217 c1_i32_219 k0_t33
  let c64_i32 : BitVec 32 := 64#32
  let v200 : BitVec 32 := Scalar.muli arg13 c64_i32
  let v201 : BitVec 32 := v200
  let v228 : Index := Scalar.indexCast v201
  let c8320 : Index := 8320#32
  ![0, v228.toNat, 8320]
@[reducible] def k0_t34_loop : Scf.Loop 32 :=
  let c0_i32_221 : BitVec 32 := 0#32
  let c10_i32_222 : BitVec 32 := 10#32
  let v196 : BitVec 32 := Scalar.addi c0_i32_221 c10_i32_222
  let c1_i32_223 : BitVec 32 := 1#32
  ⟨c0_i32_221, v196, c1_i32_223⟩
def k0_mult34 (k0_t34 : Fin k0_t34_loop.trips) : BitVec 32 :=
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  v200
def k0_off168 (k0_t34 : Fin k0_t34_loop.trips) : Fin 3 → Nat :=
  let c33 : Index := 33#32
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  let v201 : BitVec 32 := v200
  let v202 : Index := Scalar.indexCast v201
  let c0_237 : Index := 0#32
  ![33, v202.toNat, 0]
def k0_off169 (k0_t34 : Fin k0_t34_loop.trips) : Fin 2 → Nat :=
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off170 (k0_t34 : Fin k0_t34_loop.trips) : Fin 3 → Nat :=
  let c0_241 : Index := 0#32
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  let v201 : BitVec 32 := v200
  let v213 : Index := Scalar.indexCast v201
  let c8448 : Index := 8448#32
  ![0, v213.toNat, 8448]
def k0_off171 (k0_t34 : Fin k0_t34_loop.trips) : Fin 3 → Nat :=
  let c33_242 : Index := 33#32
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  let v201 : BitVec 32 := v200
  let v217 : Index := Scalar.indexCast v201
  let c128_243 : Index := 128#32
  ![33, v217.toNat, 128]
def k0_off172 (k0_t34 : Fin k0_t34_loop.trips) : Fin 3 → Nat :=
  let c0_247 : Index := 0#32
  let c0_i32_221 : BitVec 32 := 0#32
  let c1_i32_223 : BitVec 32 := 1#32
  let arg13 : BitVec 32 := Scf.iv c0_i32_221 c1_i32_223 k0_t34
  let c64_i32 : BitVec 32 := 64#32
  let v200 : BitVec 32 := Scalar.muli arg13 c64_i32
  let v201 : BitVec 32 := v200
  let v228 : Index := Scalar.indexCast v201
  let c8576 : Index := 8576#32
  ![0, v228.toNat, 8576]
@[reducible] def k0_t35_loop : Scf.Loop 32 :=
  let c0_i32_225 : BitVec 32 := 0#32
  let c10_i32_226 : BitVec 32 := 10#32
  let v197 : BitVec 32 := Scalar.addi c0_i32_225 c10_i32_226
  let c1_i32_227 : BitVec 32 := 1#32
  ⟨c0_i32_225, v197, c1_i32_227⟩
def k0_mult35 (k0_t35 : Fin k0_t35_loop.trips) : BitVec 32 :=
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  v200
def k0_off173 (k0_t35 : Fin k0_t35_loop.trips) : Fin 3 → Nat :=
  let c34 : Index := 34#32
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  let v201 : BitVec 32 := v200
  let v202 : Index := Scalar.indexCast v201
  let c0_237 : Index := 0#32
  ![34, v202.toNat, 0]
def k0_off174 (k0_t35 : Fin k0_t35_loop.trips) : Fin 2 → Nat :=
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off175 (k0_t35 : Fin k0_t35_loop.trips) : Fin 3 → Nat :=
  let c0_241 : Index := 0#32
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  let v201 : BitVec 32 := v200
  let v213 : Index := Scalar.indexCast v201
  let c8704 : Index := 8704#32
  ![0, v213.toNat, 8704]
def k0_off176 (k0_t35 : Fin k0_t35_loop.trips) : Fin 3 → Nat :=
  let c34_242 : Index := 34#32
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  let v201 : BitVec 32 := v200
  let v217 : Index := Scalar.indexCast v201
  let c128_243 : Index := 128#32
  ![34, v217.toNat, 128]
def k0_off177 (k0_t35 : Fin k0_t35_loop.trips) : Fin 3 → Nat :=
  let c0_247 : Index := 0#32
  let c0_i32_225 : BitVec 32 := 0#32
  let c1_i32_227 : BitVec 32 := 1#32
  let arg13 : BitVec 32 := Scf.iv c0_i32_225 c1_i32_227 k0_t35
  let c64_i32 : BitVec 32 := 64#32
  let v200 : BitVec 32 := Scalar.muli arg13 c64_i32
  let v201 : BitVec 32 := v200
  let v228 : Index := Scalar.indexCast v201
  let c8832 : Index := 8832#32
  ![0, v228.toNat, 8832]
@[reducible] def k0_t36_loop : Scf.Loop 32 :=
  let c0_i32_229 : BitVec 32 := 0#32
  let c10_i32_230 : BitVec 32 := 10#32
  let v198 : BitVec 32 := Scalar.addi c0_i32_229 c10_i32_230
  let c1_i32_231 : BitVec 32 := 1#32
  ⟨c0_i32_229, v198, c1_i32_231⟩
def k0_mult36 (k0_t36 : Fin k0_t36_loop.trips) : BitVec 32 :=
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  v200
def k0_off178 (k0_t36 : Fin k0_t36_loop.trips) : Fin 3 → Nat :=
  let c35 : Index := 35#32
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  let v201 : BitVec 32 := v200
  let v202 : Index := Scalar.indexCast v201
  let c0_237 : Index := 0#32
  ![35, v202.toNat, 0]
def k0_off179 (k0_t36 : Fin k0_t36_loop.trips) : Fin 2 → Nat :=
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off180 (k0_t36 : Fin k0_t36_loop.trips) : Fin 3 → Nat :=
  let c0_241 : Index := 0#32
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  let v201 : BitVec 32 := v200
  let v213 : Index := Scalar.indexCast v201
  let c8960 : Index := 8960#32
  ![0, v213.toNat, 8960]
def k0_off181 (k0_t36 : Fin k0_t36_loop.trips) : Fin 3 → Nat :=
  let c35_242 : Index := 35#32
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  let v201 : BitVec 32 := v200
  let v217 : Index := Scalar.indexCast v201
  let c128_243 : Index := 128#32
  ![35, v217.toNat, 128]
def k0_off182 (k0_t36 : Fin k0_t36_loop.trips) : Fin 3 → Nat :=
  let c0_247 : Index := 0#32
  let c0_i32_229 : BitVec 32 := 0#32
  let c1_i32_231 : BitVec 32 := 1#32
  let arg13 : BitVec 32 := Scf.iv c0_i32_229 c1_i32_231 k0_t36
  let c64_i32 : BitVec 32 := 64#32
  let v200 : BitVec 32 := Scalar.muli arg13 c64_i32
  let v201 : BitVec 32 := v200
  let v228 : Index := Scalar.indexCast v201
  let c9088 : Index := 9088#32
  ![0, v228.toNat, 9088]
@[reducible] def k0_t37_loop : Scf.Loop 32 :=
  let c0_i32_233 : BitVec 32 := 0#32
  let c10_i32_234 : BitVec 32 := 10#32
  let v199 : BitVec 32 := Scalar.addi c0_i32_233 c10_i32_234
  let c1_i32_235 : BitVec 32 := 1#32
  ⟨c0_i32_233, v199, c1_i32_235⟩
def k0_mult37 (k0_t37 : Fin k0_t37_loop.trips) : BitVec 32 :=
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  v200
def k0_off183 (k0_t37 : Fin k0_t37_loop.trips) : Fin 3 → Nat :=
  let c36 : Index := 36#32
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  let v201 : BitVec 32 := v200
  let v202 : Index := Scalar.indexCast v201
  let c0_237 : Index := 0#32
  ![36, v202.toNat, 0]
def k0_off184 (k0_t37 : Fin k0_t37_loop.trips) : Fin 2 → Nat :=
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  let v201 : BitVec 32 := v200
  let v205 : Index := Scalar.indexCast v201
  let c0_238 : Index := 0#32
  ![v205.toNat, 0]
def k0_off185 (k0_t37 : Fin k0_t37_loop.trips) : Fin 3 → Nat :=
  let c0_241 : Index := 0#32
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  let v201 : BitVec 32 := v200
  let v213 : Index := Scalar.indexCast v201
  let c9216 : Index := 9216#32
  ![0, v213.toNat, 9216]
def k0_off186 (k0_t37 : Fin k0_t37_loop.trips) : Fin 3 → Nat :=
  let c36_242 : Index := 36#32
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  let v201 : BitVec 32 := v200
  let v217 : Index := Scalar.indexCast v201
  let c128_243 : Index := 128#32
  ![36, v217.toNat, 128]
def k0_off187 (k0_t37 : Fin k0_t37_loop.trips) : Fin 3 → Nat :=
  let c0_247 : Index := 0#32
  let c0_i32_233 : BitVec 32 := 0#32
  let c1_i32_235 : BitVec 32 := 1#32
  let arg13 : BitVec 32 := Scf.iv c0_i32_233 c1_i32_235 k0_t37
  let c64_i32 : BitVec 32 := 64#32
  let v200 : BitVec 32 := Scalar.muli arg13 c64_i32
  let v201 : BitVec 32 := v200
  let v228 : Index := Scalar.indexCast v201
  let c9344 : Index := 9344#32
  ![0, v228.toNat, 9344]
def k0_cond3 (i : grid0.Coords) : BitVec 1 :=
  let arg0 : BitVec 32 := BitVec.ofNat 32 (i 0).val
  let c0_i32_86 : BitVec 32 := 0#32
  let v154 : BitVec 1 := Scalar.cmpi .eq arg0 c0_i32_86
  let v155 : BitVec 32 := Scalar.extui v154
  let c0_i32_87 : BitVec 32 := 0#32
  let v156 : BitVec 1 := Scalar.cmpi .ne v155 c0_i32_87
  v156

def k0_cond4 (i : grid0.Coords) : BitVec 1 :=
  let arg0 : BitVec 32 := BitVec.ofNat 32 (i 0).val
  let c1_i32 : BitVec 32 := 1#32
  let v157 : BitVec 1 := Scalar.cmpi .eq arg0 c1_i32
  let v158 : BitVec 32 := Scalar.extui v157
  let c0_i32_88 : BitVec 32 := 0#32
  let v159 : BitVec 1 := Scalar.cmpi .ne v158 c0_i32_88
  v159

def k0_cond5 (i : grid0.Coords) : BitVec 1 :=
  let arg0 : BitVec 32 := BitVec.ofNat 32 (i 0).val
  let c2_i32 : BitVec 32 := 2#32
  let v160 : BitVec 1 := Scalar.cmpi .eq arg0 c2_i32
  let v161 : BitVec 32 := Scalar.extui v160
  let c0_i32_89 : BitVec 32 := 0#32
  let v162 : BitVec 1 := Scalar.cmpi .ne v161 c0_i32_89
  v162

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x640x9472 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S3x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== GuRIdeal.lean ====
abbrev S3x640x3584 : Shape := ⟨3, ![3, 640, 3584]⟩
abbrev S3x640 : Shape := ⟨2, ![3, 640]⟩
abbrev S3584x18944 : Shape := ⟨2, ![3584, 18944]⟩
abbrev S18944 : Shape := ⟨1, ![18944]⟩
abbrev S3x640x9472 : Shape := ⟨3, ![3, 640, 9472]⟩
abbrev S1920x3584 : Shape := ⟨2, ![1920, 3584]⟩
abbrev S1920x18944 : Shape := ⟨2, ![1920, 18944]⟩
abbrev S3x640x18944 : Shape := ⟨3, ![3, 640, 18944]⟩
abbrev S3x640x1 : Shape := ⟨3, ![3, 640, 1]⟩
abbrev S1x1x18944 : Shape := ⟨3, ![1, 1, 18944]⟩

abbrev nBuf : Space → Nat
  | .hbm => 6
  | .vmem => 6
  | .smem => 0
  | _ => 0

abbrev bufTy : (tb : Table) → Fin (tcTables nBuf tb) → BufTy
  | .hbm, ⟨0, _⟩ => ⟨S3x640x3584, .fp8e4m3⟩
  | .hbm, ⟨1, _⟩ => ⟨S3x640, .f32⟩
  | .hbm, ⟨2, _⟩ => ⟨S3584x18944, .fp8e4m3⟩
  | .hbm, ⟨3, _⟩ => ⟨S18944, .f32⟩
  | .hbm, ⟨4, _⟩ => ⟨S3x640x9472, .fp8e4m3⟩
  | .hbm, ⟨5, _⟩ => ⟨S3x640, .f32⟩
  | .local _ .vmem, ⟨0, _⟩ => ⟨S3x640x3584, .fp8e4m3⟩
  | .local _ .vmem, ⟨1, _⟩ => ⟨S3x640, .f32⟩
  | .local _ .vmem, ⟨2, _⟩ => ⟨S3584x18944, .fp8e4m3⟩
  | .local _ .vmem, ⟨3, _⟩ => ⟨S18944, .f32⟩
  | .local _ .vmem, ⟨4, _⟩ => ⟨S3x640x9472, .fp8e4m3⟩
  | .local _ .vmem, ⟨5, _⟩ => ⟨S3x640, .f32⟩
  | _, _ => ⟨S3x640x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x9472 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OprojK.lean ====
abbrev S3x640x1792 : Shape := ⟨3, ![3, 640, 1792]⟩
abbrev S3x640 : Shape := ⟨2, ![3, 640]⟩
abbrev S3x640x3584 : Shape := ⟨3, ![3, 640, 3584]⟩
abbrev S3584 : Shape := ⟨1, ![3584]⟩
abbrev S1792x3584 : Shape := ⟨2, ![1792, 3584]⟩
abbrev S1x3584 : Shape := ⟨2, ![1, 3584]⟩
abbrev S1x640x1792 : Shape := ⟨3, ![1, 640, 1792]⟩
abbrev S1x640x3584 : Shape := ⟨3, ![1, 640, 3584]⟩
abbrev S640x128 : Shape := ⟨2, ![640, 128]⟩
abbrev S1x640 : Shape := ⟨2, ![1, 640]⟩
abbrev S1x128 : Shape := ⟨2, ![1, 128]⟩
abbrev S128x128 : Shape := ⟨2, ![128, 128]⟩
abbrev S640x1792 : Shape := ⟨2, ![640, 1792]⟩
abbrev S1792x256 : Shape := ⟨2, ![1792, 256]⟩
abbrev S640x256 : Shape := ⟨2, ![640, 256]⟩
abbrev S1x640x128 : Shape := ⟨3, ![1, 640, 128]⟩
abbrev S1x32x3584 : Shape := ⟨3, ![1, 32, 3584]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩

abbrev nBuf : Space → Nat
  | .hbm => 11
  | .vmem => 14
  | .smem => 0
  | _ => 0

abbrev bufTy : (tb : Table) → Fin (tcTables nBuf tb) → BufTy
  | .hbm, ⟨0, _⟩ => ⟨S3x640x1792, .fp8e4m3⟩
  | .hbm, ⟨1, _⟩ => ⟨S3x640, .f32⟩
  | .hbm, ⟨2, _⟩ => ⟨S3x640x3584, .bf16⟩
  | .hbm, ⟨3, _⟩ => ⟨S3584, .f32⟩
  | .hbm, ⟨4, _⟩ => ⟨S1792x3584, .fp8e4m3⟩
  | .hbm, ⟨5, _⟩ => ⟨S3584, .f32⟩
  | .hbm, ⟨6, _⟩ => ⟨S1x3584, .f32⟩
  | .hbm, ⟨7, _⟩ => ⟨S1x3584, .f32⟩
  | .hbm, ⟨8, _⟩ => ⟨S3x640x3584, .f32⟩
  | .hbm, ⟨9, _⟩ => ⟨S3x640x3584, .fp8e4m3⟩
  | .hbm, ⟨10, _⟩ => ⟨S3x640, .f32⟩
  | .local _ .vmem, ⟨0, _⟩ => ⟨S1x640x1792, .fp8e4m3⟩
  | .local _ .vmem, ⟨1, _⟩ => ⟨S1x640x1792, .fp8e4m3⟩
  | .local _ .vmem, ⟨2, _⟩ => ⟨S3x640, .f32⟩
  | .local _ .vmem, ⟨3, _⟩ => ⟨S1x640x3584, .bf16⟩
  | .local _ .vmem, ⟨4, _⟩ => ⟨S1x640x3584, .bf16⟩
  | .local _ .vmem, ⟨5, _⟩ => ⟨S1x3584, .f32⟩
  | .local _ .vmem, ⟨6, _⟩ => ⟨S1792x3584, .fp8e4m3⟩
  | .local _ .vmem, ⟨7, _⟩ => ⟨S1x3584, .f32⟩
  | .local _ .vmem, ⟨8, _⟩ => ⟨S1x640x3584, .f32⟩
  | .local _ .vmem, ⟨9, _⟩ => ⟨S1x640x3584, .f32⟩
  | .local _ .vmem, ⟨10, _⟩ => ⟨S1x640x3584, .fp8e4m3⟩
  | .local _ .vmem, ⟨11, _⟩ => ⟨S1x640x3584, .fp8e4m3⟩
  | .local _ .vmem, ⟨12, _⟩ => ⟨S3x640, .f32⟩
  | .local _ .vmem, ⟨13, _⟩ => ⟨S640x128, .f32⟩
  | _, _ => ⟨S3x640x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c20_i32 : BitVec 32 := 20#32
  let v490 : BitVec 32 := Scalar.addi c0_i32 c20_i32
  let c1_i32_349 : BitVec 32 := 1#32
  ⟨c0_i32, v490, c1_i32_349⟩
def k0_mult1 (k0_t1 : Fin k0_t1_loop.trips) : BitVec 32 :=
  let c0_i32 : BitVec 32 := 0#32
  let c1_i32_349 : BitVec 32 := 1#32
  let arg11 : BitVec 32 := Scf.iv c0_i32 c1_i32_349 k0_t1
  let c32_i32 : BitVec 32 := 32#32
  let v516 : BitVec 32 := Scalar.muli arg11 c32_i32
  v516
def k0_off1 (k0_t1 : Fin k0_t1_loop.trips) : Fin 3 → Nat :=
  let c0_367 : Index := 0#32
  let c0_i32 : BitVec 32 := 0#32
  let c1_i32_349 : BitVec 32 := 1#32
  let arg11 : BitVec 32 := Scf.iv c0_i32 c1_i32_349 k0_t1
  let c32_i32 : BitVec 32 := 32#32
  let v516 : BitVec 32 := Scalar.muli arg11 c32_i32
  let v517 : BitVec 32 := v516
  let v518 : Index := Scalar.indexCast v517
  let c0_368 : Index := 0#32
  ![0, v518.toNat, 0]
def k0_off2 (k0_t1 : Fin k0_t1_loop.trips) : Fin 2 → Nat :=
  let c0_i32 : BitVec 32 := 0#32
  let c1_i32_349 : BitVec 32 := 1#32
  let arg11 : BitVec 32 := Scf.iv c0_i32 c1_i32_349 k0_t1
  let c32_i32 : BitVec 32 := 32#32
  let v516 : BitVec 32 := Scalar.muli arg11 c32_i32
  let v517 : BitVec 32 := v516
  let v557 : Index := Scalar.indexCast v517
  let c0_382 : Index := 0#32
  ![v557.toNat, 0]
def k0_cond1 (i : grid0.Coords) : BitVec 1 :=
  let arg0 : BitVec 32 := BitVec.ofNat 32 (i 0).val
  let c0_i32_361 : BitVec 32 := 0#32
  let v507 : BitVec 1 := Scalar.cmpi .eq arg0 c0_i32_361
  let v508 : BitVec 32 := Scalar.extui v507
  let c0_i32_362 : BitVec 32 := 0#32
  let v509 : BitVec 1 := Scalar.cmpi .ne v508 c0_i32_362
  v509

def k0_cond2 (i : grid0.Coords) : BitVec 1 :=
  let arg0 : BitVec 32 := BitVec.ofNat 32 (i 0).val
  let c1_i32_363 : BitVec 32 := 1#32
  let v510 : BitVec 1 := Scalar.cmpi .eq arg0 c1_i32_363
  let v511 : BitVec 32 := Scalar.extui v510
  let c0_i32_364 : BitVec 32 := 0#32
  let v512 : BitVec 1 := Scalar.cmpi .ne v511 c0_i32_364
  v512

def k0_cond3 (i : grid0.Coords) : BitVec 1 :=
  let arg0 : BitVec 32 := BitVec.ofNat 32 (i 0).val
  let c2_i32_365 : BitVec 32 := 2#32
  let v513 : BitVec 1 := Scalar.cmpi .eq arg0 c2_i32_365
  let v514 : BitVec 32 := Scalar.extui v513
  let c0_i32_366 : BitVec 32 := 0#32
  let v515 : BitVec 1 := Scalar.cmpi .ne v514 c0_i32_366
  v515

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x640x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x640x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x640x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OprojRIdeal.lean ====
abbrev S3x640x1792 : Shape := ⟨3, ![3, 640, 1792]⟩
abbrev S3x640 : Shape := ⟨2, ![3, 640]⟩
abbrev S3x640x3584 : Shape := ⟨3, ![3, 640, 3584]⟩
abbrev S3584 : Shape := ⟨1, ![3584]⟩
abbrev S1792x3584 : Shape := ⟨2, ![1792, 3584]⟩
abbrev S1920x1792 : Shape := ⟨2, ![1920, 1792]⟩
abbrev S1920x3584 : Shape := ⟨2, ![1920, 3584]⟩
abbrev S3x640x1 : Shape := ⟨3, ![3, 640, 1]⟩
abbrev S1x1x3584 : Shape := ⟨3, ![1, 1, 3584]⟩

abbrev nBuf : Space → Nat
  | .hbm => 9
  | .vmem => 9
  | .smem => 0
  | _ => 0

abbrev bufTy : (tb : Table) → Fin (tcTables nBuf tb) → BufTy
  | .hbm, ⟨0, _⟩ => ⟨S3x640x1792, .fp8e4m3⟩
  | .hbm, ⟨1, _⟩ => ⟨S3x640, .f32⟩
  | .hbm, ⟨2, _⟩ => ⟨S3x640x3584, .bf16⟩
  | .hbm, ⟨3, _⟩ => ⟨S3584, .f32⟩
  | .hbm, ⟨4, _⟩ => ⟨S1792x3584, .fp8e4m3⟩
  | .hbm, ⟨5, _⟩ => ⟨S3584, .f32⟩
  | .hbm, ⟨6, _⟩ => ⟨S3x640x3584, .f32⟩
  | .hbm, ⟨7, _⟩ => ⟨S3x640x3584, .fp8e4m3⟩
  | .hbm, ⟨8, _⟩ => ⟨S3x640, .f32⟩
  | .local _ .vmem, ⟨0, _⟩ => ⟨S3x640x1792, .fp8e4m3⟩
  | .local _ .vmem, ⟨1, _⟩ => ⟨S3x640, .f32⟩
  | .local _ .vmem, ⟨2, _⟩ => ⟨S3x640x3584, .bf16⟩
  | .local _ .vmem, ⟨3, _⟩ => ⟨S3584, .f32⟩
  | .local _ .vmem, ⟨4, _⟩ => ⟨S1792x3584, .fp8e4m3⟩
  | .local _ .vmem, ⟨5, _⟩ => ⟨S3584, .f32⟩
  | .local _ .vmem, ⟨6, _⟩ => ⟨S3x640x3584, .f32⟩
  | .local _ .vmem, ⟨7, _⟩ => ⟨S3x640x3584, .fp8e4m3⟩
  | .local _ .vmem, ⟨8, _⟩ => ⟨S3x640, .f32⟩
  | _, _ => ⟨S3x640x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x640x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DownValue.lean ====
/- What the down-projection call computes: its result array is the reference's term over the same arguments. -/
module

public import proofs.«01_k».proof.Proof.Gen.DownKIdeal.Value
public import proofs.«01_k».proof.Proof.Gen.DownRIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownKIdeal.Claimed

open Cert.DownKIdeal Cert.DownKIdeal.Gen

variable (m : (ℓ : Loc nD τ sig) → Buf (Elt Ideal) ℓ)

/-- The windows' block indices at each of the 7 grid points. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ t.val < 7 :=
  (by decide +kernel : ∀ t : Fin grid0.N, _)

/-- What the body stores at block index `y` of point `t` is the reference's term at the array index where `y` sits. -/
theorem point (c : Dev nD) (t : Fin cfg0.N) (y : S1920x512.Idx) :
    k0_pay1 (iblk m c 0 t) (iblk m c 2 t) (iblk m c 4 t) (iblk m c 1 t) (iblk m c 3 t) y
    = Cert.DownRIdeal.Gen.k0_pay1 (m ((c : Thread nD τ).loc main_arg4)) (m ((c : Thread nD τ).loc main_arg0))
        (m ((c : Thread nD τ).loc main_arg1)) (m ((c : Thread nD τ).loc main_arg2)) (m ((c : Thread nD τ).loc main_arg3))
        (((cfg0.win 5).blk t).view.emb y) := by
  pointwise [k0_pay1, Cert.DownRIdeal.Gen.k0_pay1]
  blk_point [iblk, V, idx t]

/-- The result array after the run is the reference's term over the arguments. -/
theorem final (c : Dev nD) : (dats m 0 c).arrAt 5 cfg0.N
    = Cert.DownRIdeal.Gen.k0_pay1 (m ((c : Thread nD τ).loc main_arg4)) (m ((c : Thread nD τ).loc main_arg0))
        (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.DownKIdeal.Claimed

end
-- ==== Proof.Gu.Trip.lean ====
/- One trip of the quantising loops of the gate-and-up kernel, and the loop of ten trips. -/
module

public import proofs.«01_k».proof.Proof.Gen.GuKIdeal.Frame
public import proofs.«01_k».proof.Proof.Gen.GuKIdeal.Skeleton
public import Idealize.ShloMosaic.Lib.ValueLayout
public import Idealize.ShloMosaic.Lib.WritesUnit

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The memory operations of one trip: 64 rows of both halves of a plane of the scratch, each divided by the scales
    and stored as codes. -/
def trip (arg8 : Memref sig .tc .vmem S1x640x9472 .fp8e4m3) (arg10 : Memref sig .tc .vmem S37x640x256 .f32)
    (arg11 : Memref sig .tc .vmem S640x128 .f32)
    (a a' : Fin 3 → ℕ) (s : Fin 2 → ℕ) (d d' : Fin 3 → ℕ)
    (ia : ∀ x, a x + S1x64x128.size x ≤ S37x640x256.size x) (ia' : ∀ x, a' x + S1x64x128.size x ≤ S37x640x256.size x)
    (is : ∀ x, s x + S64x128.size x ≤ S640x128.size x)
    (id : ∀ x, d x + S1x64x128.size x ≤ S1x640x9472.size x) (id' : ∀ x, d' x + S1x64x128.size x ≤ S1x640x9472.size x)
    (st : (arg8.access (Rect.unit (s := S1x640x9472) d S1x64x128.size id)).Stores Finset.univ)
    (st' : (arg8.access (Rect.unit (s := S1x640x9472) d' S1x64x128.size id')).Stores Finset.univ)
    (p p' : Vec F S1x64x128 .f32 → Vec F S64x128 .f32 → FVec F S1x64x128 .fp8e4m3) :
    Prog (TpuEff nD τ sig (Elt F) Λ₀ .tc) Unit := do
  let v203 : Vec F S1x64x128 .f32 ← Prog.lift (.load arg10 (Rect.unit (s := S37x640x256) a S1x64x128.size ia).toLoadRect (View.loadsAt_vmem h_S1x64x128))
  let v206 : Vec F S64x128 .f32 ← Prog.lift (.load arg11 (Rect.unit (s := S640x128) s S64x128.size is).toLoadRect (View.loadsAt_vmem h_S64x128))
  let v214 : Vec F S1x64x128 .fp8e4m3 ← Prog.lift (.load arg8 (Rect.unit (s := S1x640x9472) d S1x64x128.size id).toLoadRect (View.loadsAt_vmem h_S1x64x128))
  Prog.lift (.store arg8 (Rect.unit (s := S1x640x9472) d S1x64x128.size id) (p v203 v206) Finset.univ st (.inl rfl))
  let v218 : Vec F S1x64x128 .f32 ← Prog.lift (.load arg10 (Rect.unit (s := S37x640x256) a' S1x64x128.size ia').toLoadRect (View.loadsAt_vmem h_S1x64x128))
  let v221 : Vec F S64x128 .f32 ← Prog.lift (.load arg11 (Rect.unit (s := S640x128) s S64x128.size is).toLoadRect (View.loadsAt_vmem h_S64x128))
  let v229 : Vec F S1x64x128 .fp8e4m3 ← Prog.lift (.load arg8 (Rect.unit (s := S1x640x9472) d' S1x64x128.size id').toLoadRect (View.loadsAt_vmem h_S1x64x128))
  Prog.lift (.store arg8 (Rect.unit (s := S1x640x9472) d' S1x64x128.size id') (p' v218 v221) Finset.univ st' (.inl rfl))
  pure ⟨⟩

/-- What one trip leaves in the codes' buffer: its two blocks of codes written over what was there. -/
theorem wp_trip (c : Dev nD) (arg8 : Memref sig .tc .vmem S1x640x9472 .fp8e4m3) (arg10 : Memref sig .tc .vmem S37x640x256 .f32)
    (arg11 : Memref sig .tc .vmem S640x128 .f32)
    (a a' : Fin 3 → ℕ) (s : Fin 2 → ℕ) (d d' : Fin 3 → ℕ) (ia) (ia') (is) (id) (id') (st) (st')
    (p p' : Vec F S1x64x128 .f32 → Vec F S64x128 .f32 → FVec F S1x64x128 .fp8e4m3) (E : Set ℕ)
    (f10 : BufTy.Contents (Elt F) arg10.view.ty) (f11 : BufTy.Contents (Elt F) arg11.view.ty) (f8 : BufTy.Contents (Elt F) arg8.view.ty) :
    iprop((arg10.view.loc (c : Thread nD τ) ↦[arg10.view.set]{fullShare} f10) ∗ (arg11.view.loc (c : Thread nD τ) ↦[arg11.view.set]{fullShare} f11)
      ∗ (arg8.view.loc (c : Thread nD τ) ↦[arg8.view.set]{fullShare} f8))
    ⊢ wp frame (wpE (defs₀ (F := F)) Variants.none (c : Thread nD τ) none) E
        (trip arg8 arg10 arg11 a a' s d d' ia ia' is id id' st st' p p')
        (fun _ => (iprop((arg10.view.loc (c : Thread nD τ) ↦[arg10.view.set]{fullShare} f10) ∗ (arg11.view.loc (c : Thread nD τ) ↦[arg11.view.set]{fullShare} f11)
          ∗ (arg8.view.loc (c : Thread nD τ) ↦[arg8.view.set]{fullShare}
              arg8.view.writes (Elt F) f8
                [⟨Rect.unit (s := S1x640x9472) d' S1x64x128.size id', p' (arg10.view.readAt (Elt F) (Rect.unit (s := S37x640x256) a' S1x64x128.size ia').toLoadRect f10) (arg11.view.readAt (Elt F) (Rect.unit (s := S640x128) s S64x128.size is).toLoadRect f11)⟩,
                 ⟨Rect.unit (s := S1x640x9472) d S1x64x128.size id, p (arg10.view.readAt (Elt F) (Rect.unit (s := S37x640x256) a S1x64x128.size ia).toLoadRect f10) (arg11.view.readAt (Elt F) (Rect.unit (s := S640x128) s S64x128.size is).toLoadRect f11)⟩])) : sProp 𝕄)) := by
  unfold trip
  iintro ⟨H10, H11, H8⟩
  sl_exec
  sl_step
  isplitl [H10]; · iexact H10
  isplitl [H11]; · iexact H11
  iexact H8

/-- One quantised value: the quotient by the scale clipped to ±448 and rounded to the 8-bit format. -/
def code (a s : F .f32) : F .fp8e4m3 :=
  k0_pay18 (fun _ => a) (fun _ => s) (ix3 (0 : Fin 1) (0 : Fin 64) (0 : Fin 128))

theorem pay18_apply (x : Vec F S1x64x128 .f32) (y : Vec F S64x128 .f32) (u : Fin 1) (r : Fin 64) (l : Fin 128) :
    k0_pay18 x y (ix3 u r l) = code (x (ix3 (0 : Fin 1) r l)) (y (ix2 r l)) := by
  unfold code k0_pay18
  erw [shapeCast_ab_1ab_apply, shapeCast_ab_1ab_apply]
  simp only [truncf, minimumf, maximumf, divf, broadcast]
  erw [shapeCast_1ab_ab_apply, shapeCast_1ab_ab_apply]

/-- The codes' buffer holds the codes of every plane before `jj`, and of the first `n` rows of plane `jj`. -/
def Done (X10 : S37x640x256.Idx → F .f32) (X11 : S640x128.Idx → F .f32) (jj n : ℕ) (G : S1x640x9472.Idx → F .fp8e4m3) : Prop :=
  ∀ (j : Fin 37) (r : Fin 640) (l : Fin 256) (k : Fin 9472), k.val = 256 * j.val + l.val → (j.val < jj ∨ (j.val = jj ∧ r.val < n)) →
    G (ix3 (0 : Fin 1) r k) = code (X10 (ix3 j r l)) (X11 (ix2 r ⟨l.val % 128, Nat.mod_lt _ (by decide)⟩))

/-- A trip takes the buffer from its first `64 k` rows of plane `jj` done to the first `64 (k + 1)`. -/
theorem done_step (arg8 : Memref sig .tc .vmem S1x640x9472 .fp8e4m3) (arg10 : Memref sig .tc .vmem S37x640x256 .f32)
    (arg11 : Memref sig .tc .vmem S640x128 .f32) (jj k : ℕ)
    (a a' : Fin 3 → ℕ) (s : Fin 2 → ℕ) (d d' : Fin 3 → ℕ) (ia) (ia') (is) (id) (id')
    (ea : a = ![jj, 64 * k, 0]) (ea' : a' = ![jj, 64 * k, 128]) (es : s = ![64 * k, 0])
    (ed : d = ![0, 64 * k, 256 * jj]) (ed' : d' = ![0, 64 * k, 256 * jj + 128])
    (f10 : BufTy.Contents (Elt F) arg10.view.ty) (f11 : BufTy.Contents (Elt F) arg11.view.ty) (f8 : BufTy.Contents (Elt F) arg8.view.ty)
    (h : Done (arg10.view.read (Elt F) f10) (arg11.view.read (Elt F) f11) jj (64 * k) (arg8.view.read (Elt F) f8)) :
    Done (arg10.view.read (Elt F) f10) (arg11.view.read (Elt F) f11) jj (64 * (k + 1)) (arg8.view.read (Elt F)
      (arg8.view.writes (Elt F) f8
                [⟨Rect.unit (s := S1x640x9472) d' S1x64x128.size id', k0_pay18 (arg10.view.readAt (Elt F) (Rect.unit (s := S37x640x256) a' S1x64x128.size ia').toLoadRect f10) (arg11.view.readAt (Elt F) (Rect.unit (s := S640x128) s S64x128.size is).toLoadRect f11)⟩,
                 ⟨Rect.unit (s := S1x640x9472) d S1x64x128.size id, k0_pay18 (arg10.view.readAt (Elt F) (Rect.unit (s := S37x640x256) a S1x64x128.size ia).toLoadRect f10) (arg11.view.readAt (Elt F) (Rect.unit (s := S640x128) s S64x128.size is).toLoadRect f11)⟩])) := by
  subst ea ea' es ed ed'
  intro j r l q hq hj
  by_cases hin : j.val = jj ∧ 64 * k ≤ r.val
  · obtain ⟨hjj, hr⟩ := hin
    have hr2 : r.val < 64 * k + 64 := by omega
    by_cases hl : l.val < 128
    · rw [View.read_writes_cons_unit_of_not_mem _ _ _ _ _ _ rfl (2 : Fin 3) (by
        left; show q.val < 256 * jj + 128; omega)]
      rw [View.read_writes_cons_unit_of_mem _ _ _ _ _ _
        (ix3 (0 : Fin 1) (⟨r.val - 64 * k, by omega⟩ : Fin 64) (⟨l.val, hl⟩ : Fin 128)) rfl (by
        intro x; match x with
          | ⟨0, _⟩ => rfl
          | ⟨1, _⟩ => show r.val = 64 * k + (r.val - 64 * k); omega
          | ⟨2, _⟩ => show q.val = 256 * jj + l.val; omega)]
      rw [pay18_apply]
      refine congrArg₂ code ?_ ?_
      · refine congrArg (arg10.view.read (Elt F) f10) (funext fun x => Fin.ext ?_)
        match x with
          | ⟨0, _⟩ => show jj + 1 * 0 = j.val; omega
          | ⟨1, _⟩ => show 64 * k + 1 * (r.val - 64 * k) = r.val; omega
          | ⟨2, _⟩ => show 0 + 1 * l.val = l.val; omega
      · refine congrArg (arg11.view.read (Elt F) f11) (funext fun x => Fin.ext ?_)
        match x with
          | ⟨0, _⟩ => show 64 * k + 1 * (r.val - 64 * k) = r.val; omega
          | ⟨1, _⟩ => show 0 + 1 * l.val = l.val % 128; omega
    · rw [View.read_writes_cons_unit_of_mem _ _ _ _ _ _
        (ix3 (0 : Fin 1) (⟨r.val - 64 * k, by omega⟩ : Fin 64) (⟨l.val - 128, by omega⟩ : Fin 128)) rfl (by
        intro x; match x with
          | ⟨0, _⟩ => rfl
          | ⟨1, _⟩ => show r.val = 64 * k + (r.val - 64 * k); omega
          | ⟨2, _⟩ => show q.val = 256 * jj + 128 + (l.val - 128); omega)]
      rw [pay18_apply]
      refine congrArg₂ code ?_ ?_
      · refine congrArg (arg10.view.read (Elt F) f10) (funext fun x => Fin.ext ?_)
        match x with
          | ⟨0, _⟩ => show jj + 1 * 0 = j.val; omega
          | ⟨1, _⟩ => show 64 * k + 1 * (r.val - 64 * k) = r.val; omega
          | ⟨2, _⟩ => show 128 + 1 * (l.val - 128) = l.val; omega
      · refine congrArg (arg11.view.read (Elt F) f11) (funext fun x => Fin.ext ?_)
        match x with
          | ⟨0, _⟩ => show 64 * k + 1 * (r.val - 64 * k) = r.val; omega
          | ⟨1, _⟩ => show 0 + 1 * (l.val - 128) = l.val % 128; omega
  · have hout : q.val < 256 * jj ∨ r.val < 64 * k := by omega
    have h0 := h j r l q hq (by omega)
    rcases hout with hc | hc
    · rw [View.read_writes_cons_unit_of_not_mem _ _ _ _ _ _ rfl (2 : Fin 3) (by
          left; show q.val < 256 * jj + 128; omega),
        View.read_writes_cons_unit_of_not_mem _ _ _ _ _ _ rfl (2 : Fin 3) (by
          left; show q.val < 256 * jj; omega)]
      exact h0
    · rw [View.read_writes_cons_unit_of_not_mem _ _ _ _ _ _ rfl (1 : Fin 3) (by
          left; show r.val < 64 * k; omega),
        View.read_writes_cons_unit_of_not_mem _ _ _ _ _ _ rfl (1 : Fin 3) (by
          left; show r.val < 64 * k; omega)]
      exact h0

/-- What a quantising loop holds: the planes and the scales, and the codes' buffer with the planes before `jj` and
    `n` rows of plane `jj` done. -/
def Held (c : Dev nD) (arg8 : Memref sig .tc .vmem S1x640x9472 .fp8e4m3) (arg10 : Memref sig .tc .vmem S37x640x256 .f32)
    (arg11 : Memref sig .tc .vmem S640x128 .f32) (X10 : S37x640x256.Idx → F .f32) (X11 : S640x128.Idx → F .f32) (jj n : ℕ) : sProp 𝕄 :=
  iprop(owns (c : Thread nD τ) arg10 fullShare X10 ∗ owns (c : Thread nD τ) arg11 fullShare X11
    ∗ ∃ G, ⌜Done X10 X11 jj n G⌝ ∗ owns (c : Thread nD τ) arg8 fullShare G)

/-- A quantising loop of ten trips finishes plane `jj`. -/
theorem wp_loop (c : Dev nD) (arg8 : Memref sig .tc .vmem S1x640x9472 .fp8e4m3) (arg10 : Memref sig .tc .vmem S37x640x256 .f32)
    (arg11 : Memref sig .tc .vmem S640x128 .f32) (X10 : S37x640x256.Idx → F .f32) (X11 : S640x128.Idx → F .f32) (jj : ℕ)
    (L : Scf.Loop 32) (ok : L.OK) (h10 : L.trips = 10)
    (a a' : Fin L.trips → Fin 3 → ℕ) (s : Fin L.trips → Fin 2 → ℕ) (d d' : Fin L.trips → Fin 3 → ℕ)
    (ia : ∀ k x, a k x + S1x64x128.size x ≤ S37x640x256.size x) (ia' : ∀ k x, a' k x + S1x64x128.size x ≤ S37x640x256.size x)
    (is : ∀ k x, s k x + S64x128.size x ≤ S640x128.size x)
    (id : ∀ k x, d k x + S1x64x128.size x ≤ S1x640x9472.size x) (id' : ∀ k x, d' k x + S1x64x128.size x ≤ S1x640x9472.size x)
    (st : ∀ k, (arg8.access (Rect.unit (s := S1x640x9472) (d k) S1x64x128.size (id k))).Stores Finset.univ)
    (st' : ∀ k, (arg8.access (Rect.unit (s := S1x640x9472) (d' k) S1x64x128.size (id' k))).Stores Finset.univ)
    (ea : ∀ k, a k = ![jj, 64 * k.val, 0]) (ea' : ∀ k, a' k = ![jj, 64 * k.val, 128]) (es : ∀ k, s k = ![64 * k.val, 0])
    (ed : ∀ k, d k = ![0, 64 * k.val, 256 * jj]) (ed' : ∀ k, d' k = ![0, 64 * k.val, 256 * jj + 128])
    (E : Set ℕ) :
    Held c arg8 arg10 arg11 X10 X11 jj 0
    ⊢ wp frame (wpE (defs₀ (F := F)) Variants.none (c : Thread nD τ) none) E
        (Scf.Loop.for L ok () (fun k _ => trip arg8 arg10 arg11 (a k) (a' k) (s k) (d k) (d' k) (ia k) (ia' k) (is k) (id k) (id' k) (st k) (st' k) k0_pay18 k0_pay18))
        (fun _ => (Held c arg8 arg10 arg11 X10 X11 (jj + 1) 0 : sProp 𝕄)) := by
  unfold Scf.Loop.for
  iintro H
  iapply (Scf.wp_for (M := 𝕄) frame (wpE (defs₀ (F := F)) Variants.none (c : Thread nD τ) none) E L.lb L.ub L.st ok ()
    (fun k _ => trip arg8 arg10 arg11 (a k) (a' k) (s k) (d k) (d' k) (ia k) (ia' k) (is k) (id k) (id' k) (st k) (st' k) k0_pay18 k0_pay18)
    (fun n _ => Held c arg8 arg10 arg11 X10 X11 jj (64 * n)) ?_)
  rotate_left
  · isplitl [H]; · iexact H
    iintro %_ H
    unfold Held
    icases H with ⟨H10, H11, %G, %hG, H8⟩
    isplitl [H10]; · iexact H10
    isplitl [H11]; · iexact H11
    iexists G; isplitr
    · ipureintro
      intro j r l k hk hj
      have hh : Scf.trips L.lb L.ub L.st = 10 := h10
      exact hG j r l k hk (by rw [hh]; omega)
    iexact H8
  · intro k _
    unfold Held owns
    iintro ⟨⟨%f10, %h10', H10⟩, ⟨%f11, %h11', H11⟩, %G, %hG, %f8, %h8, H8⟩
    subst h10' h11' h8
    iapply (wp_wand_r frame (wpE (defs₀ (F := F)) Variants.none (c : Thread nD τ) none) E)
    isplitl [H10 H11 H8]
    · iapply (wp_trip c arg8 arg10 arg11 (a k) (a' k) (s k) (d k) (d' k) (ia k) (ia' k) (is k) (id k) (id' k) (st k) (st' k) k0_pay18 k0_pay18 E f10 f11 f8)
      isplitl [H10]; · iexact H10
      isplitl [H11]; · iexact H11
      iexact H8
    · iintro %_ ⟨H10, H11, H8⟩
      isplitl [H10]; · iexists _; isplitr; swap; · iexact H10
                       ipureintro; rfl
      isplitl [H11]; · iexists _; isplitr; swap; · iexact H11
                       ipureintro; rfl
      iexists _; isplitr; swap
      · iexists _; isplitr; swap; · iexact H8
        ipureintro; rfl
      ipureintro
      exact done_step arg8 arg10 arg11 jj k.val _ _ _ _ _ _ _ _ _ _ (ea k) (ea' k) (es k) (ed k) (ed' k) f10 f11 f8 hG

end Cert.GuKIdeal.Gu

end
-- ==== Proof.Gu.Vals.lean ====
/- The values the gate-and-up kernel holds: activations, running maxima, scales; and what its stores leave, read back. -/
module

public import proofs.«01_k».proof.Proof.Gu.Trip

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The first 128 weight scales of a block of 256. -/
def lo (x : Vec F S1x256 .f32) : Vec F S1x128 .f32 := View.ld (Val := Elt F) (e' := .f32) x (Rect.unit (s := S1x256) ![0, 0] S1x128.size inb_S1x256_S1x128_0_0)
/-- The last 128 weight scales of a block of 256. -/
def hi (x : Vec F S1x256 .f32) : Vec F S1x128 .f32 := View.ld (Val := Elt F) (e' := .f32) x (Rect.unit (s := S1x256) ![0, 128] S1x128.size inb_S1x256_S1x128_0_128)

/-- The activations of the first 128 columns of a block. -/
def actL (x0 : Vec F S1x640x3584 .fp8e4m3) (x2 x3 : Vec F S3584x256 .fp8e4m3) (x4 x5 : Vec F S1x256 .f32) (s : Vec F S640x128 .f32) : FVec F S640x128 .f32 :=
  k0_pay88 x0 x2 x0 x3 s (lo x4) s (lo x5)
/-- The activations of the last 128 columns of a block. -/
def actH (x0 : Vec F S1x640x3584 .fp8e4m3) (x2 x3 : Vec F S3584x256 .fp8e4m3) (x4 x5 : Vec F S1x256 .f32) (s : Vec F S640x128 .f32) : FVec F S640x128 .f32 :=
  k0_pay91 (k0_pay86 x0 x2) (k0_pay87 x0 x3) s (hi x4) s (hi x5)
/-- The activation at row `r` and column `l` of a block. -/
def act (x0 : Vec F S1x640x3584 .fp8e4m3) (x2 x3 : Vec F S3584x256 .fp8e4m3) (x4 x5 : Vec F S1x256 .f32) (s : Vec F S640x128 .f32)
    (r : Fin 640) (l : Fin 256) : F .f32 :=
  if h : l.val < 128 then actL x0 x2 x3 x4 x5 s (ix2 r ⟨l.val, h⟩) else actH x0 x2 x3 x4 x5 s (ix2 r ⟨l.val - 128, by omega⟩)
/-- The running maxima after a block: lane by lane over the two halves of the block. -/
def maxNext (x0 : Vec F S1x640x3584 .fp8e4m3) (x2 x3 : Vec F S3584x256 .fp8e4m3) (x4 x5 : Vec F S1x256 .f32) (s : Vec F S640x128 .f32)
    (X12 : Vec F S640x128 .f32) : Vec F S640x128 .f32 :=
  k0_pay93 (k0_pay86 x0 x2) (k0_pay87 x0 x3) s (hi x4) s (hi x5) (k0_pay90 (actL x0 x2 x3 x4 x5 s) X12)

/-- The scratch with the first half of plane `j` replaced. -/
def setL (j : ℕ) (v : S640x128.Idx → F .f32) (X : S37x640x256.Idx → F .f32) : S37x640x256.Idx → F .f32 :=
  fun y => if h : (y 0).val = j ∧ (y 2).val < 128 then v (ix2 (y 1) (⟨(y 2).val, h.2⟩ : Fin 128)) else X y
/-- The scratch with the last half of plane `j` replaced. -/
def setH (j : ℕ) (v : S640x128.Idx → F .f32) (X : S37x640x256.Idx → F .f32) : S37x640x256.Idx → F .f32 :=
  fun y => if h : (y 0).val = j ∧ 128 ≤ (y 2).val then v (ix2 (y 1) (⟨(y 2).val - 128, by have h2 : (y 2).val < 256 := (y 2).isLt; omega⟩ : Fin 128)) else X y

/-- Five blocks of 128 rows, one above the other. -/
def stack (w : Fin 5 → S128x128.Idx → F .f32) : S640x128.Idx → F .f32 :=
  fun y => w ⟨(y 0).val / 128, by have h : (y 0).val < 640 := (y 0).isLt; omega⟩ (ix2 (⟨(y 0).val % 128, Nat.mod_lt _ (by decide)⟩ : Fin 128) (y 1))
/-- Block `k` of 128 rows. -/
def rows (X : S640x128.Idx → F .f32) (k : Fin 5) : S128x128.Idx → F .f32 :=
  fun z => X (ix2 (⟨128 * k.val + (z 0).val, by have h : (z 0).val < 128 := (z 0).isLt; omega⟩ : Fin 640) (z 1))

/-- The scales of batch `b`'s rows, each over 128 lanes. -/
def lanes (b : Fin 3) (x1 : Vec F S3x640 .f32) : S640x128.Idx → F .f32 := fun y => x1 (ix2 b (y 0))
/-- The scale of each row of running maxima, over 128 lanes. -/
def scales (X12 : S640x128.Idx → F .f32) : S640x128.Idx → F .f32 := stack fun k => k0_pay7 (rows X12 k)
/-- The scales as one row. -/
def scaleRow (X12 : S640x128.Idx → F .f32) : S1x640.Idx → F .f32 :=
  k0_pay17 (k0_pay16 (k0_pay7 (rows X12 0))) (k0_pay7 (rows X12 1)) (k0_pay7 (rows X12 2)) (k0_pay7 (rows X12 3)) (k0_pay7 (rows X12 4))
/-- The array of scales with row `b` replaced. -/
def setRow (b : ℕ) (v : S1x640.Idx → F .f32) (X : S3x640.Idx → F .f32) : S3x640.Idx → F .f32 :=
  fun y => if (y 0).val = b then v (ix2 (0 : Fin 1) (y 1)) else X y

section Reads

variable {sig' : RefSig} {κ : Kind} {sp : Space}

theorem read_setL (v : View sig' κ sp S37x640x256 .f32) (f : v.ty.Contents (Elt F)) (j : ℕ) (off : Fin 3 → ℕ) (inb) (h : off = ![j, 0, 0])
    (w : S640x128.Idx → F .f32) :
    v.read (Elt F) (v.writes (Elt F) f [⟨Rect.unit (s := S37x640x256) off S1x640x128.size inb, shapeCast S1x640x128 w shapeCasts_S640x128_S1x640x128⟩])
      = setL j w (v.read (Elt F) f) := by
  subst h
  funext y
  have h1 : (y 1).val < 640 := (y 1).isLt
  unfold setL
  split
  · rename_i hh
    rw [View.read_writes_cons_unit_of_mem _ _ _ _ _ _ (ix3 (0 : Fin 1) (y 1) (⟨(y 2).val, hh.2⟩ : Fin 128)) rfl (by
      intro x; match x with
        | ⟨0, _⟩ => exact hh.1
        | ⟨1, _⟩ => show (y 1).val = 0 + (y 1).val; omega
        | ⟨2, _⟩ => show (y 2).val = 0 + (y 2).val; omega)]
    erw [shapeCast_ab_1ab_apply]
  · rename_i hh
    by_cases h0 : (y 0).val = j
    · rw [View.read_writes_cons_unit_of_not_mem _ _ _ _ _ _ rfl (2 : Fin 3) (by
        right; show 0 + 128 ≤ (y 2).val; omega)]
      rfl
    · rw [View.read_writes_cons_unit_of_not_mem _ _ _ _ _ _ rfl (0 : Fin 3) (by
        show (y 0).val < j ∨ j + 1 ≤ (y 0).val; omega)]
      rfl

theorem read_setH (v : View sig' κ sp S37x640x256 .f32) (f : v.ty.Contents (Elt F)) (j : ℕ) (off : Fin 3 → ℕ) (inb) (h : off = ![j, 0, 128])
    (w : S640x128.Idx → F .f32) :
    v.read (Elt F) (v.writes (Elt F) f [⟨Rect.unit (s := S37x640x256) off S1x640x128.size inb, shapeCast S1x640x128 w shapeCasts_S640x128_S1x640x128⟩])
      = setH j w (v.read (Elt F) f) := by
  subst h
  funext y
  have h1 : (y 1).val < 640 := (y 1).isLt
  have h2 : (y 2).val < 256 := (y 2).isLt
  unfold setH
  split
  · rename_i hh
    rw [View.read_writes_cons_unit_of_mem _ _ _ _ _ _ (ix3 (0 : Fin 1) (y 1) (⟨(y 2).val - 128, by omega⟩ : Fin 128)) rfl (by
      intro x; match x with
        | ⟨0, _⟩ => exact hh.1
        | ⟨1, _⟩ => show (y 1).val = 0 + (y 1).val; omega
        | ⟨2, _⟩ => show (y 2).val = 128 + ((y 2).val - 128); omega)]
    erw [shapeCast_ab_1ab_apply]
  · rename_i hh
    by_cases h0 : (y 0).val = j
    · rw [View.read_writes_cons_unit_of_not_mem _ _ _ _ _ _ rfl (2 : Fin 3) (by
        left; show (y 2).val < 128; omega)]
      rfl
    · rw [View.read_writes_cons_unit_of_not_mem _ _ _ _ _ _ rfl (0 : Fin 3) (by
        show (y 0).val < j ∨ j + 1 ≤ (y 0).val; omega)]
      rfl

theorem read_setRow (v : View sig' κ sp S3x640 .f32) (f : v.ty.Contents (Elt F)) (b : ℕ) (inb)
    (w : S1x640.Idx → F .f32) :
    v.read (Elt F) (v.writes (Elt F) f [⟨Rect.unit (s := S3x640) ![b, 0] S1x640.size inb, w⟩])
      = setRow b w (v.read (Elt F) f) := by
  funext y
  unfold setRow
  split
  · rename_i hh
    rw [View.read_writes_cons_unit_of_mem _ _ _ _ _ _ (ix2 (0 : Fin 1) (y 1)) rfl (by
      intro x; match x with
        | ⟨0, _⟩ => exact hh
        | ⟨1, _⟩ => show (y 1).val = 0 + (y 1).val; omega)]
    rfl
  · rename_i hh
    rw [View.read_writes_cons_unit_of_not_mem _ _ _ _ _ _ rfl (0 : Fin 2) (by
      show (y 0).val < b ∨ b + 1 ≤ (y 0).val; omega)]
    rfl

/-- Five stores of 128 rows each leave the blocks stacked. -/
theorem read_stack (v : View sig' κ sp S640x128 .f32) (f : v.ty.Contents (Elt F)) (w : Fin 5 → S128x128.Idx → F .f32) (i0 i1 i2 i3 i4) :
    v.read (Elt F) (v.writes (Elt F) f
      [⟨Rect.unit (s := S640x128) ![512, 0] S128x128.size i4, w 4⟩, ⟨Rect.unit (s := S640x128) ![384, 0] S128x128.size i3, w 3⟩,
       ⟨Rect.unit (s := S640x128) ![256, 0] S128x128.size i2, w 2⟩, ⟨Rect.unit (s := S640x128) ![128, 0] S128x128.size i1, w 1⟩,
       ⟨Rect.unit (s := S640x128) ![0, 0] S128x128.size i0, w 0⟩]) = stack w := by
  funext y
  have h0 : (y 0).val < 640 := (y 0).isLt
  have miss : ∀ (o : ℕ) (inb) (w : S128x128.Idx → F .f32) (L : List (View.Piece (Elt F) S640x128 .f32)), (y 0).val < o →
      v.read (Elt F) (v.writes (Elt F) f ((⟨Rect.unit (s := S640x128) ![o, 0] S128x128.size inb, w⟩ : View.Piece (Elt F) S640x128 .f32) :: L)) y
        = v.read (Elt F) (v.writes (Elt F) f L) y := fun o inb w L h =>
    View.read_writes_cons_unit_of_not_mem _ _ _ _ _ _ rfl (0 : Fin 2) (Or.inl h)
  have hit : ∀ (k : Fin 5) (o : ℕ) (inb) (L : List (View.Piece (Elt F) S640x128 .f32)), o = 128 * k.val → o ≤ (y 0).val → (y 0).val < o + 128 →
      v.read (Elt F) (v.writes (Elt F) f ((⟨Rect.unit (s := S640x128) ![o, 0] S128x128.size inb, w k⟩ : View.Piece (Elt F) S640x128 .f32) :: L)) y
        = stack w y := fun k o inb L ho h h' => by
    rw [View.read_writes_cons_unit_of_mem _ _ _ _ _ _ (ix2 (⟨(y 0).val % 128, Nat.mod_lt _ (by decide)⟩ : Fin 128) (y 1)) rfl (by
      intro x; match x with
        | ⟨0, _⟩ => show (y 0).val = o + (y 0).val % 128; omega
        | ⟨1, _⟩ => show (y 1).val = 0 + (y 1).val; omega)]
    unfold stack
    have hk : k = ⟨(y 0).val / 128, by omega⟩ := Fin.ext (by show k.val = (y 0).val / 128; omega)
    rw [hk]
    rfl
  by_cases c4 : 512 ≤ (y 0).val
  · exact hit 4 512 i4 _ rfl c4 (by omega)
  rw [miss 512 i4 _ _ (by omega)]
  by_cases c3 : 384 ≤ (y 0).val
  · exact hit 3 384 i3 _ rfl c3 (by omega)
  rw [miss 384 i3 _ _ (by omega)]
  by_cases c2 : 256 ≤ (y 0).val
  · exact hit 2 256 i2 _ rfl c2 (by omega)
  rw [miss 256 i2 _ _ (by omega)]
  by_cases c1 : 128 ≤ (y 0).val
  · exact hit 1 128 i1 _ rfl c1 (by omega)
  rw [miss 128 i1 _ _ (by omega)]
  exact hit 0 0 i0 _ rfl (by omega) (by omega)

/-- A load of block `k` of the rows. -/
theorem readAt_rows (v : View sig' κ sp S640x128 .f32) (f : v.ty.Contents (Elt F)) (k : Fin 5) (o : ℕ) (h : o = 128 * k.val) (inb) :
    v.readAt (Elt F) (Rect.unit (s := S640x128) ![o, 0] S128x128.size inb).toLoadRect f = rows (v.read (Elt F) f) k := by
  subst h
  funext z
  unfold rows
  refine congrArg (v.read (Elt F) f) (funext fun x => Fin.ext ?_)
  match x with
    | ⟨0, _⟩ => show 128 * k.val + 1 * (z 0).val = 128 * k.val + (z 0).val; omega
    | ⟨1, _⟩ => show 0 + 1 * (z 1).val = (z 1).val; omega

end Reads

/-- Block `k` of the stacked blocks is block `k`. -/
theorem rows_stack (w : Fin 5 → S128x128.Idx → F .f32) (k : Fin 5) : rows (stack w) k = w k := by
  funext z
  have hz : (z 0).val < 128 := (z 0).isLt
  unfold rows stack
  dsimp only
  have hk : (⟨(128 * k.val + (z 0).val) / 128, by omega⟩ : Fin 5) = k := Fin.ext (by show (128 * k.val + (z 0).val) / 128 = k.val; omega)
  have e : ∀ k' : Fin 5, k' = k → ∀ z' : S128x128.Idx, z' = z → w k' z' = w k z := by intro k' h z' h'; rw [h, h']
  refine e _ hk _ (funext fun x => Fin.ext ?_)
  match x with
    | ⟨0, _⟩ => show (128 * k.val + (z 0).val) % 128 = (z 0).val; omega
    | ⟨1, _⟩ => rfl

/-- A slice of 128 of a row, repeated over 128 rows and transposed: the column of the slice over every lane. -/
theorem column_apply (o : ℕ) (ho : o + 128 ≤ 640) (v : FVec F S1x640 .f32) (h1 : S1x640.Slices ![0, o] S1x128) (h2 : S1x128.ShapeCasts S1x128)
    (h3 : S1x128.Broadcasts S128x128) (h4 : S128x128.Transposes [1, 0] S128x128) (h5 : S128x128.ShapeCasts S128x128) (a l : Fin 128) :
    shapeCast S128x128 (transpose S128x128 [1, 0] (broadcastTo S128x128 (shapeCast S1x128 (extractStridedSlice S1x128 ![0, o] v h1) h2) h3) h4) h5 (ix2 a l)
      = v (ix2 (0 : Fin 1) (⟨o + a.val, by omega⟩ : Fin 640)) := by
  rw [shapeCast_self]
  erw [transpose_ix2_apply, broadcastTo_1b_ab_apply]
  rw [shapeCast_self]
  refine extractStridedSlice_apply _ v h1 _ _ ?_
  intro x; match x with
    | ⟨0, _⟩ => rfl
    | ⟨1, _⟩ => rfl

/-- The chosen row of the three rows of scales, transposed and repeated over the lanes. -/
theorem stack_lanes (b : Fin 3) (x1 : Vec F S3x640 .f32) (a : BitVec 32) (ha : a = BitVec.ofNat 32 b.val)
    (v72 v74 v77 : Vec F S1x640 .f32) (e0 : ∀ r : Fin 640, v72 (ix2 (0 : Fin 1) r) = x1 (ix2 (0 : Fin 3) r))
    (e1 : ∀ r : Fin 640, v74 (ix2 (0 : Fin 1) r) = x1 (ix2 (1 : Fin 3) r)) (e2 : ∀ r : Fin 640, v77 (ix2 (0 : Fin 1) r) = x1 (ix2 (2 : Fin 3) r)) :
    stack ![k0_pay3 a v72 v74 v77, k0_pay4 a v72 v74 v77, k0_pay5 a v72 v74 v77, k0_pay84 (k0_pay6 a v72 v74 v77), k0_pay85 (k0_pay2 a v72 v74 v77)] = lanes b x1 := by
  have h2 : ∀ r : Fin 640, k0_pay2 a v72 v74 v77 (ix2 (0 : Fin 1) r) = x1 (ix2 b r) := by
    intro r
    subst ha
    unfold k0_pay2
    match b with
      | ⟨0, _⟩ => exact e0 r
      | ⟨1, _⟩ => exact e1 r
      | ⟨2, _⟩ => exact e2 r
  funext y
  have h0 : (y 0).val < 640 := (y 0).isLt
  unfold stack lanes
  obtain ⟨k, hk⟩ : ∃ k : Fin 5, k = (⟨(y 0).val / 128, by omega⟩ : Fin 5) := ⟨_, rfl⟩
  obtain ⟨m, hm⟩ : ∃ m : Fin 128, m = (⟨(y 0).val % 128, Nat.mod_lt _ (by decide)⟩ : Fin 128) := ⟨_, rfl⟩
  have hkv : k.val = (y 0).val / 128 := by rw [hk]
  have hmv : m.val = (y 0).val % 128 := by rw [hm]
  rw [← hk, ← hm]
  have fin : ∀ (o : ℕ) (hy : o + m.val < 640), o = 128 * k.val →
      k0_pay2 a v72 v74 v77 (ix2 (0 : Fin 1) (⟨o + m.val, hy⟩ : Fin 640)) = x1 (ix2 b (y 0)) := fun o hy ho => by
    rw [h2]
    exact congrArg (fun r : Fin 640 => x1 (ix2 b r)) (Fin.ext (show o + m.val = (y 0).val by omega))
  match k, fin with
    | ⟨0, _⟩, fin => exact (column_apply 0 (by decide) (k0_pay2 a v72 v74 v77) slices_S1x640_o0_0_S1x128 shapeCasts_S1x128_S1x128 broadcasts_S1x128_S128x128 transposes_S128x128_p1_0_S128x128 shapeCasts_S128x128_S128x128 m (y 1)).trans (fin 0 (by omega) rfl)
    | ⟨1, _⟩, fin => exact (column_apply 128 (by decide) (k0_pay2 a v72 v74 v77) slices_S1x640_o0_128_S1x128 shapeCasts_S1x128_S1x128 broadcasts_S1x128_S128x128 transposes_S128x128_p1_0_S128x128 shapeCasts_S128x128_S128x128 m (y 1)).trans (fin 128 (by omega) rfl)
    | ⟨2, _⟩, fin => exact (column_apply 256 (by decide) (k0_pay2 a v72 v74 v77) slices_S1x640_o0_256_S1x128 shapeCasts_S1x128_S1x128 broadcasts_S1x128_S128x128 transposes_S128x128_p1_0_S128x128 shapeCasts_S128x128_S128x128 m (y 1)).trans (fin 256 (by omega) rfl)
    | ⟨3, _⟩, fin => exact (column_apply 384 (by decide) (k0_pay2 a v72 v74 v77) slices_S1x640_o0_384_S1x128 shapeCasts_S1x128_S1x128 broadcasts_S1x128_S128x128 transposes_S128x128_p1_0_S128x128 shapeCasts_S128x128_S128x128 m (y 1)).trans (fin 384 (by omega) rfl)
    | ⟨4, _⟩, fin => exact (column_apply 512 (by decide) (k0_pay2 a v72 v74 v77) slices_S1x640_o0_512_S1x128 shapeCasts_S1x128_S1x128 broadcasts_S1x128_S128x128 transposes_S128x128_p1_0_S128x128 shapeCasts_S128x128_S128x128 m (y 1)).trans (fin 512 (by omega) rfl)

/-- The first lane of a block, as a row. -/
theorem pay16_apply (v : FVec F S128x128 .f32) (m : Fin 128) : k0_pay16 v (ix2 (0 : Fin 1) m) = v (ix2 m (0 : Fin 128)) := by
  unfold k0_pay16
  refine (extractStridedSlice_apply (s := S128x128) (t := S1x128) ![0, 0] _ _ (ix2 (0 : Fin 1) m) (ix2 (0 : Fin 128) m) ?_).trans ?_
  · intro x; match x with
      | ⟨0, _⟩ => rfl
      | ⟨1, _⟩ => show m.val = 0 + m.val; omega
  · exact transpose_ix2_apply _ _ _ _

/-- Five rows of 128 side by side, read at a place. -/
theorem concat5 {α : Type} (p : Fin 5 → S1x128.Idx → α) (h : Shape.Concatenates [S1x128, S1x128, S1x128, S1x128, S1x128] S1x640 1) (r : Fin 640) (k : Fin 5)
    (hd : r.val / 128 = k.val) :
    concatenate S1x640 1 [⟨S1x128, p 0⟩, ⟨S1x128, p 1⟩, ⟨S1x128, p 2⟩, ⟨S1x128, p 3⟩, ⟨S1x128, p 4⟩] h (ix2 (0 : Fin 1) r)
      = p k (ix2 (0 : Fin 1) (⟨r.val % 128, Nat.mod_lt _ (by decide)⟩ : Fin 128)) := by
  refine concatenate_apply_piece (t := S1x640) (1 : Fin 2) [⟨S1x128, p 0⟩, ⟨S1x128, p 1⟩, ⟨S1x128, p 2⟩, ⟨S1x128, p 3⟩, ⟨S1x128, p 4⟩] h (ix2 (0 : Fin 1) r) k.val k.isLt S1x128 (p k) ?_ rfl (128 * k.val) ?_ _ ?_ ?_
  · match k with
      | ⟨0, _⟩ => rfl
      | ⟨1, _⟩ => rfl
      | ⟨2, _⟩ => rfl
      | ⟨3, _⟩ => rfl
      | ⟨4, _⟩ => rfl
  · match k with
      | ⟨0, _⟩ => rfl
      | ⟨1, _⟩ => rfl
      | ⟨2, _⟩ => rfl
      | ⟨3, _⟩ => rfl
      | ⟨4, _⟩ => rfl
  · intro b hb; match b, hb with
      | ⟨0, _⟩, _ => rfl
      | ⟨1, _⟩, hb => exact absurd rfl hb
  · show 128 * k.val + r.val % 128 = r.val; omega

/-- The row of scales holds the first lane of the scales. -/
theorem scaleRow_apply (X12 : S640x128.Idx → F .f32) (r : Fin 640) : scaleRow X12 (ix2 (0 : Fin 1) r) = scales X12 (ix2 r (0 : Fin 128)) := by
  have hr := r.isLt
  have step := concat5 (fun k => k0_pay16 (k0_pay7 (rows X12 k))) concatenates_S1x128_S1x128_S1x128_S1x128_S1x128_S1x640_d1 r
    ⟨r.val / 128, by omega⟩ rfl
  exact step.trans (pay16_apply _ _)

end Cert.GuKIdeal.Gu

end
-- ==== Proof.Gu.Data.lean ====
/- What the scratch buffers and the results hold from grid point to grid point, over the blocks each point is handed. -/
module

public import proofs.«01_k».proof.Proof.Gu.Vals
public import proofs.«01_k».proof.Proof.Gen.GuKIdeal.Frame
public import Idealize.ShloMosaic.Lib.WordCmp

@[expose] public section

set_option maxRecDepth 16384

noncomputable section

namespace Cert.GuKIdeal.Gu

open Idealize.ShloMosaic.Pipeline (RDat)

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (c : Dev nD)

/-- The first coordinate of a point is its batch, -/
theorem coord0 (t : Fin cfg0.N) : (grid0.coords t 0).val = t.val / 37 := by
  have ht : t.val < 111 := Nat.lt_of_lt_of_eq t.isLt N_0
  have e : (grid0.coords t 0).val = t.val / 37 % 3 := Pipeline.Grid.coords_val t 0 (by decide) rfl
  omega
/-- and the second its block within the batch. -/
theorem coord1 (t : Fin cfg0.N) : (grid0.coords t 1).val = t.val % 37 := by
  have e : (grid0.coords t 1).val = t.val / 1 % 37 := Pipeline.Grid.coords_val t 1 (by decide) rfl
  rw [e, Nat.div_one]
/-- The condition on a batch's first block. -/
theorem cond_first (t : Fin cfg0.N) : (Scalar.cmpi .ne (Scalar.extui (Scalar.cmpi .eq (BitVec.ofNat 32 (grid0.coords t 1).val) 0#32)) 0#32) = 1#1 ↔ t.val % 37 = 0 := by
  simp only [coord1 t]
  word_cmp
/-- The condition on a batch's last block. -/
theorem cond_last (t : Fin cfg0.N) : k0_cond2 (grid0.coords t) = 1#1 ↔ t.val % 37 = 36 := by
  simp only [k0_cond2, coord1 t]
  word_cmp

/-- The scales of the rows of point `t`'s batch, over 128 lanes. -/
def sc (t : Fin cfg0.N) : S640x128.Idx → F .f32 := lanes (grid0.coords t 0) (iblk m c 1 t)
/-- They are the batch's: the same at all its points. -/
theorem sc_eq (t u : Fin cfg0.N) (h : t.val / 37 = u.val / 37) : sc m c t = sc m c u := by
  have e : grid0.coords t 0 = grid0.coords u 0 := Fin.ext (by rw [coord0, coord0, h])
  unfold sc
  rw [e]
  exact congrArg (lanes _) rfl

/-- The activations that point `t` makes. -/
def tile (t : Fin cfg0.N) (r : Fin 640) (l : Fin 256) : F .f32 :=
  act (iblk m c 0 t) (iblk m c 2 t) (iblk m c 3 t) (iblk m c 4 t) (iblk m c 5 t) (sc m c t) r l
/-- The running maxima before point `t`, taken over it. -/
def maxStep (t : Fin cfg0.N) (M : S640x128.Idx → F .f32) : S640x128.Idx → F .f32 :=
  maxNext (iblk m c 0 t) (iblk m c 2 t) (iblk m c 3 t) (iblk m c 4 t) (iblk m c 5 t) (sc m c t) M
/-- The running maxima after point `n`: begun afresh at a batch's first block. -/
def maxAt : (n : ℕ) → n < cfg0.N → S640x128.Idx → F .f32
  | 0, h => maxStep m c ⟨0, h⟩ k0_pay1
  | n + 1, h => maxStep m c ⟨n + 1, h⟩ (if (n + 1) % 37 = 0 then k0_pay1 else maxAt n (Nat.lt_of_succ_lt h))

theorem maxAt_first (t : Fin cfg0.N) (h : t.val % 37 = 0) : maxAt m c t.val t.isLt = maxStep m c t k0_pay1 := by
  obtain ⟨n, hn⟩ := t
  cases n with
  | zero => rfl
  | succ n => unfold maxAt; rw [if_pos h]

theorem maxAt_later (n : ℕ) (hn : n + 1 < cfg0.N) (h : ¬ (n + 1) % 37 = 0) :
    maxAt m c (n + 1) hn = maxStep m c ⟨n + 1, hn⟩ (maxAt m c n (Nat.lt_of_succ_lt hn)) := by
  conv_lhs => unfold maxAt
  rw [if_neg h]

/-- The scratch of activations holds the planes of the batch's blocks up to point `t`. -/
def Planes (t : Fin cfg0.N) (X : S37x640x256.Idx → F .f32) : Prop :=
  ∀ u : Fin cfg0.N, u.val / 37 = t.val / 37 → u.val ≤ t.val → ∀ (r : Fin 640) (l : Fin 256),
    X (ix3 (⟨u.val % 37, Nat.mod_lt _ (by decide)⟩ : Fin 37) r l) = tile m c u r l

/-- The scratch after a point's two halves are stored. -/
def put (t : Fin cfg0.N) (X : S37x640x256.Idx → F .f32) : S37x640x256.Idx → F .f32 :=
  setH (grid0.coords t 1).val (actH (iblk m c 0 t) (iblk m c 2 t) (iblk m c 3 t) (iblk m c 4 t) (iblk m c 5 t) (sc m c t))
    (setL (grid0.coords t 1).val (actL (iblk m c 0 t) (iblk m c 2 t) (iblk m c 3 t) (iblk m c 4 t) (iblk m c 5 t) (sc m c t)) X)

theorem put_self (t : Fin cfg0.N) (X : S37x640x256.Idx → F .f32) (r : Fin 640) (l : Fin 256) :
    put m c t X (ix3 (⟨t.val % 37, Nat.mod_lt _ (by decide)⟩ : Fin 37) r l) = tile m c t r l := by
  unfold put tile act setH setL
  by_cases h : l.val < 128
  · rw [dif_neg (fun h' => by have := h'.2; change 128 ≤ l.val at this; omega), dif_pos ⟨(coord1 t).symm, h⟩, dif_pos h]
  · rw [dif_pos ⟨(coord1 t).symm, Nat.le_of_not_lt h⟩, dif_neg h]

theorem put_other (t : Fin cfg0.N) (X : S37x640x256.Idx → F .f32) (j : Fin 37) (hj : j.val ≠ t.val % 37) (r : Fin 640) (l : Fin 256) :
    put m c t X (ix3 j r l) = X (ix3 j r l) := by
  unfold put setH setL
  rw [dif_neg (fun h => hj (h.1.trans (coord1 t))), dif_neg (fun h => hj (h.1.trans (coord1 t)))]

/-- A point adds its plane: to a batch's first block nothing need be known of the scratch. -/
theorem planes_first (t : Fin cfg0.N) (h : t.val % 37 = 0) (X : S37x640x256.Idx → F .f32) : Planes m c t (put m c t X) := by
  intro u hu hle r l
  have e : u = t := Fin.ext (by omega)
  subst e
  exact put_self m c u X r l

theorem planes_later (n : ℕ) (hn : n + 1 < cfg0.N) (h : ¬ (n + 1) % 37 = 0) (X : S37x640x256.Idx → F .f32)
    (hX : Planes m c ⟨n, Nat.lt_of_succ_lt hn⟩ X) : Planes m c ⟨n + 1, hn⟩ (put m c ⟨n + 1, hn⟩ X) := by
  intro u hu hle r l
  by_cases e : u.val = n + 1
  · have e : u = ⟨n + 1, hn⟩ := Fin.ext e
    subst e
    exact put_self m c _ X r l
  · dsimp only at hu hle
    rw [put_other m c _ X _ (by dsimp only; omega)]
    exact hX u (by dsimp only; omega) (by dsimp only; omega) r l

end Cert.GuKIdeal.Gu

end
-- ==== Proof.Gu.Tile.lean ====
/- The activations a point makes are the reference's, over the extended reals. -/
module

public import proofs.«01_k».proof.Proof.Gu.Data
public import proofs.«01_k».proof.Proof.Gen.GuRIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GuKIdeal.Gu

open Cert.GuKIdeal Cert.GuKIdeal.Gen

variable (m : (ℓ : Loc nD τ sig) → Buf (Elt Ideal) ℓ) (c : Dev nD)

/-- The windows' block indices at each of the 111 grid points. -/
theorem idx : ∀ t : Fin cfg0.N, win0_0.index t = ![t.val / 37, 0, 0] ∧ win0_1.index t = ![0, 0] ∧ win0_2.index t = ![0, t.val % 37]
    ∧ win0_3.index t = ![0, 37 + t.val % 37] ∧ win0_4.index t = ![0, t.val % 37] ∧ win0_5.index t = ![0, 37 + t.val % 37]
    ∧ win0_6.index t = ![t.val / 37, 0, 0] ∧ win0_7.index t = ![0, 0] ∧ t.val < 111 :=
  (by decide +kernel : ∀ t : Fin grid0.N, _)

/-- The reference's activation of batch `b`, row `r`, column `k`, over the arguments. -/
def refAct (b : Fin 3) (r : Fin 640) (k : Fin 9472) : Ideal .f32 :=
  Cert.GuRIdeal.Gen.k0_pay1 (F := Ideal) (m ((c : Thread nD τ).loc main_arg0)) (m ((c : Thread nD τ).loc main_arg1))
    (m ((c : Thread nD τ).loc main_arg2)) (m ((c : Thread nD τ).loc main_arg3)) (ix3 b r k)

theorem tileL (t : Fin cfg0.N) (b : Fin 3) (hb : b.val = t.val / 37) (r : Fin 640) (l : Fin 128) (k : Fin 9472) (hk : k.val = 256 * (t.val % 37) + l.val) :
    actL (iblk m c 0 t) (iblk m c 2 t) (iblk m c 3 t) (iblk m c 4 t) (iblk m c 5 t) (sc m c t) (ix2 r l) = refAct m c b r k := by
  unfold refAct
  pointwise [actL, lo, sc, lanes, k0_pay88, k0_pay86, k0_pay87, Cert.GuRIdeal.Gen.k0_pay1]
  blk_point [iblk, V, idx t]
  all_goals exact (coord0 t).trans hb.symm

theorem tileH (t : Fin cfg0.N) (b : Fin 3) (hb : b.val = t.val / 37) (r : Fin 640) (l : Fin 128) (k : Fin 9472) (hk : k.val = 256 * (t.val % 37) + (128 + l.val)) :
    actH (iblk m c 0 t) (iblk m c 2 t) (iblk m c 3 t) (iblk m c 4 t) (iblk m c 5 t) (sc m c t) (ix2 r l) = refAct m c b r k := by
  unfold refAct
  pointwise [actH, hi, sc, lanes, k0_pay91, k0_pay86, k0_pay87, Cert.GuRIdeal.Gen.k0_pay1]
  blk_point [iblk, V, idx t]
  all_goals exact (coord0 t).trans hb.symm

/-- A point's activations are the reference's, at the point's batch and columns. -/
theorem tile_eq (t : Fin cfg0.N) (b : Fin 3) (hb : b.val = t.val / 37) (r : Fin 640) (l : Fin 256) (k : Fin 9472) (hk : k.val = 256 * (t.val % 37) + l.val) :
    tile m c t r l = refAct m c b r k := by
  unfold tile act
  split
  · rename_i h
    exact tileL m c t b hb r ⟨l.val, h⟩ k hk
  · rename_i h
    exact tileH m c t b hb r ⟨l.val - 128, by omega⟩ k (by dsimp only; omega)

end Cert.GuKIdeal.Gu

end
-- ==== Proof.Gu.Scale.lean ====
/- The scales and the codes are the reference's, over the extended reals. -/
module

public import proofs.«01_k».proof.Proof.Gu.Tile
public import proofs.«01_k».proof.Proof.Gu.Trip
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GuKIdeal.Gu

open Cert.GuKIdeal Cert.GuKIdeal.Gen

variable (m : (ℓ : Loc nD τ sig) → Buf (Elt Ideal) ℓ) (c : Dev nD)

/-- A code from an activation and a scale. -/
theorem code_def (a s : Ideal .f32) : code a s = FloatOps.truncf .fp8e4m3 bitsLt_fp8e4m3_f32
    (FloatOps.minimumf (Scalar.ofBits .f32 0x43E00000#32) (FloatOps.maximumf (Scalar.ofBits .f32 0xC3E00000#32) (FloatOps.divf a s))) := by
  unfold code
  pointwise [k0_pay18]

/-- A scale per row, repeated along the row. -/
theorem rep (S : FVec Ideal Cert.GuRIdeal.S3x640 .f32) (b : Fin 3) (r : Fin 640) (k : Fin 9472) :
    broadcastTo Cert.GuRIdeal.S3x640x9472 (shapeCast Cert.GuRIdeal.S3x640x1 S Cert.GuRIdeal.Facts₀.shapeCasts_S3x640_S3x640x1) Cert.GuRIdeal.Facts₀.broadcasts_S3x640x1_S3x640x9472 (ix3 b r k) = S (ix2 b r) := by
  pointwise []

/-- One code of the reference, from its activation and its scale. -/
theorem code_eq (a0 : Vec Ideal Cert.GuRIdeal.S3x640x3584 .fp8e4m3) (a1 : Vec Ideal Cert.GuRIdeal.S3x640 .f32) (a2 : Vec Ideal Cert.GuRIdeal.S3584x18944 .fp8e4m3) (a3 : Vec Ideal Cert.GuRIdeal.S18944 .f32)
    (b : Fin 3) (r : Fin 640) (k : Fin 9472) :
    Cert.GuRIdeal.Gen.k0_pay3 a0 a1 a2 a3 (ix3 b r k) = code (Cert.GuRIdeal.Gen.k0_pay1 a0 a1 a2 a3 (ix3 b r k)) (Cert.GuRIdeal.Gen.k0_pay2 a0 a1 a2 a3 (ix2 b r)) := by
  rw [code_def]
  unfold Cert.GuRIdeal.Gen.k0_pay3
  generalize Cert.GuRIdeal.Gen.k0_pay1 a0 a1 a2 a3 = A
  generalize Cert.GuRIdeal.Gen.k0_pay2 a0 a1 a2 a3 = S
  rw [truncf_apply, minimumf_apply, maximumf_apply, divf_apply, rep]
  rfl

theorem le_abs (a : EReal) : 0 ≤ max a (-a) := by
  rcases le_total 0 a with h | h
  · exact le_max_of_le_left h
  · exact le_max_of_le_right (EReal.neg_nonneg.mpr h)

/-- The greatest magnitude of a row of the reference's activations. -/
def refMax (b : Fin 3) (r : Fin 640) : EReal :=
  (Finset.univ : Finset (Fin 9472)).fold max (FloatOps.ofBits (F := Ideal) .f32 0xFF800000#32) fun k => max (refAct m c b r k) (-refAct m c b r k)

/-- The scale of a row whose greatest magnitude is `a`. -/
def scaleOf (a : Ideal .f32) : Ideal .f32 :=
  Scalar.select (FloatOps.cmpf .oeq a (Scalar.ofBits .f32 0x00000000#32)) (Scalar.ofBits .f32 0x3F800000#32) (FloatOps.divf a (Scalar.ofBits .f32 0x43E00000#32))

/-- The greatest of a row, at the extended reals. -/
theorem rowMax (A : FVec Ideal Cert.GuRIdeal.S3x640x9472 .f32) (h hφ hacc) (b : Fin 3) (r : Fin 640) :
    multiReduction .maximumf [2] Cert.GuRIdeal.S3x640 A 0xFF800000#32 h hφ hacc (ix2 b r)
      = (Finset.univ : Finset (Fin 9472)).fold max (FloatOps.ofBits (F := Ideal) .f32 0xFF800000#32) fun k => A (ix3 b r k) := by
  pointwise []

/-- The quantiser's scale taken entry by entry. -/
theorem scaleOf_vec (M : FVec Ideal Cert.GuRIdeal.S3x640 .f32) (i : Cert.GuRIdeal.S3x640.Idx) :
    select (cmpf .oeq M (broadcast Cert.GuRIdeal.S3x640 (Scalar.ofBits .f32 0x00000000#32)))
      (broadcast Cert.GuRIdeal.S3x640 (Scalar.ofBits .f32 0x3F800000#32))
      (divf M (broadcast Cert.GuRIdeal.S3x640 (Scalar.ofBits .f32 0x43E00000#32))) i = scaleOf (M i) := rfl

/-- The reference's scale of a row, from its activations. -/
theorem refScale_of (a0 : Vec Ideal Cert.GuRIdeal.S3x640x3584 .fp8e4m3) (a1 : Vec Ideal Cert.GuRIdeal.S3x640 .f32) (a2 : Vec Ideal Cert.GuRIdeal.S3584x18944 .fp8e4m3) (a3 : Vec Ideal Cert.GuRIdeal.S18944 .f32)
    (b : Fin 3) (r : Fin 640) :
    Cert.GuRIdeal.Gen.k0_pay2 a0 a1 a2 a3 (ix2 b r) = scaleOf ((Finset.univ : Finset (Fin 9472)).fold max (FloatOps.ofBits (F := Ideal) .f32 0xFF800000#32)
      fun k => max (Cert.GuRIdeal.Gen.k0_pay1 a0 a1 a2 a3 (ix3 b r k)) (-Cert.GuRIdeal.Gen.k0_pay1 a0 a1 a2 a3 (ix3 b r k))) := by
  unfold Cert.GuRIdeal.Gen.k0_pay2
  generalize Cert.GuRIdeal.Gen.k0_pay1 a0 a1 a2 a3 = A
  refine (scaleOf_vec _ _).trans ?_
  have h := congrArg scaleOf (rowMax (absf A) Cert.GuRIdeal.Gen.reduces_S3x640x9472_S3x640 (.inl rfl) rfl b r)
  simp only [absf_apply, Ideal.absf_def] at h
  exact h

/-- The reference's scale of a row, over the arguments. -/
theorem refScale (b : Fin 3) (r : Fin 640) :
    Cert.GuRIdeal.Gen.k0_pay2 (F := Ideal) (m ((c : Thread nD τ).loc main_arg0)) (m ((c : Thread nD τ).loc main_arg1))
      (m ((c : Thread nD τ).loc main_arg2)) (m ((c : Thread nD τ).loc main_arg3)) (ix2 b r) = scaleOf (refMax m c b r) :=
  refScale_of _ _ _ _ b r

/-- The kernel's scale of a row, over any lane: from the greatest of the row's running maxima. -/
theorem kScale (X12 : S640x128.Idx → Ideal .f32) (r : Fin 640) (l : Fin 128) :
    scales X12 (ix2 r l) = scaleOf ((Finset.univ : Finset (Fin 128)).fold max (FloatOps.ofBits (F := Ideal) .f32 0xFF800000#32) fun k => X12 (ix2 r k)) := by
  unfold scales stack scaleOf rows
  pointwise [k0_pay7]
  have e : ∀ h, (⟨128 * (r.val / 128) + r.val % 128, h⟩ : Fin 640) = r := fun h => Fin.ext (by dsimp only; omega)
  simp only [e]
  rfl

/-- A point's step of the running maxima at a row and lane. -/
theorem kMax (t : Fin cfg0.N) (M : S640x128.Idx → Ideal .f32) (r : Fin 640) (l : Fin 128) :
    maxStep m c t M (ix2 r l) = max (max (M (ix2 r l)) (max (tile m c t r ⟨l.val, by omega⟩) (-tile m c t r ⟨l.val, by omega⟩)))
      (max (tile m c t r ⟨128 + l.val, by omega⟩) (-tile m c t r ⟨128 + l.val, by omega⟩)) := by
  have e1 : tile m c t r ⟨l.val, by omega⟩ = actL (iblk m c 0 t) (iblk m c 2 t) (iblk m c 3 t) (iblk m c 4 t) (iblk m c 5 t) (sc m c t) (ix2 r l) := by
    unfold tile act
    rw [dif_pos (show (⟨l.val, by omega⟩ : Fin 256).val < 128 from l.isLt)]
    rfl
  have e2 : tile m c t r ⟨128 + l.val, by omega⟩ = actH (iblk m c 0 t) (iblk m c 2 t) (iblk m c 3 t) (iblk m c 4 t) (iblk m c 5 t) (sc m c t) (ix2 r l) := by
    unfold tile act
    rw [dif_neg (show ¬ (⟨128 + l.val, by omega⟩ : Fin 256).val < 128 from by dsimp only; omega)]
    exact congrArg _ (congrArg (ix2 r) (Fin.ext (by dsimp only; omega)))
  rw [e1, e2]
  unfold maxStep maxNext
  generalize actL (iblk m c 0 t) (iblk m c 2 t) (iblk m c 3 t) (iblk m c 4 t) (iblk m c 5 t) (sc m c t) = AL
  unfold actH k0_pay93 k0_pay90
  generalize k0_pay91 (k0_pay86 (iblk m c 0 t) (iblk m c 2 t)) (k0_pay87 (iblk m c 0 t) (iblk m c 3 t)) (sc m c t) (hi (iblk m c 4 t)) (sc m c t) (hi (iblk m c 5 t)) = AH
  pointwise []
  simp only [Ideal.absf_def]

end Cert.GuKIdeal.Gu

end
-- ==== Proof.Gu.Max.lean ====
/- The running maxima at a batch's last block give the greatest magnitude of each row, and so the reference's scale of the row. -/
module

public import proofs.«01_k».proof.Proof.Gu.Scale

@[expose] public section

set_option maxRecDepth 16384

noncomputable section

open Idealize.ShloMosaic Idealize.ShloMosaic.TcCoe Idealize.SL.Sem

namespace Cert.GuKIdeal.Gu

open Cert.GuKIdeal Cert.GuKIdeal.Gen

variable (m : (ℓ : Loc nD τ sig) → Buf (Elt Ideal) ℓ) (c : Dev nD)

/-- The magnitude of an activation that point `u` makes. -/
def mag (u : Fin cfg0.N) (r : Fin 640) (l : Fin 256) : EReal := max (tile m c u r l : EReal) (-(tile m c u r l : EReal))

/-- Before a batch's first block the running maxima are zero. -/
theorem start_zero (r : Fin 640) (l : Fin 128) : (k0_pay1 (F := Ideal) (ix2 r l) : EReal) = 0 := by
  pointwise [k0_pay1]

/-- A step of the running maxima, by its upper bounds. -/
theorem step_le (t : Fin cfg0.N) (M : S640x128.Idx → Ideal .f32) (r : Fin 640) (l : Fin 128) (z : EReal) :
    (maxStep m c t M (ix2 r l) : EReal) ≤ z ↔
      (M (ix2 r l) : EReal) ≤ z ∧ mag m c t r ⟨l.val, by omega⟩ ≤ z ∧ mag m c t r ⟨128 + l.val, by omega⟩ ≤ z := by
  rw [kMax m c t M r l]
  unfold mag
  exact (max_le_iff.trans (and_congr_left' max_le_iff)).trans and_assoc

/-- The running maxima after point `t`, by their upper bounds: zero and the magnitudes of the batch's blocks so far. -/
theorem maxAt_le (r : Fin 640) (l : Fin 128) (z : EReal) : ∀ (n : ℕ) (hn : n < cfg0.N),
    (maxAt m c n hn (ix2 r l) : EReal) ≤ z ↔ 0 ≤ z ∧ ∀ u : Fin cfg0.N, u.val / 37 = n / 37 → u.val ≤ n →
      mag m c u r ⟨l.val, by omega⟩ ≤ z ∧ mag m c u r ⟨128 + l.val, by omega⟩ ≤ z := by
  intro n
  induction n with
  | zero =>
    intro hn
    have h := maxAt_first m c ⟨0, hn⟩ rfl
    dsimp only at h
    rw [h, step_le, start_zero]
    refine and_congr_right fun _ => ⟨fun h u _ hu => ?_, fun h => h ⟨0, hn⟩ rfl (Nat.le_refl _)⟩
    have e : u = ⟨0, hn⟩ := Fin.ext (Nat.le_zero.mp hu)
    rw [e]; exact h
  | succ n ih =>
    intro hn
    by_cases h0 : (n + 1) % 37 = 0
    · have h := maxAt_first m c ⟨n + 1, hn⟩ h0
      dsimp only at h
      rw [h, step_le, start_zero]
      refine and_congr_right fun _ => ⟨fun h u hd hu => ?_, fun h => h ⟨n + 1, hn⟩ rfl (Nat.le_refl _)⟩
      have e : u = ⟨n + 1, hn⟩ := Fin.ext (by dsimp only; omega)
      rw [e]; exact h
    · rw [maxAt_later m c n hn h0, step_le, ih]
      have hd : n / 37 = (n + 1) / 37 := by omega
      rw [hd]
      constructor
      · rintro ⟨⟨hz, hp⟩, ht⟩
        refine ⟨hz, fun u hu hle => ?_⟩
        by_cases e : u.val = n + 1
        · have e' : u = ⟨n + 1, hn⟩ := Fin.ext e
          rw [e']; exact ht
        · exact hp u hu (by omega)
      · rintro ⟨hz, hp⟩
        exact ⟨⟨hz, fun u hu hle => hp u hu (by omega)⟩, hp ⟨n + 1, hn⟩ rfl (Nat.le_refl _)⟩

/-- The least float bounds nothing. -/
theorem bot_bits : (FloatOps.ofBits (F := Ideal) .f32 0xFF800000#32 : EReal) = ⊥ := by
  simp [Idealize.ShloMosaic.Ideal.ofBits_def, Idealize.ShloMosaic.Ideal.ofBits, Idealize.ShloMosaic.Ideal.ieee]

/-- At a batch's last block, the greatest of a row's running maxima is the greatest magnitude of the reference's row. -/
theorem max_eq (t : Fin cfg0.N) (h : t.val % 37 = 36) (b : Fin 3) (hb : b.val = t.val / 37) (r : Fin 640) :
    ((Finset.univ : Finset (Fin 128)).fold max (FloatOps.ofBits (F := Ideal) .f32 0xFF800000#32) fun k => maxAt m c t.val t.isLt (ix2 r k)) = refMax m c b r := by
  have hN : t.val < 111 := Nat.lt_of_lt_of_eq t.isLt N_0
  refine eq_of_forall_ge_iff (α := EReal) fun z => ?_
  unfold refMax
  refine (Finset.fold_max_le (α := Fin 128) (β := EReal) z).trans (Iff.trans ?_ (Finset.fold_max_le (α := Fin 9472) (β := EReal) z).symm)
  rw [bot_bits]
  refine and_congr_right fun _ => ?_
  constructor
  · intro hh k _
    have hk := k.isLt
    have hu : 37 * b.val + k.val / 256 < cfg0.N := by rw [show cfg0.N = 111 from N_0]; omega
    have hl := ((maxAt_le m c r ⟨k.val % 128, Nat.mod_lt _ (by decide)⟩ z t.val t.isLt).mp (hh _ (Finset.mem_univ _))).2
      ⟨37 * b.val + k.val / 256, hu⟩ (by dsimp only; omega) (by dsimp only; omega)
    have key : ∀ l : Fin 256, l.val = k.val % 256 → mag m c ⟨37 * b.val + k.val / 256, hu⟩ r l ≤ z → max (refAct m c b r k : EReal) (-(refAct m c b r k : EReal)) ≤ z := by
      intro l hl hz
      unfold mag at hz
      rw [tile_eq m c ⟨37 * b.val + k.val / 256, hu⟩ b (by dsimp only; omega) r l k (by dsimp only; omega)] at hz
      exact hz
    by_cases hk2 : k.val % 256 < 128
    · exact key _ (by dsimp only; omega) hl.1
    · exact key _ (by dsimp only; omega) hl.2
  · intro hh l _
    have key : ∀ (u : Fin cfg0.N) (l : Fin 256), u.val / 37 = t.val / 37 → mag m c u r l ≤ z := by
      intro u l hu
      have e := tile_eq m c u b (by omega) r l ⟨256 * (u.val % 37) + l.val, by omega⟩ rfl
      unfold mag
      rw [e]
      exact hh _ (Finset.mem_univ _)
    refine (maxAt_le m c r l z t.val t.isLt).mpr ⟨?_, fun u hu _ => ⟨key u _ hu, key u _ hu⟩⟩
    exact (le_abs _).trans (key t ⟨0, by decide⟩ rfl)

/-- The scale of a row of a batch, over any lane, is the reference's. -/
theorem scales_eq (t : Fin cfg0.N) (h : t.val % 37 = 36) (b : Fin 3) (hb : b.val = t.val / 37) (r : Fin 640) (l : Fin 128) :
    scales (maxAt m c t.val t.isLt) (ix2 r l) = Cert.GuRIdeal.Gen.k0_pay2 (F := Ideal) (m ((c : Thread nD τ).loc main_arg0)) (m ((c : Thread nD τ).loc main_arg1))
      (m ((c : Thread nD τ).loc main_arg2)) (m ((c : Thread nD τ).loc main_arg3)) (ix2 b r) :=
  (kScale _ r l).trans ((congrArg scaleOf (max_eq m c t h b hb r)).trans (refScale m c b r).symm)

/-- What a batch's last point leaves in the window of codes is the reference's codes of the batch. -/
theorem codes_eq (t : Fin cfg0.N) (h : t.val % 37 = 36) (b : Fin 3) (hb : b.val = t.val / 37) (X10 : S37x640x256.Idx → Ideal .f32) (hp : Planes m c t X10)
    (X : S1x640x9472.Idx → Ideal .fp8e4m3) (hX : Done X10 (scales (maxAt m c t.val t.isLt)) 37 0 X) (r : Fin 640) (k : Fin 9472) :
    X (ix3 (0 : Fin 1) r k) = Cert.GuRIdeal.Gen.k0_pay3 (F := Ideal) (m ((c : Thread nD τ).loc main_arg0)) (m ((c : Thread nD τ).loc main_arg1))
      (m ((c : Thread nD τ).loc main_arg2)) (m ((c : Thread nD τ).loc main_arg3)) (ix3 b r k) := by
  have hk := k.isLt
  have hN : t.val < 111 := Nat.lt_of_lt_of_eq t.isLt N_0
  have hu : 37 * b.val + k.val / 256 < cfg0.N := by rw [show cfg0.N = 111 from N_0]; omega
  refine (hX (⟨k.val / 256, by omega⟩ : Fin 37) r (⟨k.val % 256, Nat.mod_lt _ (by decide)⟩ : Fin 256) k (by dsimp only; omega) (Or.inl (by dsimp only; omega))).trans ?_
  refine Eq.trans ?_ (code_eq _ _ _ _ b r k).symm
  refine congrArg₂ code ?_ (scales_eq m c t h b hb r _)
  have e := hp ⟨37 * b.val + k.val / 256, hu⟩ (by dsimp only; omega) (by dsimp only; omega) r (⟨k.val % 256, Nat.mod_lt _ (by decide)⟩ : Fin 256)
  have ej : (⟨(37 * b.val + k.val / 256) % 37, Nat.mod_lt _ (by decide)⟩ : Fin 37) = ⟨k.val / 256, by omega⟩ := Fin.ext (by dsimp only; omega)
  dsimp only at e
  rw [ej] at e
  exact e.trans (tile_eq m c ⟨37 * b.val + k.val / 256, hu⟩ b (by dsimp only; omega) r _ k (by dsimp only; omega))

end Cert.GuKIdeal.Gu

end
-- ==== Proof.Gu.Loops.lean ====
/- The quantising loops of the last grid point of a batch, part by part: ten trips each, one plane each. -/
module

public import proofs.«01_k».proof.Proof.Gu.Trip

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (c : Dev nD) (X10 : S37x640x256.Idx → F .f32) (X11 : S640x128.Idx → F .f32) (E : Set ℕ)

/-- A program run after another: from what the first leaves, the second reaches the post. -/
theorem wp_seq {α β : Type} {P R : sProp 𝕄} {p : Prog (TpuEff nD τ sig (Elt F) Λ₀ .tc) α} {k : α → Prog (TpuEff nD τ sig (Elt F) Λ₀ .tc) β} {Q : β → sProp 𝕄}
    (h : P ⊢ wp frame (wpE (defs₀ (F := F)) Variants.none (c : Thread nD τ) none) E p (fun _ => R))
    (hk : ∀ x, R ⊢ wp frame (wpE (defs₀ (F := F)) Variants.none (c : Thread nD τ) none) E (k x) Q) :
    P ⊢ wp frame (wpE (defs₀ (F := F)) Variants.none (c : Thread nD τ) none) E (p >>= k) Q := by
  rw [wp_bind]
  iintro H
  iapply (wp_wand_r frame (wpE (defs₀ (F := F)) Variants.none (c : Thread nD τ) none) E)
  isplitl [H]
  · iapply h; iexact H
  · iintro %x H
    iapply (hk x); iexact H

/-- The end of a program leaves what it holds. -/
theorem wp_end {α : Type} {P : sProp 𝕄} (x : α) :
    P ⊢ wp frame (wpE (defs₀ (F := F)) Variants.none (c : Thread nD τ) none) E (pure x : Prog (TpuEff nD τ sig (Elt F) Λ₀ .tc) α) (fun _ => P) := by
  show P ⊢ wp frame (wpE (defs₀ (F := F)) Variants.none (c : Thread nD τ) none) E (.ret x : Prog (TpuEff nD τ sig (Elt F) Λ₀ .tc) α) (fun _ => P)
  rw [wp_ret]
  iintro H
  imodintro
  iexact H

variable (i : grid0.Coords)
  (arg2 : Memref sig .tc .vmem S1x640x3584 .fp8e4m3) (harg2 : arg2.IsWhole)
  (arg3 : Memref sig .tc .vmem S3x640 .f32) (harg3 : arg3.IsWhole)
  (arg4 : Memref sig .tc .vmem S3584x256 .fp8e4m3) (harg4 : arg4.IsWhole)
  (arg5 : Memref sig .tc .vmem S3584x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x640x9472 .fp8e4m3) (harg8 : arg8.IsWhole)
  (arg9 : Memref sig .tc .vmem S3x640 .f32) (harg9 : arg9.IsWhole)
  (arg10 : Memref sig .tc .vmem S37x640x256 .f32) (harg10 : arg10.IsWhole)
  (arg11 : Memref sig .tc .vmem S640x128 .f32) (harg11 : arg11.IsWhole)
  (arg12 : Memref sig .tc .vmem S640x128 .f32) (harg12 : arg12.IsWhole)
  (k0_h2 : k0_cond2 i = 1#1)

/-- Planes 3 to 12. -/
theorem wp_part5 (v : BitVec 32) :
    Held c arg8 arg10 arg11 X10 X11 3 0
    ⊢ wp frame (wpE (defs₀ (F := F)) Variants.none (c : Thread nD τ) none) E (k0_part5_skel i arg2 harg2 arg3 harg3 arg4 harg4 arg5 harg5 arg6 harg6 arg7 harg7 arg8 harg8 arg9 harg9 arg10 harg10 arg11 harg11 arg12 harg12 k0_h2 v)
        (fun _ => (Held c arg8 arg10 arg11 X10 X11 13 0 : sProp 𝕄)) := by
  unfold k0_part5_skel
  refine wp_seq c E (wp_loop c arg8 arg10 arg11 X10 X11 3 k0_t4_loop _ (by decide +kernel) _ _ _ _ _ _ _ _ _ _ _ _ k0_off18_eq k0_off21_eq k0_off19_eq k0_off20_eq k0_off22_eq E) fun _ => ?_
  refine wp_seq c E (wp_loop c arg8 arg10 arg11 X10 X11 4 k0_t5_loop _ (by decide +kernel) _ _ _ _ _ _ _ _ _ _ _ _ k0_off23_eq k0_off26_eq k0_off24_eq k0_off25_eq k0_off27_eq E) fun _ => ?_
  refine wp_seq c E (wp_loop c arg8 arg10 arg11 X10 X11 5 k0_t6_loop _ (by decide +kernel) _ _ _ _ _ _ _ _ _ _ _ _ k0_off28_eq k0_off31_eq k0_off29_eq k0_off30_eq k0_off32_eq E) fun _ => ?_
  refine wp_seq c E (wp_loop c arg8 arg10 arg11 X10 X11 6 k0_t7_loop _ (by decide +kernel) _ _ _ _ _ _ _ _ _ _ _ _ k0_off33_eq k0_off36_eq k0_off34_eq k0_off35_eq k0_off37_eq E) fun _ => ?_
  refine wp_seq c E (wp_loop c arg8 arg10 arg11 X10 X11 7 k0_t8_loop _ (by decide +kernel) _ _ _ _ _ _ _ _ _ _ _ _ k0_off38_eq k0_off41_eq k0_off39_eq k0_off40_eq k0_off42_eq E) fun _ => ?_
  refine wp_seq c E (wp_loop c arg8 arg10 arg11 X10 X11 8 k0_t9_loop _ (by decide +kernel) _ _ _ _ _ _ _ _ _ _ _ _ k0_off43_eq k0_off46_eq k0_off44_eq k0_off45_eq k0_off47_eq E) fun _ => ?_
  refine wp_seq c E (wp_loop c arg8 arg10 arg11 X10 X11 9 k0_t10_loop _ (by decide +kernel) _ _ _ _ _ _ _ _ _ _ _ _ k0_off48_eq k0_off51_eq k0_off49_eq k0_off50_eq k0_off52_eq E) fun _ => ?_
  refine wp_seq c E (wp_loop c arg8 arg10 arg11 X10 X11 10 k0_t11_loop _ (by decide +kernel) _ _ _ _ _ _ _ _ _ _ _ _ k0_off53_eq k0_off56_eq k0_off54_eq k0_off55_eq k0_off57_eq E) fun _ => ?_
  refine wp_seq c E (wp_loop c arg8 arg10 arg11 X10 X11 11 k0_t12_loop _ (by decide +kernel) _ _ _ _ _ _ _ _ _ _ _ _ k0_off58_eq k0_off61_eq k0_off59_eq k0_off60_eq k0_off62_eq E) fun _ => ?_
  refine wp_seq c E (wp_loop c arg8 arg10 arg11 X10 X11 12 k0_t13_loop _ (by decide +kernel) _ _ _ _ _ _ _ _ _ _ _ _ k0_off63_eq k0_off66_eq k0_off64_eq k0_off65_eq k0_off67_eq E) fun _ => ?_
  exact wp_end c E _

/-- Planes 13 to 22. -/
theorem wp_part6 (v : BitVec 32) :
    Held c arg8 arg10 arg11 X10 X11 13 0
    ⊢ wp frame (wpE (defs₀ (F := F)) Variants.none (c : Thread nD τ) none) E (k0_part6_skel i arg2 harg2 arg3 harg3 arg4 harg4 arg5 harg5 arg6 harg6 arg7 harg7 arg8 harg8 arg9 harg9 arg10 harg10 arg11 harg11 arg12 harg12 k0_h2 v)
        (fun _ => (Held c arg8 arg10 arg11 X10 X11 23 0 : sProp 𝕄)) := by
  unfold k0_part6_skel
  refine wp_seq c E (wp_loop c arg8 arg10 arg11 X10 X11 13 k0_t14_loop _ (by decide +kernel) _ _ _ _ _ _ _ _ _ _ _ _ k0_off68_eq k0_off71_eq k0_off69_eq k0_off70_eq k0_off72_eq E) fun _ => ?_
  refine wp_seq c E (wp_loop c arg8 arg10 arg11 X10 X11 14 k0_t15_loop _ (by decide +kernel) _ _ _ _ _ _ _ _ _ _ _ _ k0_off73_eq k0_off76_eq k0_off74_eq k0_off75_eq k0_off77_eq E) fun _ => ?_
  refine wp_seq c E (wp_loop c arg8 arg10 arg11 X10 X11 15 k0_t16_loop _ (by decide +kernel) _ _ _ _ _ _ _ _ _ _ _ _ k0_off78_eq k0_off81_eq k0_off79_eq k0_off80_eq k0_off82_eq E) fun _ => ?_
  refine wp_seq c E (wp_loop c arg8 arg10 arg11 X10 X11 16 k0_t17_loop _ (by decide +kernel) _ _ _ _ _ _ _ _ _ _ _ _ k0_off83_eq k0_off86_eq k0_off84_eq k0_off85_eq k0_off87_eq E) fun _ => ?_
  refine wp_seq c E (wp_loop c arg8 arg10 arg11 X10 X11 17 k0_t18_loop _ (by decide +kernel) _ _ _ _ _ _ _ _ _ _ _ _ k0_off88_eq k0_off91_eq k0_off89_eq k0_off90_eq k0_off92_eq E) fun _ => ?_
  refine wp_seq c E (wp_loop c arg8 arg10 arg11 X10 X11 18 k0_t19_loop _ (by decide +kernel) _ _ _ _ _ _ _ _ _ _ _ _ k0_off93_eq k0_off96_eq k0_off94_eq k0_off95_eq k0_off97_eq E) fun _ => ?_
  refine wp_seq c E (wp_loop c arg8 arg10 arg11 X10 X11 19 k0_t20_loop _ (by decide +kernel) _ _ _ _ _ _ _ _ _ _ _ _ k0_off98_eq k0_off101_eq k0_off99_eq k0_off100_eq k0_off102_eq E) fun _ => ?_
  refine wp_seq c E (wp_loop c arg8 arg10 arg11 X10 X11 20 k0_t21_loop _ (by decide +kernel) _ _ _ _ _ _ _ _ _ _ _ _ k0_off103_eq k0_off106_eq k0_off104_eq k0_off105_eq k0_off107_eq E) fun _ => ?_
  refine wp_seq c E (wp_loop c arg8 arg10 arg11 X10 X11 21 k0_t22_loop _ (by decide +kernel) _ _ _ _ _ _ _ _ _ _ _ _ k0_off108_eq k0_off111_eq k0_off109_eq k0_off110_eq k0_off112_eq E) fun _ => ?_
  refine wp_seq c E (wp_loop c arg8 arg10 arg11 X10 X11 22 k0_t23_loop _ (by decide +kernel) _ _ _ _ _ _ _ _ _ _ _ _ k0_off113_eq k0_off116_eq k0_off114_eq k0_off115_eq k0_off117_eq E) fun _ => ?_
  exact wp_end c E _

/-- Planes 23 to 32. -/
theorem wp_part7 (v : BitVec 32) :
    Held c arg8 arg10 arg11 X10 X11 23 0
    ⊢ wp frame (wpE (defs₀ (F := F)) Variants.none (c : Thread nD τ) none) E (k0_part7_skel i arg2 harg2 arg3 harg3 arg4 harg4 arg5 harg5 arg6 harg6 arg7 harg7 arg8 harg8 arg9 harg9 arg10 harg10 arg11 harg11 arg12 harg12 k0_h2 v)
        (fun _ => (Held c arg8 arg10 arg11 X10 X11 33 0 : sProp 𝕄)) := by
  unfold k0_part7_skel
  refine wp_seq c E (wp_loop c arg8 arg10 arg11 X10 X11 23 k0_t24_loop _ (by decide +kernel) _ _ _ _ _ _ _ _ _ _ _ _ k0_off118_eq k0_off121_eq k0_off119_eq k0_off120_eq k0_off122_eq E) fun _ => ?_
  refine wp_seq c E (wp_loop c arg8 arg10 arg11 X10 X11 24 k0_t25_loop _ (by decide +kernel) _ _ _ _ _ _ _ _ _ _ _ _ k0_off123_eq k0_off126_eq k0_off124_eq k0_off125_eq k0_off127_eq E) fun _ => ?_
  refine wp_seq c E (wp_loop c arg8 arg10 arg11 X10 X11 25 k0_t26_loop _ (by decide +kernel) _ _ _ _ _ _ _ _ _ _ _ _ k0_off128_eq k0_off131_eq k0_off129_eq k0_off130_eq k0_off132_eq E) fun _ => ?_
  refine wp_seq c E (wp_loop c arg8 arg10 arg11 X10 X11 26 k0_t27_loop _ (by decide +kernel) _ _ _ _ _ _ _ _ _ _ _ _ k0_off133_eq k0_off136_eq k0_off134_eq k0_off135_eq k0_off137_eq E) fun _ => ?_
  refine wp_seq c E (wp_loop c arg8 arg10 arg11 X10 X11 27 k0_t28_loop _ (by decide +kernel) _ _ _ _ _ _ _ _ _ _ _ _ k0_off138_eq k0_off141_eq k0_off139_eq k0_off140_eq k0_off142_eq E) fun _ => ?_
  refine wp_seq c E (wp_loop c arg8 arg10 arg11 X10 X11 28 k0_t29_loop _ (by decide +kernel) _ _ _ _ _ _ _ _ _ _ _ _ k0_off143_eq k0_off146_eq k0_off144_eq k0_off145_eq k0_off147_eq E) fun _ => ?_
  refine wp_seq c E (wp_loop c arg8 arg10 arg11 X10 X11 29 k0_t30_loop _ (by decide +kernel) _ _ _ _ _ _ _ _ _ _ _ _ k0_off148_eq k0_off151_eq k0_off149_eq k0_off150_eq k0_off152_eq E) fun _ => ?_
  refine wp_seq c E (wp_loop c arg8 arg10 arg11 X10 X11 30 k0_t31_loop _ (by decide +kernel) _ _ _ _ _ _ _ _ _ _ _ _ k0_off153_eq k0_off156_eq k0_off154_eq k0_off155_eq k0_off157_eq E) fun _ => ?_
  refine wp_seq c E (wp_loop c arg8 arg10 arg11 X10 X11 31 k0_t32_loop _ (by decide +kernel) _ _ _ _ _ _ _ _ _ _ _ _ k0_off158_eq k0_off161_eq k0_off159_eq k0_off160_eq k0_off162_eq E) fun _ => ?_
  refine wp_seq c E (wp_loop c arg8 arg10 arg11 X10 X11 32 k0_t33_loop _ (by decide +kernel) _ _ _ _ _ _ _ _ _ _ _ _ k0_off163_eq k0_off166_eq k0_off164_eq k0_off165_eq k0_off167_eq E) fun _ => ?_
  exact wp_end c E _

end Cert.GuKIdeal.Gu

end
-- ==== Proof.Gu.Finish.lean ====
/- The last grid point of a batch after its scales are laid out: the row of scales stored, then the codes plane by plane. -/
module

public import proofs.«01_k».proof.Proof.Gu.Loops
public import proofs.«01_k».proof.Proof.Gu.Vals
public import Idealize.ShloMosaic.Lib.VecWindow

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg2 : Memref sig .tc .vmem S1x640x3584 .fp8e4m3) (harg2 : arg2.IsWhole)
  (arg3 : Memref sig .tc .vmem S3x640 .f32) (harg3 : arg3.IsWhole)
  (arg4 : Memref sig .tc .vmem S3584x256 .fp8e4m3) (harg4 : arg4.IsWhole)
  (arg5 : Memref sig .tc .vmem S3584x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x640x9472 .fp8e4m3) (harg8 : arg8.IsWhole)
  (arg9 : Memref sig .tc .vmem S3x640 .f32) (harg9 : arg9.IsWhole)
  (arg10 : Memref sig .tc .vmem S37x640x256 .f32) (harg10 : arg10.IsWhole)
  (arg11 : Memref sig .tc .vmem S640x128 .f32) (harg11 : arg11.IsWhole)
  (arg12 : Memref sig .tc .vmem S640x128 .f32) (harg12 : arg12.IsWhole)

variable (c : Dev nD) (E : Set ℕ) (X10 : S37x640x256.Idx → F .f32) (X11 : S640x128.Idx → F .f32) (X9 : S3x640.Idx → F .f32) (k0_h2 : k0_cond2 i = 1#1)

/-- The first three planes of codes. -/
theorem wp_three (a0 : BitVec 32) (v140 : FVec F S1x128 .f32) :
    Held c arg8 arg10 arg11 X10 X11 0 0
    ⊢ wp frame (wpE (defs₀ (F := F)) Variants.none (c : Thread nD τ) none) E (do
        Scf.Loop.for k0_t1_loop (k0_t1_ok i k0_h2) PUnit.unit (k0_t1_body i arg2 harg2 arg3 harg3 arg4 harg4 arg5 harg5 arg6 harg6 arg7 harg7 arg8 harg8 arg9 harg9 arg10 harg10 arg11 harg11 arg12 harg12 a0 k0_h2 v140)
        Scf.Loop.for k0_t2_loop (k0_t2_ok i k0_h2) PUnit.unit (k0_t2_body i arg2 harg2 arg3 harg3 arg4 harg4 arg5 harg5 arg6 harg6 arg7 harg7 arg8 harg8 arg9 harg9 arg10 harg10 arg11 harg11 arg12 harg12 a0 k0_h2 v140)
        Scf.Loop.for k0_t3_loop (k0_t3_ok i k0_h2) PUnit.unit (k0_t3_body i arg2 harg2 arg3 harg3 arg4 harg4 arg5 harg5 arg6 harg6 arg7 harg7 arg8 harg8 arg9 harg9 arg10 harg10 arg11 harg11 arg12 harg12 a0 k0_h2 v140)
        pure 0#32) (fun _ => (Held c arg8 arg10 arg11 X10 X11 3 0 : sProp 𝕄)) := by
  refine wp_seq c E (wp_loop c arg8 arg10 arg11 X10 X11 0 k0_t1_loop _ (by decide +kernel) _ _ _ _ _ _ _ _ _ _ _ _ k0_off3_eq k0_off6_eq k0_off4_eq k0_off5_eq k0_off7_eq E) fun _ => ?_
  refine wp_seq c E (wp_loop c arg8 arg10 arg11 X10 X11 1 k0_t2_loop _ (by decide +kernel) _ _ _ _ _ _ _ _ _ _ _ _ k0_off8_eq k0_off11_eq k0_off9_eq k0_off10_eq k0_off12_eq E) fun _ => ?_
  refine wp_seq c E (wp_loop c arg8 arg10 arg11 X10 X11 2 k0_t3_loop _ (by decide +kernel) _ _ _ _ _ _ _ _ _ _ _ _ k0_off13_eq k0_off16_eq k0_off14_eq k0_off15_eq k0_off17_eq E) fun _ => ?_
  exact wp_end c E _

/-- The batch's own row alone is stored: which of the three conditions holds. -/
theorem cond_row : (k0_cond3 i = 1#1 ∧ ¬ k0_cond4 i = 1#1 ∧ ¬ k0_cond5 i = 1#1 ∧ (i 0).val = 0) ∨ (¬ k0_cond3 i = 1#1 ∧ k0_cond4 i = 1#1 ∧ ¬ k0_cond5 i = 1#1 ∧ (i 0).val = 1)
      ∨ (¬ k0_cond3 i = 1#1 ∧ ¬ k0_cond4 i = 1#1 ∧ k0_cond5 i = 1#1 ∧ (i 0).val = 2) := by
  have h : (i 0).val < 3 := (i 0).isLt
  unfold k0_cond3 k0_cond4 k0_cond5
  obtain ⟨n, hn⟩ : ∃ n, (i 0).val = n := ⟨_, rfl⟩
  rw [hn] at h ⊢
  match n, h with
    | 0, _ => decide
    | 1, _ => decide
    | 2, _ => decide

/-- The row of scales of the batch stored, and the first three planes of codes. -/
theorem wp_part4 (a0 : BitVec 32) (v140 : FVec F S1x128 .f32) (K : BitVec 32 → sProp 𝕄) :
    iprop(Held c arg8 arg10 arg11 X10 X11 0 0 ∗ owns (c : Thread nD τ) arg9 fullShare X9
      ∗ (∀ v, (Held c arg8 arg10 arg11 X10 X11 3 0 ∗ owns (c : Thread nD τ) arg9 fullShare (setRow (i 0).val (k0_pay17 v140 (rows X11 1) (rows X11 2) (rows X11 3) (rows X11 4)) X9)) -∗ K v))
    ⊢ wp frame (wpE (defs₀ (F := F)) Variants.none (c : Thread nD τ) none) E (k0_part4_skel i arg2 harg2 arg3 harg3 arg4 harg4 arg5 harg5 arg6 harg6 arg7 harg7 arg8 harg8 arg9 harg9 arg10 harg10 arg11 harg11 arg12 harg12 a0 k0_h2 v140) K := by
  unfold k0_part4_skel Held owns
  iintro ⟨⟨⟨%f10, %h10, H10⟩, ⟨%f11, %h11, H11⟩, %G, %hG, %f8, %h8, H8⟩, ⟨%f9, %h9, H9⟩, HK⟩
  subst h9 h10 h11 h8
  have hb := cond_row i
  have e1 := readAt_rows arg11.view f11 1 128 rfl inb_S640x128_S128x128_128_0
  have e2 := readAt_rows arg11.view f11 2 256 rfl inb_S640x128_S128x128_256_0
  have e3 := readAt_rows arg11.view f11 3 384 rfl inb_S640x128_S128x128_384_0
  have e4 := readAt_rows arg11.view f11 4 512 rfl inb_S640x128_S128x128_512_0
  rcases hb with ⟨h3, h4, h5, hb⟩ | ⟨h3, h4, h5, hb⟩ | ⟨h3, h4, h5, hb⟩
  · sl_exec (disch := first | sl_exact h3 | sl_exact h4 | sl_exact h5)
    iapply (wp_wand_r frame (wpE (defs₀ (F := F)) Variants.none (c : Thread nD τ) none) E)
    isplitl [H10 H11 H8]
    · iapply (wp_three i arg2 harg2 arg3 harg3 arg4 harg4 arg5 harg5 arg6 harg6 arg7 harg7 arg8 harg8 arg9 harg9 arg10 harg10 arg11 harg11 arg12 harg12 c E (arg10.view.read (Elt F) f10) (arg11.view.read (Elt F) f11) k0_h2 a0 v140)
      unfold Held owns
      isplitl [H10]; · iexists f10; isplitr; · ipureintro; rfl
                       iexact H10
      isplitl [H11]; · iexists f11; isplitr; · ipureintro; rfl
                       iexact H11
      iexists _; isplitr; · ipureintro; exact hG
      iexists f8; isplitr; · ipureintro; rfl
      iexact H8
    · iintro %v H
      unfold Held owns
      iapply HK
      isplitl [H]; · iexact H
      iexists _; isplitr; swap; · iexact H9
      ipureintro
      rw [hb]
      exact read_setRow arg9.view f9 0 inb_S3x640_S1x640_0_0 _
  · sl_exec (disch := first | sl_exact h3 | sl_exact h4 | sl_exact h5)
    iapply (wp_wand_r frame (wpE (defs₀ (F := F)) Variants.none (c : Thread nD τ) none) E)
    isplitl [H10 H11 H8]
    · iapply (wp_three i arg2 harg2 arg3 harg3 arg4 harg4 arg5 harg5 arg6 harg6 arg7 harg7 arg8 harg8 arg9 harg9 arg10 harg10 arg11 harg11 arg12 harg12 c E (arg10.view.read (Elt F) f10) (arg11.view.read (Elt F) f11) k0_h2 a0 v140)
      unfold Held owns
      isplitl [H10]; · iexists f10; isplitr; · ipureintro; rfl
                       iexact H10
      isplitl [H11]; · iexists f11; isplitr; · ipureintro; rfl
                       iexact H11
      iexists _; isplitr; · ipureintro; exact hG
      iexists f8; isplitr; · ipureintro; rfl
      iexact H8
    · iintro %v H
      unfold Held owns
      iapply HK
      isplitl [H]; · iexact H
      iexists _; isplitr; swap; · iexact H9
      ipureintro
      rw [hb]
      exact read_setRow arg9.view f9 1 inb_S3x640_S1x640_1_0 _
  · sl_exec (disch := first | sl_exact h3 | sl_exact h4 | sl_exact h5)
    iapply (wp_wand_r frame (wpE (defs₀ (F := F)) Variants.none (c : Thread nD τ) none) E)
    isplitl [H10 H11 H8]
    · iapply (wp_three i arg2 harg2 arg3 harg3 arg4 harg4 arg5 harg5 arg6 harg6 arg7 harg7 arg8 harg8 arg9 harg9 arg10 harg10 arg11 harg11 arg12 harg12 c E (arg10.view.read (Elt F) f10) (arg11.view.read (Elt F) f11) k0_h2 a0 v140)
      unfold Held owns
      isplitl [H10]; · iexists f10; isplitr; · ipureintro; rfl
                       iexact H10
      isplitl [H11]; · iexists f11; isplitr; · ipureintro; rfl
                       iexact H11
      iexists _; isplitr; · ipureintro; exact hG
      iexists f8; isplitr; · ipureintro; rfl
      iexact H8
    · iintro %v H
      unfold Held owns
      iapply HK
      isplitl [H]; · iexact H
      iexists _; isplitr; swap; · iexact H9
      ipureintro
      rw [hb]
      exact read_setRow arg9.view f9 2 inb_S3x640_S1x640_2_0 _

/-- The other planes of codes. -/
theorem wp_planes (a0 a1 : BitVec 32) (v6 v10 : FVec F S640x256 .f32) (v27 : FVec F S640x128 .f32) (v : BitVec 32) :
    Held c arg8 arg10 arg11 X10 X11 3 0
    ⊢ wp frame (wpE (defs₀ (F := F)) Variants.none (c : Thread nD τ) none) E (do
        let a ← k0_part5 i arg2 harg2 arg3 harg3 arg4 harg4 arg5 harg5 arg6 harg6 arg7 harg7 arg8 harg8 arg9 harg9 arg10 harg10 arg11 harg11 arg12 harg12 k0_h2 v
        let b ← k0_part6 i arg2 harg2 arg3 harg3 arg4 harg4 arg5 harg5 arg6 harg6 arg7 harg7 arg8 harg8 arg9 harg9 arg10 harg10 arg11 harg11 arg12 harg12 k0_h2 a
        let d ← k0_part7 i arg2 harg2 arg3 harg3 arg4 harg4 arg5 harg5 arg6 harg6 arg7 harg7 arg8 harg8 arg9 harg9 arg10 harg10 arg11 harg11 arg12 harg12 k0_h2 b
        Scf.Loop.for k0_t34_loop (k0_t34_ok i k0_h2) PUnit.unit (k0_t34_body i arg2 harg2 arg3 harg3 arg4 harg4 arg5 harg5 arg6 harg6 arg7 harg7 arg8 harg8 arg9 harg9 arg10 harg10 arg11 harg11 arg12 harg12 a0 a1 v6 v10 v27 k0_h2)
        Scf.Loop.for k0_t35_loop (k0_t35_ok i k0_h2) PUnit.unit (k0_t35_body i arg2 harg2 arg3 harg3 arg4 harg4 arg5 harg5 arg6 harg6 arg7 harg7 arg8 harg8 arg9 harg9 arg10 harg10 arg11 harg11 arg12 harg12 a0 a1 v6 v10 v27 k0_h2)
        Scf.Loop.for k0_t36_loop (k0_t36_ok i k0_h2) PUnit.unit (k0_t36_body i arg2 harg2 arg3 harg3 arg4 harg4 arg5 harg5 arg6 harg6 arg7 harg7 arg8 harg8 arg9 harg9 arg10 harg10 arg11 harg11 arg12 harg12 a0 a1 v6 v10 v27 k0_h2)
        Scf.Loop.for k0_t37_loop (k0_t37_ok i k0_h2) PUnit.unit (k0_t37_body i arg2 harg2 arg3 harg3 arg4 harg4 arg5 harg5 arg6 harg6 arg7 harg7 arg8 harg8 arg9 harg9 arg10 harg10 arg11 harg11 arg12 harg12 a0 a1 v6 v10 v27 k0_h2)
        pure PUnit.unit) (fun _ => (Held c arg8 arg10 arg11 X10 X11 37 0 : sProp 𝕄)) := by
  rw [k0_part5_eq_skeleton, k0_part6_eq_skeleton, k0_part7_eq_skeleton]
  refine wp_seq c E (wp_part5 c X10 X11 E i arg2 harg2 arg3 harg3 arg4 harg4 arg5 harg5 arg6 harg6 arg7 harg7 arg8 harg8 arg9 harg9 arg10 harg10 arg11 harg11 arg12 harg12 k0_h2 _) fun _ => ?_
  refine wp_seq c E (wp_part6 c X10 X11 E i arg2 harg2 arg3 harg3 arg4 harg4 arg5 harg5 arg6 harg6 arg7 harg7 arg8 harg8 arg9 harg9 arg10 harg10 arg11 harg11 arg12 harg12 k0_h2 _) fun _ => ?_
  refine wp_seq c E (wp_part7 c X10 X11 E i arg2 harg2 arg3 harg3 arg4 harg4 arg5 harg5 arg6 harg6 arg7 harg7 arg8 harg8 arg9 harg9 arg10 harg10 arg11 harg11 arg12 harg12 k0_h2 _) fun _ => ?_
  refine wp_seq c E (wp_loop c arg8 arg10 arg11 X10 X11 33 k0_t34_loop _ (by decide +kernel) _ _ _ _ _ _ _ _ _ _ _ _ k0_off168_eq k0_off171_eq k0_off169_eq k0_off170_eq k0_off172_eq E) fun _ => ?_
  refine wp_seq c E (wp_loop c arg8 arg10 arg11 X10 X11 34 k0_t35_loop _ (by decide +kernel) _ _ _ _ _ _ _ _ _ _ _ _ k0_off173_eq k0_off176_eq k0_off174_eq k0_off175_eq k0_off177_eq E) fun _ => ?_
  refine wp_seq c E (wp_loop c arg8 arg10 arg11 X10 X11 35 k0_t36_loop _ (by decide +kernel) _ _ _ _ _ _ _ _ _ _ _ _ k0_off178_eq k0_off181_eq k0_off179_eq k0_off180_eq k0_off182_eq E) fun _ => ?_
  refine wp_seq c E (wp_loop c arg8 arg10 arg11 X10 X11 36 k0_t37_loop _ (by decide +kernel) _ _ _ _ _ _ _ _ _ _ _ _ k0_off183_eq k0_off186_eq k0_off184_eq k0_off185_eq k0_off187_eq E) fun _ => ?_
  exact wp_end c E _

end Cert.GuKIdeal.Gu

end
-- ==== Proof.Gu.Start.lean ====
/- The first part of a grid point: the scales laid out at a batch's first block, then the two products and the activations of the first half. -/
module

public import proofs.«01_k».proof.Proof.Gu.Loops
public import proofs.«01_k».proof.Proof.Gu.Vals
public import Idealize.ShloMosaic.Lib.VecWindow

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The six inputs of a grid point, held. -/
def Ins (c : Dev nD) (arg2 : Memref sig .tc .vmem S1x640x3584 .fp8e4m3) (arg3 : Memref sig .tc .vmem S3x640 .f32)
    (arg4 arg5 : Memref sig .tc .vmem S3584x256 .fp8e4m3) (arg6 arg7 : Memref sig .tc .vmem S1x256 .f32)
    (x0 : Vec F S1x640x3584 .fp8e4m3) (x1 : Vec F S3x640 .f32) (x2 x3 : Vec F S3584x256 .fp8e4m3) (x4 x5 : Vec F S1x256 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

variable (i : grid0.Coords)
  (arg2 : Memref sig .tc .vmem S1x640x3584 .fp8e4m3) (harg2 : arg2.IsWhole)
  (arg3 : Memref sig .tc .vmem S3x640 .f32) (harg3 : arg3.IsWhole)
  (arg4 : Memref sig .tc .vmem S3584x256 .fp8e4m3) (harg4 : arg4.IsWhole)
  (arg5 : Memref sig .tc .vmem S3584x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x640x9472 .fp8e4m3) (harg8 : arg8.IsWhole)
  (arg9 : Memref sig .tc .vmem S3x640 .f32) (harg9 : arg9.IsWhole)
  (arg10 : Memref sig .tc .vmem S37x640x256 .f32) (harg10 : arg10.IsWhole)
  (arg11 : Memref sig .tc .vmem S640x128 .f32) (harg11 : arg11.IsWhole)
  (arg12 : Memref sig .tc .vmem S640x128 .f32) (harg12 : arg12.IsWhole)

variable (c : Dev nD) (E : Set ℕ) (x0 : Vec F S1x640x3584 .fp8e4m3) (x1 : Vec F S3x640 .f32) (x2 x3 : Vec F S3584x256 .fp8e4m3) (x4 x5 : Vec F S1x256 .f32)
  (X10 : S37x640x256.Idx → F .f32) (X11 X12 : S640x128.Idx → F .f32)

/-- A load of one row of three. -/
theorem at_row (v : View sig .tc .vmem S3x640 .f32) (f : v.ty.Contents (Elt F)) (b : Fin 3) (o : ℕ) (h : o = b.val) (inb) (r : Fin 640) :
    v.readAt (Elt F) (Rect.unit (s := S3x640) ![o, 0] S1x640.size inb).toLoadRect f (ix2 (0 : Fin 1) r) = v.read (Elt F) f (ix2 b r) := by
  subst h
  refine congrArg (v.read (Elt F) f) (funext fun x => Fin.ext ?_)
  match x with
    | ⟨0, _⟩ => rfl
    | ⟨1, _⟩ => show 0 + 1 * r.val = r.val; omega

/-- A batch's first block: the maxima cleared, the batch's scales laid out, the first half's activations stored. -/
theorem wp_first (hc0 : (Scalar.cmpi .ne (Scalar.extui (Scalar.cmpi .eq (BitVec.ofNat 32 (i 1).val) 0#32)) 0#32) = 1#1)
    (K : (Σ' (arg0 : BitVec 32) (arg1 : BitVec 32) (v6 : FVec F S640x256 .f32) (v10 : FVec F S640x256 .f32), FVec F S640x128 .f32) → sProp 𝕄) :
    iprop(Ins c arg2 arg3 arg4 arg5 arg6 arg7 x0 x1 x2 x3 x4 x5 ∗ owns (c : Thread nD τ) arg10 fullShare X10 ∗ owns (c : Thread nD τ) arg11 fullShare X11 ∗ owns (c : Thread nD τ) arg12 fullShare X12
      ∗ ((Ins c arg2 arg3 arg4 arg5 arg6 arg7 x0 x1 x2 x3 x4 x5 ∗ owns (c : Thread nD τ) arg10 fullShare (setL (i 1).val (actL x0 x2 x3 x4 x5 (lanes (i 0) x1)) X10) ∗ owns (c : Thread nD τ) arg11 fullShare (lanes (i 0) x1) ∗ owns (c : Thread nD τ) arg12 fullShare k0_pay1) -∗
        K ⟨BitVec.ofNat 32 (i 0).val, BitVec.ofNat 32 (i 1).val, k0_pay86 x0 x2, k0_pay87 x0 x3, actL x0 x2 x3 x4 x5 (lanes (i 0) x1)⟩))
    ⊢ wp frame (wpE (defs₀ (F := F)) Variants.none (c : Thread nD τ) none) E (k0_part8_skel i arg2 harg2 arg3 harg3 arg4 harg4 arg5 harg5 arg6 harg6 arg7 harg7 arg8 harg8 arg9 harg9 arg10 harg10 arg11 harg11 arg12 harg12) K := by
  unfold k0_part8_skel Ins owns
  rw [k0_part1_eq_skeleton]
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%f10, %h10, H10⟩, ⟨%f11, %h11, H11⟩, ⟨%f12, %h12, H12⟩, HK⟩
  subst h2 h3 h4 h5 h6 h7 h10 h11 h12
  have e6 : arg6.view.readAt (Elt F) (Rect.unit (s := S1x256) ![0, 0] S1x128.size inb_S1x256_S1x128_0_0).toLoadRect f6 = lo (arg6.view.read (Elt F) f6) := rfl
  have e7 : arg7.view.readAt (Elt F) (Rect.unit (s := S1x256) ![0, 0] S1x128.size inb_S1x256_S1x128_0_0).toLoadRect f7 = lo (arg7.view.read (Elt F) f7) := rfl
  unfold actL
  sl_exec (disch := first | sl_exact hc0)
  have e11 : ∀ f, arg11.view.read (Elt F) (arg11.view.writes (Elt F) f (wp_first.sl.H11_5 i arg3 c f3)) = lanes (i 0) (arg3.view.read (Elt F) f3) := fun f =>
    (read_stack arg11.view f ![_, _, _, _, _] inb_S640x128_S128x128_0_0 inb_S640x128_S128x128_128_0 inb_S640x128_S128x128_256_0
      inb_S640x128_S128x128_384_0 inb_S640x128_S128x128_512_0).trans
      (stack_lanes (i 0) (arg3.view.read (Elt F) f3) (BitVec.ofNat 32 (i 0).val) rfl _ _ _ (fun _ => at_row _ _ 0 0 rfl inb_S3x640_S1x640_0_0 _) (fun _ => at_row _ _ 1 1 rfl inb_S3x640_S1x640_1_0 _) (fun _ => at_row _ _ 2 2 rfl inb_S3x640_S1x640_2_0 _))
  have e12 : wp_first.sl.v12 i arg3 arg11 c f3 = lanes (i 0) (arg3.view.read (Elt F) f3) :=
    (View.readAt_full arg11.view _ inb_S640x128_S640x128_0_0).trans (e11 _)
  rw [View.readAt_full arg2.view f2 inb_S1x640x3584_S1x640x3584_0_0_0, View.readAt_full arg4.view f4 inb_S3584x256_S3584x256_0_0,
    View.readAt_full arg5.view f5 inb_S3584x256_S3584x256_0_0, e12]
  rw [wp_ret]
  imodintro
  iapply HK
  isplitl [H2 H3 H4 H5 H6 H7]
  · isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    iexists f7; isplitr; · ipureintro; rfl
    iexact H7
  isplitl [H10]
  · iexists _; isplitr; swap; · iexact H10
    ipureintro
    exact read_setL arg10.view f10 _ _ _ (k0_off1_eq i) _
  isplitl [H11]; · iexists _; isplitr; swap; · iexact H11
                   ipureintro; exact e11 _
  iexists _; isplitr; swap; · iexact H12
  ipureintro; exact View.read_writes_full _ _ _ _ _

/-- A later block: the first half's activations stored. -/
theorem wp_later (hc0 : ¬ (Scalar.cmpi .ne (Scalar.extui (Scalar.cmpi .eq (BitVec.ofNat 32 (i 1).val) 0#32)) 0#32) = 1#1)
    (K : (Σ' (arg0 : BitVec 32) (arg1 : BitVec 32) (v6 : FVec F S640x256 .f32) (v10 : FVec F S640x256 .f32), FVec F S640x128 .f32) → sProp 𝕄) :
    iprop(Ins c arg2 arg3 arg4 arg5 arg6 arg7 x0 x1 x2 x3 x4 x5 ∗ owns (c : Thread nD τ) arg10 fullShare X10 ∗ owns (c : Thread nD τ) arg11 fullShare X11 ∗ owns (c : Thread nD τ) arg12 fullShare X12
      ∗ ((Ins c arg2 arg3 arg4 arg5 arg6 arg7 x0 x1 x2 x3 x4 x5 ∗ owns (c : Thread nD τ) arg10 fullShare (setL (i 1).val (actL x0 x2 x3 x4 x5 X11) X10) ∗ owns (c : Thread nD τ) arg11 fullShare X11 ∗ owns (c : Thread nD τ) arg12 fullShare X12) -∗
        K ⟨BitVec.ofNat 32 (i 0).val, BitVec.ofNat 32 (i 1).val, k0_pay86 x0 x2, k0_pay87 x0 x3, actL x0 x2 x3 x4 x5 X11⟩))
    ⊢ wp frame (wpE (defs₀ (F := F)) Variants.none (c : Thread nD τ) none) E (k0_part8_skel i arg2 harg2 arg3 harg3 arg4 harg4 arg5 harg5 arg6 harg6 arg7 harg7 arg8 harg8 arg9 harg9 arg10 harg10 arg11 harg11 arg12 harg12) K := by
  unfold k0_part8_skel Ins owns
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%f10, %h10, H10⟩, ⟨%f11, %h11, H11⟩, ⟨%f12, %h12, H12⟩, HK⟩
  subst h2 h3 h4 h5 h6 h7 h10 h11 h12
  have e6 : arg6.view.readAt (Elt F) (Rect.unit (s := S1x256) ![0, 0] S1x128.size inb_S1x256_S1x128_0_0).toLoadRect f6 = lo (arg6.view.read (Elt F) f6) := rfl
  have e7 : arg7.view.readAt (Elt F) (Rect.unit (s := S1x256) ![0, 0] S1x128.size inb_S1x256_S1x128_0_0).toLoadRect f7 = lo (arg7.view.read (Elt F) f7) := rfl
  unfold actL
  sl_exec (disch := first | sl_exact hc0)
  rw [View.readAt_full arg2.view f2 inb_S1x640x3584_S1x640x3584_0_0_0, View.readAt_full arg4.view f4 inb_S3584x256_S3584x256_0_0,
    View.readAt_full arg5.view f5 inb_S3584x256_S3584x256_0_0, View.readAt_full arg11.view f11 inb_S640x128_S640x128_0_0]
  rw [wp_ret]
  imodintro
  iapply HK
  isplitl [H2 H3 H4 H5 H6 H7]
  · isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    iexists f7; isplitr; · ipureintro; rfl
    iexact H7
  isplitl [H10]
  · iexists _; isplitr; swap; · iexact H10
    ipureintro
    exact read_setL arg10.view f10 _ _ _ (k0_off1_eq i) _
  isplitl [H11]; · iexists f11; isplitr; · ipureintro; rfl
                   iexact H11
  iexists f12; isplitr; · ipureintro; rfl
  iexact H12

end Cert.GuKIdeal.Gu

end
-- ==== Proof.Gu.Rest.lean ====
/- The second part of a grid point: the activations of the second half, the running maxima, and at a batch's last block the scales and the codes. -/
module

public import proofs.«01_k».proof.Proof.Gu.Finish
public import proofs.«01_k».proof.Proof.Gu.Start

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg2 : Memref sig .tc .vmem S1x640x3584 .fp8e4m3) (harg2 : arg2.IsWhole)
  (arg3 : Memref sig .tc .vmem S3x640 .f32) (harg3 : arg3.IsWhole)
  (arg4 : Memref sig .tc .vmem S3584x256 .fp8e4m3) (harg4 : arg4.IsWhole)
  (arg5 : Memref sig .tc .vmem S3584x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x640x9472 .fp8e4m3) (harg8 : arg8.IsWhole)
  (arg9 : Memref sig .tc .vmem S3x640 .f32) (harg9 : arg9.IsWhole)
  (arg10 : Memref sig .tc .vmem S37x640x256 .f32) (harg10 : arg10.IsWhole)
  (arg11 : Memref sig .tc .vmem S640x128 .f32) (harg11 : arg11.IsWhole)
  (arg12 : Memref sig .tc .vmem S640x128 .f32) (harg12 : arg12.IsWhole)

variable (c : Dev nD) (E : Set ℕ) (x0 : Vec F S1x640x3584 .fp8e4m3) (x1 : Vec F S3x640 .f32) (x2 x3 : Vec F S3584x256 .fp8e4m3) (x4 x5 : Vec F S1x256 .f32)
  (X8 : S1x640x9472.Idx → F .fp8e4m3) (X9 : S3x640.Idx → F .f32) (X10 : S37x640x256.Idx → F .f32) (X11 X12 : S640x128.Idx → F .f32)

/-- A block that is not a batch's last: the second half's activations stored and the maxima taken. -/
theorem wp_rest (hc2 : ¬ k0_cond2 i = 1#1) (a0 a1 : BitVec 32) (K : PUnit → sProp 𝕄) :
    iprop(Ins c arg2 arg3 arg4 arg5 arg6 arg7 x0 x1 x2 x3 x4 x5 ∗ owns (c : Thread nD τ) arg10 fullShare X10 ∗ owns (c : Thread nD τ) arg11 fullShare X11 ∗ owns (c : Thread nD τ) arg12 fullShare X12
      ∗ ((Ins c arg2 arg3 arg4 arg5 arg6 arg7 x0 x1 x2 x3 x4 x5 ∗ owns (c : Thread nD τ) arg10 fullShare (setH (i 1).val (actH x0 x2 x3 x4 x5 X11) X10) ∗ owns (c : Thread nD τ) arg11 fullShare X11 ∗ owns (c : Thread nD τ) arg12 fullShare (maxNext x0 x2 x3 x4 x5 X11 X12)) -∗ K PUnit.unit))
    ⊢ wp frame (wpE (defs₀ (F := F)) Variants.none (c : Thread nD τ) none) E
        (k0_part9_skel i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11)) K := by
  unfold k0_part9_skel Ins owns
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%f10, %h10, H10⟩, ⟨%f11, %h11, H11⟩, ⟨%f12, %h12, H12⟩, HK⟩
  have e6 : arg6.view.readAt (Elt F) (Rect.unit (s := S1x256) ![0, 128] S1x128.size inb_S1x256_S1x128_0_128).toLoadRect f6 = hi x4 := by rw [← h6]; rfl
  have e7 : arg7.view.readAt (Elt F) (Rect.unit (s := S1x256) ![0, 128] S1x128.size inb_S1x256_S1x128_0_128).toLoadRect f7 = hi x5 := by rw [← h7]; rfl
  have e11 := (View.readAt_full arg11.view f11 inb_S640x128_S640x128_0_0).trans h11
  have e12 := (View.readAt_full arg12.view f12 inb_S640x128_S640x128_0_0).trans h12
  unfold maxNext actH
  sl_exec (disch := first | sl_exact hc2)
  have e59 : wp_rest.sl.v59 arg12 c x0 x2 x3 x4 x5 X11 X12 = k0_pay90 (actL x0 x2 x3 x4 x5 X11) X12 :=
    View.readCov_full arg12.view inb_S640x128_S640x128_0_0 inb_S640x128_S640x128_0_0 _ _
  rw [e59]
  rw [wp_ret]
  imodintro
  iapply HK
  isplitl [H2 H3 H4 H5 H6 H7]
  · isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    iexists f7; isplitr; · ipureintro; exact h7
    iexact H7
  isplitl [H10]
  · iexists _; isplitr; swap; · iexact H10
    ipureintro
    exact (read_setH arg10.view f10 _ _ _ (k0_off2_eq i) _).trans (by rw [h10])
  isplitl [H11]; · iexists f11; isplitr; · ipureintro; exact h11
                   iexact H11
  iexists _; isplitr; swap; · iexact H12
  ipureintro; exact View.read_writes_full _ _ _ _ _

/-- The scales of a batch laid out: block by block from the running maxima. -/
theorem wp_stack {β : Type} (M : S640x128.Idx → F .f32) (k : FVec F S1x128 .f32 → Prog (TpuEff nD τ sig (Elt F) Λ₀ .tc) β) (K : β → sProp 𝕄) :
    iprop(owns (c : Thread nD τ) arg11 fullShare X11 ∗ owns (c : Thread nD τ) arg12 fullShare M
      ∗ ((owns (c : Thread nD τ) arg11 fullShare (scales M) ∗ owns (c : Thread nD τ) arg12 fullShare M) -∗ wp frame (wpE (defs₀ (F := F)) Variants.none (c : Thread nD τ) none) E (k (k0_pay16 (k0_pay7 (rows M 0)))) K))
    ⊢ wp frame (wpE (defs₀ (F := F)) Variants.none (c : Thread nD τ) none) E
        (k0_part2_skel i arg2 harg2 arg3 harg3 arg4 harg4 arg5 harg5 arg6 harg6 arg7 harg7 arg8 harg8 arg9 harg9 arg10 harg10 arg11 harg11 arg12 harg12 >>= fun r => k0_part3_skel i arg2 harg2 arg3 harg3 arg4 harg4 arg5 harg5 arg6 harg6 arg7 harg7 arg8 harg8 arg9 harg9 arg10 harg10 arg11 harg11 arg12 harg12 r.1 r.2.1 r.2.2 >>= k) K := by
  unfold k0_part2_skel k0_part3_skel owns
  iintro ⟨⟨%f11, %h11, H11⟩, ⟨%f12, %h12, H12⟩, HK⟩
  have r0 := (readAt_rows arg12.view f12 0 0 rfl inb_S640x128_S128x128_0_0).trans (congrArg (rows · 0) h12)
  have r1 := (readAt_rows arg12.view f12 1 128 rfl inb_S640x128_S128x128_128_0).trans (congrArg (rows · 1) h12)
  have r2 := (readAt_rows arg12.view f12 2 256 rfl inb_S640x128_S128x128_256_0).trans (congrArg (rows · 2) h12)
  have r3 := (readAt_rows arg12.view f12 3 384 rfl inb_S640x128_S128x128_384_0).trans (congrArg (rows · 3) h12)
  have r4 := (readAt_rows arg12.view f12 4 512 rfl inb_S640x128_S128x128_512_0).trans (congrArg (rows · 4) h12)
  sl_exec
  have hs : ∀ f, arg11.view.read (Elt F) (arg11.view.writes (Elt F) f (wp_stack.sl.H11_5 M)) = scales M := fun f =>
    read_stack arg11.view f (fun k => k0_pay7 (rows M k)) _ _ _ _ _
  have e138 : wp_stack.sl.v138 arg11 c M = k0_pay7 (rows M 0) :=
    (readAt_rows arg11.view _ 0 0 rfl inb_S640x128_S128x128_0_0).trans ((congrArg (rows · 0) (hs _)).trans (rows_stack _ 0))
  rw [e138]
  iapply HK
  isplitl [H11]; · iexists _; isplitr; swap; · iexact H11
                   ipureintro; exact hs _
  iexists f12; isplitr; · ipureintro; exact h12
  iexact H12

/-- A batch's last block: the second half, the maxima, then the scales and all the codes of the batch. -/
theorem wp_last (hc2 : k0_cond2 i = 1#1) (a0 a1 : BitVec 32) (K : PUnit → sProp 𝕄) :
    iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12
      ∗ ((Ins c arg2 arg3 arg4 arg5 arg6 arg7 x0 x1 x2 x3 x4 x5 ∗ Held c arg8 arg10 arg11 (setH (i 1).val (actH x0 x2 x3 x4 x5 X11) X10) (scales (maxNext x0 x2 x3 x4 x5 X11 X12)) 37 0
          ∗ owns (c : Thread nD τ) arg9 fullShare (setRow (i 0).val (scaleRow (maxNext x0 x2 x3 x4 x5 X11 X12)) X9) ∗ owns (c : Thread nD τ) arg12 fullShare (maxNext x0 x2 x3 x4 x5 X11 X12)) -∗ K PUnit.unit))
    ⊢ wp frame (wpE (defs₀ (F := F)) Variants.none (c : Thread nD τ) none) E
        (k0_part9_skel i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11)) K := by
  unfold k0_part9_skel Ins owns
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%f8, %h8, H8⟩, ⟨%f9, %h9, H9⟩, ⟨%f10, %h10, H10⟩, ⟨%f11, %h11, H11⟩, ⟨%f12, %h12, H12⟩, HK⟩
  have e6 : arg6.view.readAt (Elt F) (Rect.unit (s := S1x256) ![0, 128] S1x128.size inb_S1x256_S1x128_0_128).toLoadRect f6 = hi x4 := by rw [← h6]; rfl
  have e7 : arg7.view.readAt (Elt F) (Rect.unit (s := S1x256) ![0, 128] S1x128.size inb_S1x256_S1x128_0_128).toLoadRect f7 = hi x5 := by rw [← h7]; rfl
  have e11 := (View.readAt_full arg11.view f11 inb_S640x128_S640x128_0_0).trans h11
  have e12 := (View.readAt_full arg12.view f12 inb_S640x128_S640x128_0_0).trans h12
  have hc2' : k0_cond2 i = 1#1 ∨ False := .inl hc2
  clear hc2
  sl_exec
  have e59 : wp_last.sl.v59 arg12 c x0 x2 x3 x4 x5 X11 X12 = k0_pay90 (actL x0 x2 x3 x4 x5 X11) X12 :=
    View.readCov_full arg12.view inb_S640x128_S640x128_0_0 inb_S640x128_S640x128_0_0 _ _
  rw [e59]
  have q12 : arg12.view.read (Elt F) (arg12.view.writes (Elt F) f12 (⟨Rect.unit ![0, 0] S640x128.size inb_S640x128_S640x128_0_0,
      k0_pay93 (k0_pay86 x0 x2) (k0_pay87 x0 x3) X11 (hi x4) X11 (hi x5) (k0_pay90 (actL x0 x2 x3 x4 x5 X11) X12)⟩ ::
        wp_last.sl.H12_1 x0 x2 x3 x4 x5 X11 X12)) = maxNext x0 x2 x3 x4 x5 X11 X12 := View.read_writes_full _ _ _ _ _
  have q10 := (read_setH arg10.view f10 (i 1).val _ (k0_off2_inb i) (k0_off2_eq i) (actH x0 x2 x3 x4 x5 X11)).trans (congrArg _ h10)
  generalize arg12.view.writes (Elt F) f12 _ = g12 at q12 ⊢
  change arg10.view.read (Elt F) (arg10.view.writes (Elt F) f10 [⟨Rect.unit (s := S37x640x256) (k0_off2 i) S1x640x128.size (k0_off2_inb i),
    k0_pay92 (k0_pay86 x0 x2) (k0_pay87 x0 x3) X11 (hi x4) X11 (hi x5)⟩]) = _ at q10
  generalize arg10.view.writes (Elt F) f10 _ = g10 at q10 ⊢
  have hc2 := hc2'.resolve_right id
  rw [dif_pos hc2, k0_part2_eq_skeleton, k0_part3_eq_skeleton, k0_part4_eq_skeleton]
  iapply (wp_stack i arg2 harg2 arg3 harg3 arg4 harg4 arg5 harg5 arg6 harg6 arg7 harg7 arg8 harg8 arg9 harg9 arg10 harg10 arg11 harg11 arg12 harg12 c E X11 (maxNext x0 x2 x3 x4 x5 X11 X12) (fun v => do
        let u ← k0_part4_skel i arg2 harg2 arg3 harg3 arg4 harg4 arg5 harg5 arg6 harg6 arg7 harg7 arg8 harg8 arg9 harg9 arg10 harg10 arg11 harg11 arg12 harg12 a0 hc2 v
        let a ← k0_part5 i arg2 harg2 arg3 harg3 arg4 harg4 arg5 harg5 arg6 harg6 arg7 harg7 arg8 harg8 arg9 harg9 arg10 harg10 arg11 harg11 arg12 harg12 hc2 u
        let b ← k0_part6 i arg2 harg2 arg3 harg3 arg4 harg4 arg5 harg5 arg6 harg6 arg7 harg7 arg8 harg8 arg9 harg9 arg10 harg10 arg11 harg11 arg12 harg12 hc2 a
        let d ← k0_part7 i arg2 harg2 arg3 harg3 arg4 harg4 arg5 harg5 arg6 harg6 arg7 harg7 arg8 harg8 arg9 harg9 arg10 harg10 arg11 harg11 arg12 harg12 hc2 b
        Scf.Loop.for k0_t34_loop (k0_t34_ok i hc2) PUnit.unit (k0_t34_body i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11) hc2)
        Scf.Loop.for k0_t35_loop (k0_t35_ok i hc2) PUnit.unit (k0_t35_body i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11) hc2)
        Scf.Loop.for k0_t36_loop (k0_t36_ok i hc2) PUnit.unit (k0_t36_body i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11) hc2)
        Scf.Loop.for k0_t37_loop (k0_t37_ok i hc2) PUnit.unit (k0_t37_body i arg2 harg2 arg3 harg3 arg4 harg4 arg5 harg5 arg6 harg6 arg7 harg7 arg8 harg8 arg9 harg9 arg10 harg10 arg11 harg11 arg12 harg12 a0 a1 (k0_pay86 x0 x2) (k0_pay87 x0 x3) (actL x0 x2 x3 x4 x5 X11) hc2)
        pure PUnit.unit) K)
  unfold owns
  isplitl [H11]; · iexists f11; isplitr; · ipureintro; exact h11
                   iexact H11
  isplitl [H12]; · iexists g12; isplitr; · ipureintro; exact q12
                   iexact H12
  iintro ⟨⟨%g11, %q11, H11⟩, ⟨%w12, %u12, H12⟩⟩
  rw [wp_bind]
  iapply (wp_part4 i arg2 harg2 arg3 harg3 arg4 harg4 arg5 harg5 arg6 harg6 arg7 harg7 arg8 harg8 arg9 harg9 arg10 harg10 arg11 harg11 arg12 harg12 c E (setH (i 1).val (actH x0 x2 x3 x4 x5 X11) X10) (scales (maxNext x0 x2 x3 x4 x5 X11 X12)) X9 hc2 a0 _ _)
  unfold Held owns
  isplitl [H8 H10 H11]
  · isplitl [H10]; · iexists g10; isplitr; · ipureintro; exact q10
                     iexact H10
    isplitl [H11]; · iexists g11; isplitr; · ipureintro; exact q11
                     iexact H11
    iexists X8; isplitr; · ipureintro; exact fun j _ _ _ _ h => by rcases h with h | ⟨_, h⟩ <;> omega
    iexists f8; isplitr; · ipureintro; exact h8
    iexact H8
  isplitl [H9]; · iexists f9; isplitr; · ipureintro; exact h9
                  iexact H9
  iintro %v ⟨HH, ⟨%g9, %q9, H9⟩⟩
  iapply (wp_wand_r frame (wpE (defs₀ (F := F)) Variants.none (c : Thread nD τ) none) E)
  isplitl [HH]
  · iapply (wp_planes i arg2 harg2 arg3 harg3 arg4 harg4 arg5 harg5 arg6 harg6 arg7 harg7 arg8 harg8 arg9 harg9 arg10 harg10 arg11 harg11 arg12 harg12 c E (setH (i 1).val (actH x0 x2 x3 x4 x5 X11) X10) (scales (maxNext x0 x2 x3 x4 x5 X11 X12)) hc2 a0 a1 _ _ _ v)
    unfold Held owns
    iexact HH
  · iintro %w HH
    unfold Held owns
    iapply HK
    isplitl [H2 H3 H4 H5 H6 H7]
    · isplitl [H2]; · iexists f2; isplitr; · ipureintro; exact h2
                      iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      iexists f7; isplitr; · ipureintro; exact h7
      iexact H7
    isplitl [HH]; · iexact HH
    isplitl [H9]
    · iexists g9; isplitr; swap; · iexact H9
      ipureintro; rw [q9]; simp only [scaleRow, scales, rows_stack]
    iexists w12; isplitr; · ipureintro; exact u12
    iexact H12

end Cert.GuKIdeal.Gu

end
-- ==== Proof.Gu.Body.lean ====
/- One grid point: what it makes of the buffers, in the three cases (a batch's first block, its last block, a block between). -/
module

public import proofs.«01_k».proof.Proof.Gu.Rest

@[expose] public section

set_option maxRecDepth 16384

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg2 : Memref sig .tc .vmem S1x640x3584 .fp8e4m3) (harg2 : arg2.IsWhole)
  (arg3 : Memref sig .tc .vmem S3x640 .f32) (harg3 : arg3.IsWhole)
  (arg4 : Memref sig .tc .vmem S3584x256 .fp8e4m3) (harg4 : arg4.IsWhole)
  (arg5 : Memref sig .tc .vmem S3584x256 .fp8e4m3) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x640x9472 .fp8e4m3) (harg8 : arg8.IsWhole)
  (arg9 : Memref sig .tc .vmem S3x640 .f32) (harg9 : arg9.IsWhole)
  (arg10 : Memref sig .tc .vmem S37x640x256 .f32) (harg10 : arg10.IsWhole)
  (arg11 : Memref sig .tc .vmem S640x128 .f32) (harg11 : arg11.IsWhole)
  (arg12 : Memref sig .tc .vmem S640x128 .f32) (harg12 : arg12.IsWhole)

variable (c : Dev nD) (E : Set ℕ) (x0 : Vec F S1x640x3584 .fp8e4m3) (x1 : Vec F S3x640 .f32) (x2 x3 : Vec F S3584x256 .fp8e4m3) (x4 x5 : Vec F S1x256 .f32)
  (X8 : S1x640x9472.Idx → F .fp8e4m3) (X9 : S3x640.Idx → F .f32) (X10 : S37x640x256.Idx → F .f32) (X11 X12 : S640x128.Idx → F .f32)

/-- A batch's first block. -/
theorem wp_start (hc0 : (Scalar.cmpi .ne (Scalar.extui (Scalar.cmpi .eq (BitVec.ofNat 32 (i 1).val) 0#32)) 0#32) = 1#1) (hc2 : ¬ k0_cond2 i = 1#1) :
    iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
    ⊢ wp frame (wpE (defs₀ (F := F)) Variants.none (c : Thread nD τ) none) E (cc0_gateup i arg2 harg2 arg3 harg3 arg4 harg4 arg5 harg5 arg6 harg6 arg7 harg7 arg8 harg8 arg9 harg9 arg10 harg10 arg11 harg11 arg12 harg12)
        (fun _ => (iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare (setH (i 1).val (actH x0 x2 x3 x4 x5 (lanes (i 0) x1)) (setL (i 1).val (actL x0 x2 x3 x4 x5 (lanes (i 0) x1)) X10)) ∗ owns (c : Thread nD τ) arg11 fullShare ((lanes (i 0) x1)) ∗ owns (c : Thread nD τ) arg12 fullShare (maxNext x0 x2 x3 x4 x5 (lanes (i 0) x1) k0_pay1)) : sProp 𝕄)) := by
  rw [cc0_gateup_eq_skeleton]
  unfold cc0_gateup_skel
  rw [k0_part8_eq_skeleton, k0_part9_eq_skeleton, wp_bind]
  iintro ⟨HI, H8, H9, H10, H11, H12⟩
  iapply (wp_first i arg2 harg2 arg3 harg3 arg4 harg4 arg5 harg5 arg6 harg6 arg7 harg7 arg8 harg8 arg9 harg9 arg10 harg10 arg11 harg11 arg12 harg12 c E x0 x1 x2 x3 x4 x5 X10 X11 X12 hc0 _)
  isplitl [HI]; · iexact HI
  isplitl [H10]; · iexact H10
  isplitl [H11]; · iexact H11
  isplitl [H12]; · iexact H12
  iintro ⟨HI, H10, H11, H12⟩
  dsimp only
  rw [wp_bind]
  iapply (wp_rest i arg2 harg2 arg3 harg3 arg4 harg4 arg5 harg5 arg6 harg6 arg7 harg7 arg8 harg8 arg9 harg9 arg10 harg10 arg11 harg11 arg12 harg12 c E x0 x1 x2 x3 x4 x5 (setL (i 1).val (actL x0 x2 x3 x4 x5 (lanes (i 0) x1)) X10) (lanes (i 0) x1) k0_pay1 hc2 _ _ _)
  isplitl [HI]; · iexact HI
  isplitl [H10]; · iexact H10
  isplitl [H11]; · iexact H11
  isplitl [H12]; · iexact H12
  iintro ⟨HI, H10, H11, H12⟩
  iapply (wp_end c E PUnit.unit)
  isplitl [HI]; · iexact HI
  isplitl [H8]; · iexact H8
  isplitl [H9]; · iexact H9
  isplitl [H10]; · iexact H10
  isplitl [H11]; · iexact H11
  iexact H12

/-- A block of a batch that is neither its first nor its last. -/
theorem wp_mid (hc0 : ¬ (Scalar.cmpi .ne (Scalar.extui (Scalar.cmpi .eq (BitVec.ofNat 32 (i 1).val) 0#32)) 0#32) = 1#1) (hc2 : ¬ k0_cond2 i = 1#1) :
    iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
    ⊢ wp frame (wpE (defs₀ (F := F)) Variants.none (c : Thread nD τ) none) E (cc0_gateup i arg2 harg2 arg3 harg3 arg4 harg4 arg5 harg5 arg6 harg6 arg7 harg7 arg8 harg8 arg9 harg9 arg10 harg10 arg11 harg11 arg12 harg12)
        (fun _ => (iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare (setH (i 1).val (actH x0 x2 x3 x4 x5 X11) (setL (i 1).val (actL x0 x2 x3 x4 x5 X11) X10)) ∗ owns (c : Thread nD τ) arg11 fullShare X11 ∗ owns (c : Thread nD τ) arg12 fullShare (maxNext x0 x2 x3 x4 x5 X11 X12)) : sProp 𝕄)) := by
  rw [cc0_gateup_eq_skeleton]
  unfold cc0_gateup_skel
  rw [k0_part8_eq_skeleton, k0_part9_eq_skeleton, wp_bind]
  iintro ⟨HI, H8, H9, H10, H11, H12⟩
  iapply (wp_later i arg2 harg2 arg3 harg3 arg4 harg4 arg5 harg5 arg6 harg6 arg7 harg7 arg8 harg8 arg9 harg9 arg10 harg10 arg11 harg11 arg12 harg12 c E x0 x1 x2 x3 x4 x5 X10 X11 X12 hc0 _)
  isplitl [HI]; · iexact HI
  isplitl [H10]; · iexact H10
  isplitl [H11]; · iexact H11
  isplitl [H12]; · iexact H12
  iintro ⟨HI, H10, H11, H12⟩
  dsimp only
  rw [wp_bind]
  iapply (wp_rest i arg2 harg2 arg3 harg3 arg4 harg4 arg5 harg5 arg6 harg6 arg7 harg7 arg8 harg8 arg9 harg9 arg10 harg10 arg11 harg11 arg12 harg12 c E x0 x1 x2 x3 x4 x5 (setL (i 1).val (actL x0 x2 x3 x4 x5 X11) X10) X11 X12 hc2 _ _ _)
  isplitl [HI]; · iexact HI
  isplitl [H10]; · iexact H10
  isplitl [H11]; · iexact H11
  isplitl [H12]; · iexact H12
  iintro ⟨HI, H10, H11, H12⟩
  iapply (wp_end c E PUnit.unit)
  isplitl [HI]; · iexact HI
  isplitl [H8]; · iexact H8
  isplitl [H9]; · iexact H9
  isplitl [H10]; · iexact H10
  isplitl [H11]; · iexact H11
  iexact H12

/-- A batch's last block. -/
theorem wp_stop (hc0 : ¬ (Scalar.cmpi .ne (Scalar.extui (Scalar.cmpi .eq (BitVec.ofNat 32 (i 1).val) 0#32)) 0#32) = 1#1) (hc2 : k0_cond2 i = 1#1) :
    iprop(Ins c arg2 arg3 arg4 arg5 arg6 arg7 x0 x1 x2 x3 x4 x5 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
    ⊢ wp frame (wpE (defs₀ (F := F)) Variants.none (c : Thread nD τ) none) E (cc0_gateup i arg2 harg2 arg3 harg3 arg4 harg4 arg5 harg5 arg6 harg6 arg7 harg7 arg8 harg8 arg9 harg9 arg10 harg10 arg11 harg11 arg12 harg12)
        (fun _ => (iprop(Ins c arg2 arg3 arg4 arg5 arg6 arg7 x0 x1 x2 x3 x4 x5 ∗ Held c arg8 arg10 arg11 (setH (i 1).val (actH x0 x2 x3 x4 x5 X11) (setL (i 1).val (actL x0 x2 x3 x4 x5 X11) X10)) (scales (maxNext x0 x2 x3 x4 x5 X11 X12)) 37 0 ∗ owns (c : Thread nD τ) arg9 fullShare (setRow (i 0).val (scaleRow (maxNext x0 x2 x3 x4 x5 X11 X12)) X9) ∗ owns (c : Thread nD τ) arg12 fullShare (maxNext x0 x2 x3 x4 x5 X11 X12)) : sProp 𝕄)) := by
  rw [cc0_gateup_eq_skeleton]
  unfold cc0_gateup_skel
  rw [k0_part8_eq_skeleton, k0_part9_eq_skeleton, wp_bind]
  iintro ⟨HI, H8, H9, H10, H11, H12⟩
  iapply (wp_later i arg2 harg2 arg3 harg3 arg4 harg4 arg5 harg5 arg6 harg6 arg7 harg7 arg8 harg8 arg9 harg9 arg10 harg10 arg11 harg11 arg12 harg12 c E x0 x1 x2 x3 x4 x5 X10 X11 X12 hc0 _)
  isplitl [HI]; · iexact HI
  isplitl [H10]; · iexact H10
  isplitl [H11]; · iexact H11
  isplitl [H12]; · iexact H12
  iintro ⟨HI, H10, H11, H12⟩
  dsimp only
  rw [wp_bind]
  iapply (wp_last i arg2 harg2 arg3 harg3 arg4 harg4 arg5 harg5 arg6 harg6 arg7 harg7 arg8 harg8 arg9 harg9 arg10 harg10 arg11 harg11 arg12 harg12 c E x0 x1 x2 x3 x4 x5 X8 X9 (setL (i 1).val (actL x0 x2 x3 x4 x5 X11) X10) X11 X12 hc2 _ _ _)
  isplitl [HI]; · iexact HI
  isplitl [H8]; · iexact H8
  isplitl [H9]; · iexact H9
  isplitl [H10]; · iexact H10
  isplitl [H11]; · iexact H11
  isplitl [H12]; · iexact H12
  iintro H
  iapply (wp_end c E PUnit.unit)
  iexact H

end Cert.GuKIdeal.Gu

end
-- ==== Proof.Gu.Run.lean ====
/- The call at every grid point, and its run: the argument arrays stay, and each result is written as the data of the points say. -/
module

public import proofs.«01_k».proof.Proof.Gu.Body
public import proofs.«01_k».proof.Proof.Gu.Data
public import Idealize.ShloMosaic.Lib.Pipeline.ArrRel
public import Idealize.ShloMosaic.Lib.Claim

@[expose] public section

set_option maxRecDepth 16384

noncomputable section

namespace Cert.GuKIdeal.Gu

open Idealize.ShloMosaic.Pipeline (RDat)

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What is known of the scratch after point `t`: the batch's planes so far; and, but after a batch's last block, the
    batch's row scales and the running maxima. -/
def Kept (t : Fin cfg0.N) (X10 : S37x640x256.Idx → F .f32) (X11 X12 : S640x128.Idx → F .f32) : Prop :=
  Planes m c t X10 ∧ (¬ t.val % 37 = 36 → X11 = sc m c t ∧ X12 = maxAt m c t.val t.isLt)

/-- The scratch before point `n`: at anything before the first, then as the point before left it. -/
def PhiS : (n : ℕ) → n ≤ cfg0.N → sProp 𝕄
  | 0, _ => Pipeline.ΦA spec0 c
  | n + 1, hn => iprop((∃ X10 X11 X12, ⌜Kept m c ⟨n, hn⟩ X10 X11 X12⌝ ∗ owns (c : Thread nD τ) (Memref.whole cc0_scratch0 : Memref sig .tc .vmem S37x640x256 .f32) fullShare X10 ∗ owns (c : Thread nD τ) (Memref.whole cc0_scratch1 : Memref sig .tc .vmem S640x128 .f32) fullShare X11 ∗ owns (c : Thread nD τ) (Memref.whole cc0_scratch2 : Memref sig .tc .vmem S640x128 .f32) fullShare X12) ∗ (∃ r, prngReg c r))

/-- What a batch's last point leaves in the window of codes: every code is that of an activation the batch's points made. -/
def Codes (t : Fin cfg0.N) (X : S1x640x9472.Idx → F .fp8e4m3) : Prop :=
  ∃ X10, Planes m c t X10 ∧ Done X10 (scales (maxAt m c t.val t.isLt)) 37 0 X

/-- What the points may leave in the windows: an input's buffer as found; the codes and the row of scales at a batch's
    last point, and those buffers as found at the others. -/
def rdat : RDat τ (Elt F) Unit ℕ (UR sig nD τ) ℕ cfg0 c where
  A w := V m c (Pipeline.arrRef spec0 w)
  after w t Y X := match w, Y, X with
    | ⟨6, _⟩, Y, X => (t.val % 37 = 36 → Codes m c t X) ∧ (¬ t.val % 37 = 36 → X = Y)
    | ⟨7, _⟩, Y, X => (t.val % 37 = 36 → X = setRow (grid0.coords t 0).val (scaleRow (maxAt m c t.val t.isLt)) Y) ∧ (¬ t.val % 37 = 36 → X = Y)
    | ⟨_, _⟩, Y, X => X = Y
  Φ t := PhiS m c t.val (Nat.le_of_lt_succ t.isLt)
  q w := Pipeline.shareOf spec0 w
  owed _ := 0

theorem A_eq (w : Fin cfg0.W) : (rdat m c).A w = V m c (Pipeline.arrRef spec0 w) := by dsimp only [rdat]

/-- The scratch and the generator's register as the launch hands them over. -/
theorem PhiA0_eq :
    (Pipeline.ΦA spec0 c : sProp 𝕄)
      = iprop(iprop((∃ d, owns (c : Thread nD τ) (Memref.whole cc0_scratch0 : Memref sig .tc .vmem S37x640x256 .f32) fullShare d) ∗ (∃ d, owns (c : Thread nD τ) (Memref.whole cc0_scratch1 : Memref sig .tc .vmem S640x128 .f32) fullShare d) ∗ (∃ d, owns (c : Thread nD τ) (Memref.whole cc0_scratch2 : Memref sig .tc .vmem S640x128 .f32) fullShare d)) ∗ (∃ r, prngReg c r)) := by
  unfold Pipeline.ΦA; rw [scopedRest0_eq]; simp only [owns_whole]; try rfl

/-- Whatever is known of it, the scratch holds something. -/
theorem PhiS_any (n : ℕ) (hn : n ≤ cfg0.N) : PhiS m c n hn ⊢ Pipeline.ΦA spec0 c := by
  cases n with
  | zero => exact Idealize.SL.BI.Entails.refl _
  | succ n =>
    rw [PhiA0_eq]
    unfold PhiS
    iintro ⟨⟨%X10, %X11, %X12, %hK, H0, H1, H2⟩, Hg⟩
    isplitr [Hg]
    · isplitl [H0]; · iexists _; iexact H0
      isplitl [H1]; · iexists _; iexact H1
      iexists _; iexact H2
    iexact Hg

/-- What the call at point `t` returns beside its inputs. -/
def Post (t : Fin cfg0.N) (Y6 : S1x640x9472.Idx → F .fp8e4m3) (Y7 : S3x640.Idx → F .f32) : sProp 𝕄 :=
  iprop(PhiS m c (t.val + 1) t.isLt ∗ Ins c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (iblk m c 0 t) (iblk m c 1 t) (iblk m c 2 t) (iblk m c 3 t) (iblk m c 4 t) (iblk m c 5 t)
    ∗ (∃ X, ⌜(t.val % 37 = 36 → Codes m c t X) ∧ (¬ t.val % 37 = 36 → X = Y6)⌝ ∗ owns (c : Thread nD τ) (win0_6.stage (cfg0.slots t 6)) fullShare X)
    ∗ (∃ X, ⌜(t.val % 37 = 36 → X = setRow (grid0.coords t 0).val (scaleRow (maxAt m c t.val t.isLt)) Y7) ∧ (¬ t.val % 37 = 36 → X = Y7)⌝ ∗ owns (c : Thread nD τ) (win0_7.stage (cfg0.slots t 7)) fullShare X))

/-- The call at a batch's first block. -/
theorem body_first (t : Fin cfg0.N) (h0 : t.val % 37 = 0) (Y6 : S1x640x9472.Idx → F .fp8e4m3) (Y7 : S3x640.Idx → F .f32) :
    iprop(PhiS m c t.val (Nat.le_of_lt t.isLt) ∗ Ins c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (iblk m c 0 t) (iblk m c 1 t) (iblk m c 2 t) (iblk m c 3 t) (iblk m c 4 t) (iblk m c 5 t) ∗ owns (c : Thread nD τ) (win0_6.stage (cfg0.slots t 6)) fullShare Y6 ∗ owns (c : Thread nD τ) (win0_7.stage (cfg0.slots t 7)) fullShare Y7)
    ⊢ wp frame (wpE (defs₀ (F := F)) Variants.none (c : Thread nD τ) none) Set.univ (bodyAt0 t) (fun _ => Post m c t Y6 Y7) := by
  have h1 : ¬ t.val % 37 = 36 := by omega
  refine (sep_mono (PhiS_any m c t.val _) .rfl).trans ?_
  rw [PhiA0_eq]
  unfold bodyAt0
  iintro ⟨⟨⟨⟨%X10, H10⟩, ⟨%X11, H11⟩, ⟨%X12, H12⟩⟩, Hg⟩, HI, H6, H7⟩
  iapply (wp_wand_r frame (wpE (defs₀ (F := F)) Variants.none (c : Thread nD τ) none) Set.univ)
  isplitl [HI H6 H7 H10 H11 H12]
  · iapply (wp_start (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) c Set.univ (iblk m c 0 t) (iblk m c 1 t) (iblk m c 2 t) (iblk m c 3 t) (iblk m c 4 t) (iblk m c 5 t) Y6 Y7 X10 X11 X12 ((cond_first t).mpr h0) (fun h => h1 ((cond_last t).mp h)))
    isplitl [HI]; · iexact HI
    isplitl [H6]; · iexact H6
    isplitl [H7]; · iexact H7
    isplitl [H10]; · iexact H10
    isplitl [H11]; · iexact H11
    iexact H12
  iintro %_ ⟨HI, H6, H7, H10, H11, H12⟩
  unfold Post
  isplitl [H10 H11 H12 Hg]
  · unfold PhiS
    isplitr [Hg]
    · iexists _; iexists _; iexists _
      isplitr
      swap
      · isplitl [H10]; · iexact H10
        isplitl [H11]; · iexact H11
        iexact H12
      · ipureintro
        exact ⟨planes_first m c t h0 X10, fun _ => ⟨rfl, (maxAt_first m c t h0).symm⟩⟩
    iexact Hg
  isplitl [HI]; · iexact HI
  isplitl [H6]
  · iexists _
    isplitr
    swap; · iexact H6
    ipureintro; exact ⟨fun h => absurd h h1, fun _ => rfl⟩
  iexists _
  isplitr
  swap; · iexact H7
  ipureintro; exact ⟨fun h => absurd h h1, fun _ => rfl⟩

/-- What was known before a later block of a batch, in the terms of that block. -/
theorem Kept.step (t u : Fin cfg0.N) (hu : u.val = t.val + 1) (h0 : ¬ u.val % 37 = 0) (X10 : S37x640x256.Idx → F .f32) (X11 X12 : S640x128.Idx → F .f32)
    (hK : Kept m c t X10 X11 X12) : X11 = sc m c u ∧ Planes m c u (put m c u X10) ∧ maxStep m c u X12 = maxAt m c u.val u.isLt := by
  obtain ⟨n, hn⟩ := t
  obtain ⟨k, hk⟩ := u
  dsimp only at hu
  subst hu
  have h36 : ¬ n % 37 = 36 := by dsimp only at h0; omega
  obtain ⟨hp, he⟩ := hK
  obtain ⟨e1, e2⟩ := he h36
  refine ⟨e1.trans (sc_eq m c _ _ (by dsimp only at h0 ⊢; omega)), planes_later m c n hk h0 X10 hp, ?_⟩
  rw [e2]
  exact (maxAt_later m c n hk h0).symm

/-- What is known before a point that is not the first. -/
theorem PhiS_pos (t : Fin cfg0.N) (ht : t.val ≠ 0) :
    PhiS m c t.val (Nat.le_of_lt t.isLt) = iprop((∃ X10 X11 X12, ⌜Kept m c ⟨t.val - 1, lt_of_le_of_lt (Nat.sub_le _ _) t.isLt⟩ X10 X11 X12⌝ ∗ owns (c : Thread nD τ) (Memref.whole cc0_scratch0 : Memref sig .tc .vmem S37x640x256 .f32) fullShare X10 ∗ owns (c : Thread nD τ) (Memref.whole cc0_scratch1 : Memref sig .tc .vmem S640x128 .f32) fullShare X11 ∗ owns (c : Thread nD τ) (Memref.whole cc0_scratch2 : Memref sig .tc .vmem S640x128 .f32) fullShare X12) ∗ (∃ r, prngReg c r)) := by
  obtain ⟨n, hn⟩ := t
  cases n with
  | zero => exact absurd rfl ht
  | succ n => rfl

/-- The call at a block of a batch that is neither its first nor its last. -/
theorem body_mid (t : Fin cfg0.N) (h0 : ¬ t.val % 37 = 0) (h1 : ¬ t.val % 37 = 36) (Y6 : S1x640x9472.Idx → F .fp8e4m3) (Y7 : S3x640.Idx → F .f32) :
    iprop(PhiS m c t.val (Nat.le_of_lt t.isLt) ∗ Ins c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (iblk m c 0 t) (iblk m c 1 t) (iblk m c 2 t) (iblk m c 3 t) (iblk m c 4 t) (iblk m c 5 t) ∗ owns (c : Thread nD τ) (win0_6.stage (cfg0.slots t 6)) fullShare Y6 ∗ owns (c : Thread nD τ) (win0_7.stage (cfg0.slots t 7)) fullShare Y7)
    ⊢ wp frame (wpE (defs₀ (F := F)) Variants.none (c : Thread nD τ) none) Set.univ (bodyAt0 t) (fun _ => Post m c t Y6 Y7) := by
  rw [PhiS_pos m c t (by omega)]
  unfold bodyAt0
  iintro ⟨⟨⟨%X10, %X11, %X12, %hK, H10, H11, H12⟩, Hg⟩, HI, H6, H7⟩
  obtain ⟨e11, hp, hM⟩ := Kept.step m c _ t (by dsimp only; omega) h0 X10 X11 X12 hK
  subst e11
  iapply (wp_wand_r frame (wpE (defs₀ (F := F)) Variants.none (c : Thread nD τ) none) Set.univ)
  isplitl [HI H6 H7 H10 H11 H12]
  · iapply (wp_mid (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) c Set.univ (iblk m c 0 t) (iblk m c 1 t) (iblk m c 2 t) (iblk m c 3 t) (iblk m c 4 t) (iblk m c 5 t) Y6 Y7 X10 (sc m c t) X12 (fun h => h0 ((cond_first t).mp h)) (fun h => h1 ((cond_last t).mp h)))
    isplitl [HI]; · iexact HI
    isplitl [H6]; · iexact H6
    isplitl [H7]; · iexact H7
    isplitl [H10]; · iexact H10
    isplitl [H11]; · iexact H11
    iexact H12
  iintro %_ ⟨HI, H6, H7, H10, H11, H12⟩
  unfold Post
  isplitl [H10 H11 H12 Hg]
  · unfold PhiS
    isplitr [Hg]
    · iexists _; iexists _; iexists _
      isplitr
      swap
      · isplitl [H10]; · iexact H10
        isplitl [H11]; · iexact H11
        iexact H12
      · ipureintro
        exact ⟨hp, fun _ => ⟨rfl, hM⟩⟩
    iexact Hg
  isplitl [HI]; · iexact HI
  isplitl [H6]
  · iexists _
    isplitr
    swap; · iexact H6
    ipureintro; exact ⟨fun h => absurd h h1, fun _ => rfl⟩
  iexists _
  isplitr
  swap; · iexact H7
  ipureintro; exact ⟨fun h => absurd h h1, fun _ => rfl⟩

/-- The call at a batch's last block. -/
theorem body_last (t : Fin cfg0.N) (h1 : t.val % 37 = 36) (Y6 : S1x640x9472.Idx → F .fp8e4m3) (Y7 : S3x640.Idx → F .f32) :
    iprop(PhiS m c t.val (Nat.le_of_lt t.isLt) ∗ Ins c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (iblk m c 0 t) (iblk m c 1 t) (iblk m c 2 t) (iblk m c 3 t) (iblk m c 4 t) (iblk m c 5 t) ∗ owns (c : Thread nD τ) (win0_6.stage (cfg0.slots t 6)) fullShare Y6 ∗ owns (c : Thread nD τ) (win0_7.stage (cfg0.slots t 7)) fullShare Y7)
    ⊢ wp frame (wpE (defs₀ (F := F)) Variants.none (c : Thread nD τ) none) Set.univ (bodyAt0 t) (fun _ => Post m c t Y6 Y7) := by
  have h0 : ¬ t.val % 37 = 0 := by omega
  rw [PhiS_pos m c t (by omega)]
  unfold bodyAt0
  iintro ⟨⟨⟨%X10, %X11, %X12, %hK, H10, H11, H12⟩, Hg⟩, HI, H6, H7⟩
  obtain ⟨e11, hp, hM⟩ := Kept.step m c _ t (by dsimp only; omega) h0 X10 X11 X12 hK
  subst e11
  iapply (wp_wand_r frame (wpE (defs₀ (F := F)) Variants.none (c : Thread nD τ) none) Set.univ)
  isplitl [HI H6 H7 H10 H11 H12]
  · iapply (wp_stop (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) c Set.univ (iblk m c 0 t) (iblk m c 1 t) (iblk m c 2 t) (iblk m c 3 t) (iblk m c 4 t) (iblk m c 5 t) Y6 Y7 X10 (sc m c t) X12 (fun h => h0 ((cond_first t).mp h)) ((cond_last t).mpr h1))
    isplitl [HI]; · iexact HI
    isplitl [H6]; · iexact H6
    isplitl [H7]; · iexact H7
    isplitl [H10]; · iexact H10
    isplitl [H11]; · iexact H11
    iexact H12
  unfold Held
  iintro %_ ⟨HI, ⟨H10, H11, %G, %hG, H6⟩, H7, H12⟩
  unfold Post
  isplitl [H10 H11 H12 Hg]
  · unfold PhiS
    isplitr [Hg]
    · iexists _; iexists _; iexists _
      isplitr
      swap
      · isplitl [H10]; · iexact H10
        isplitl [H11]; · iexact H11
        iexact H12
      · ipureintro
        exact ⟨hp, fun h => absurd h1 h⟩
    iexact Hg
  isplitl [HI]; · iexact HI
  isplitl [H6]
  · iexists _
    isplitr
    swap; · iexact H6
    ipureintro; exact ⟨fun _ => ⟨_, hp, hM ▸ hG⟩, fun h => absurd h1 h⟩
  iexists _
  isplitr
  swap; · iexact H7
  ipureintro; exact ⟨fun _ => by rw [← hM]; rfl, fun h => absurd h1 h⟩

/-- The call at any point. -/
theorem body_at (t : Fin cfg0.N)  (Y6 : S1x640x9472.Idx → F .fp8e4m3) (Y7 : S3x640.Idx → F .f32) :
    iprop(PhiS m c t.val (Nat.le_of_lt t.isLt) ∗ Ins c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (iblk m c 0 t) (iblk m c 1 t) (iblk m c 2 t) (iblk m c 3 t) (iblk m c 4 t) (iblk m c 5 t) ∗ owns (c : Thread nD τ) (win0_6.stage (cfg0.slots t 6)) fullShare Y6 ∗ owns (c : Thread nD τ) (win0_7.stage (cfg0.slots t 7)) fullShare Y7)
    ⊢ wp frame (wpE (defs₀ (F := F)) Variants.none (c : Thread nD τ) none) Set.univ (bodyAt0 t) (fun _ => Post m c t Y6 Y7) := by
  by_cases h1 : t.val % 37 = 36
  · exact body_last m c t h1 Y6 Y7
  · by_cases h0 : t.val % 37 = 0
    · exact body_first m c t h0 Y6 Y7
    · exact body_mid m c t h0 h1 Y6 Y7

theorem defs₀_row (t : Fin cfg0.N) :
    defs₀ (F := F) .tc cfg0.body (cfg0.bodyArgs t (cfg0.slots t)) = bodyAt0 t := by
  unfold defs₀; rw [Defs.onTc_tc]

/-- Input window 0 is found at its block. -/
theorem finds0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  refine hd.trans ?_
  unfold RDat.fetched RDat.blockOf iblk; rw [A_eq]; try rfl
/-- Input window 1 is found at its block. -/
theorem finds1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  refine hd.trans ?_
  unfold RDat.fetched RDat.blockOf iblk; rw [A_eq]; try rfl
/-- Input window 2 is found at its block. -/
theorem finds2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  refine hd.trans ?_
  unfold RDat.fetched RDat.blockOf iblk; rw [A_eq]; try rfl
/-- Input window 3 is found at its block. -/
theorem finds3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  refine hd.trans ?_
  unfold RDat.fetched RDat.blockOf iblk; rw [A_eq]; try rfl
/-- Input window 4 is found at its block. -/
theorem finds4 (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  refine hd.trans ?_
  unfold RDat.fetched RDat.blockOf iblk; rw [A_eq]; try rfl
/-- Input window 5 is found at its block. -/
theorem finds5 (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  refine hd.trans ?_
  unfold RDat.fetched RDat.blockOf iblk; rw [A_eq]; try rfl

/-- The obligation of the pipeline's body. -/
theorem body_obligation : (rdat m c).BodyObligation (defs₀ (F := F)) Variants.none () Set.univ := fun t Y hY => by
  rw [show (rdat m c).Φ t.castSucc = PhiS m c t.val (Nat.le_of_lt t.isLt) from rfl, show (rdat m c).Φ t.succ = PhiS m c (t.val + 1) t.isLt from rfl,
    show (rdat m c).owesAt () t.succ = (rdat m c).owesAt () t.castSucc from rfl]
  rw [bigSep_W0, bigSep_W0, defs₀_row, finds0 m c t _ (hY 0), finds1 m c t _ (hY 1), finds2 m c t _ (hY 2), finds3 m c t _ (hY 3), finds4 m c t _ (hY 4), finds5 m c t _ (hY 5)]
  iintro ⟨HP, Ho, H0, H1, H2, H3, H4, H5, H6, H7⟩
  iapply (wp_wand_r frame (wpE (defs₀ (F := F)) Variants.none (c : Thread nD τ) none) Set.univ)
  isplitr [Ho]
  · iapply (body_at m c t (Y 6) (Y 7))
    isplitl [HP]; · iexact HP
    isplitl [H0 H1 H2 H3 H4 H5]
    · unfold Ins
      isplitl [H0]; · iexact H0
      isplitl [H1]; · iexact H1
      isplitl [H2]; · iexact H2
      isplitl [H3]; · iexact H3
      isplitl [H4]; · iexact H4
      iexact H5
    isplitl [H6]; · iexact H6
    iexact H7
  unfold Post Ins
  iintro %_ ⟨HP, ⟨H0, H1, H2, H3, H4, H5⟩, H6, H7⟩
  isplitl [HP]; · iexact HP
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]; · iexact H6
  iexact H7

-- the run's implicit arguments are found by unifying its conclusion with this one
set_option backward.isDefEq.respectTransparency.types false in
/-- The run: every array ends as the points' data allow, every other buffer as the call found it, every counter at zero. -/
theorem run_quiescent : θ_run defs (onTc (τ := τ) (main (F := F))) (s₀ m ρ) (fun r => (RDat.FramePost cfg0 (rdat m) (V m)) r ∧ r.2.sem = fun _ => 0) :=
  RDat.θ_run_frame_track_shared (Q' := _) cfgs (0 : Fin 1) launch₀0 defs₀ Variants.none (rdat m) m ρ main
    (hbody := fun c => body_obligation m c) (hq := fun _ _ _ => rfl)
    (howed := fun _ _ => rfl) (V := V m) (hmain := hmain m Variants.none) (hA := A_eq m)
    (hin := fun c => Idealize.SL.BI.Entails.refl _) (hout := fun c => PhiS_any m c cfg0.N (Nat.le_refl _))

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(RDat.FramePost.arr_in h.1 c 0 rfl).trans ((A_eq m c 0).trans (V_main_arg0 m c)),
      (RDat.FramePost.arr_in h.1 c 1 rfl).trans ((A_eq m c 1).trans (V_main_arg1 m c)),
      (RDat.FramePost.arr_in h.1 c 3 rfl).trans ((A_eq m c 3).trans (V_main_arg2 m c)),
      ((h.1 c).2 main_arg3 (Pipeline.mem_restRefs_of main_arg3 (by decide) (by decide))).trans (V_main_arg3 m c)⟩) (run_quiescent m ρ)

/-- The frame claim, at any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.GuKIdeal.Gu

end
-- ==== Proof.Gu.Out.lean ====
/- What the gate-and-up call computes: its codes and scales are the reference's terms over the same arguments. -/
module

public import proofs.«01_k».proof.Proof.Gu.Max
public import proofs.«01_k».proof.Proof.Gu.Run
public import Idealize.ShloMosaic.Lib.Pipeline.ArrRel

@[expose] public section

set_option maxRecDepth 16384

noncomputable section

open Idealize.ShloMosaic Idealize.ShloMosaic.TcCoe Idealize.SL.Sem
open Idealize.ShloMosaic.Pipeline (RDat Dat)

namespace Cert.GuKIdeal.Gu

open Cert.GuKIdeal Cert.GuKIdeal.Gen

variable (m : (ℓ : Loc nD τ sig) → Buf (Elt Ideal) ℓ) (ρ : Dev nD → PrngReg) (c : Dev nD)

/-- The reference's codes, over the arguments. -/
def refCodes : Cert.GuRIdeal.S3x640x9472.Idx → Ideal .fp8e4m3 :=
  Cert.GuRIdeal.Gen.k0_pay3 (F := Ideal) (m ((c : Thread nD τ).loc main_arg0)) (m ((c : Thread nD τ).loc main_arg1))
    (m ((c : Thread nD τ).loc main_arg2)) (m ((c : Thread nD τ).loc main_arg3))

/-- The reference's scales, over the arguments. -/
def refScales : Cert.GuRIdeal.S3x640.Idx → Ideal .f32 :=
  Cert.GuRIdeal.Gen.k0_pay2 (F := Ideal) (m ((c : Thread nD τ).loc main_arg0)) (m ((c : Thread nD τ).loc main_arg1))
    (m ((c : Thread nD τ).loc main_arg2)) (m ((c : Thread nD τ).loc main_arg3))

/-- What a batch's last point may leave in the window of codes. -/
theorem leaves6 (t : Fin cfg0.N) (h : t.val % 37 = 36) (X : S1x640x9472.Idx → Ideal .fp8e4m3) (hX : (rdat m c).Leaves 6 t X) : Codes m c t X := by
  obtain ⟨Y, _, hY⟩ := hX
  have hY' : (t.val % 37 = 36 → Codes m c t X) ∧ (¬ t.val % 37 = 36 → X = Y) := hY
  exact hY'.1 h

/-- What a point may leave in the window of scales, over what it found there. -/
theorem leaves7 (t : Fin cfg0.N) (X : S3x640.Idx → Ideal .f32) (hX : (rdat m c).Leaves 7 t X) :
    ∃ Y, (rdat m c).Finds 7 t Y ∧ ((t.val % 37 = 36 → X = setRow (grid0.coords t 0).val (scaleRow (maxAt m c t.val t.isLt)) Y) ∧ (¬ t.val % 37 = 36 → X = Y)) := hX

/-- The rows of scales of the batches done up to point `n` are the reference's. -/
theorem rows7 : ∀ (n : ℕ) (hn : n < cfg0.N) (X : S3x640.Idx → Ideal .f32), (rdat m c).Leaves 7 ⟨n, hn⟩ X →
    ∀ (b : Fin 3) (r : Fin 640), 37 * b.val + 36 ≤ n → X (ix2 b r) = refScales m c (ix2 b r) := by
  intro n
  induction n with
  | zero => intro hn X hX b r hb; omega
  | succ n ih =>
    intro hn X hX b r hb
    have hN : n + 1 < 111 := Nat.lt_of_lt_of_eq hn N_0
    obtain ⟨Y, hF, h1, h2⟩ := leaves7 m c _ X hX
    dsimp only at h1 h2
    have hY : ∀ (b : Fin 3) (r : Fin 640), 37 * b.val + 36 ≤ n → Y (ix2 b r) = refScales m c (ix2 b r) := by
      have hL := ((rdat m c).finds_of_pos (w := 7) (t := ⟨n + 1, hn⟩) rfl (Nat.succ_ne_zero n) Y).mp hF
      rcases hL with hf | hl
      · have := (flush0_7 _).mp hf
        dsimp only at this
        omega
      · exact ih _ Y hl
    by_cases h : (n + 1) % 37 = 36
    · rw [h1 h]
      unfold setRow
      have e0 : (grid0.coords (⟨n + 1, hn⟩ : Fin cfg0.N) 0).val = (n + 1) / 37 := coord0 _
      by_cases hbn : b.val = (n + 1) / 37
      · refine (if_pos (show b.val = _ from hbn.trans e0.symm)).trans ?_
        refine (scaleRow_apply _ r).trans ?_
        exact scales_eq m c ⟨n + 1, hn⟩ h b hbn r 0
      · refine (if_neg (show ¬ b.val = _ from fun e => hbn (e.trans e0))).trans ?_
        exact hY b r (by omega)
    · rw [h2 h]
      exact hY b r (by omega)

/-- After the run the result arrays hold the reference's codes and scales. -/
theorem results {r : PUnit × MemSt nD τ sig (Elt Ideal)} (h : RDat.FramePost cfg0 (rdat m) (V m) r) :
    r.2.mem ((c : Thread nD τ).loc main_v1_0) = refCodes m c ∧ r.2.mem ((c : Thread nD τ).loc main_v1_1) = refScales m c := by
  obtain ⟨after, hL, hA⟩ := RDat.FramePost.exists_exact h c
  constructor
  · refine (hA 6).trans ?_
    refine ((rdat m c).withAfter after).arrAt_eq_of_covers 6 _ (by decide +kernel) fun t hf y => ?_
    have ht := (flush0_6 t).mp hf
    have hN : t.val < 111 := Nat.lt_of_lt_of_eq t.isLt N_0
    obtain ⟨X10, hp, hD⟩ := leaves6 m c t ht _ (hL 6 t hf)
    blk_simp
    have key := codes_eq m c t ht ⟨t.val / 37, by omega⟩ rfl X10 hp _ hD (y 1) (y 2)
    refine Eq.trans (b := after 6 t (ix3 0 (y 1) (y 2))) ?_ (key.trans ?_)
    · exact congrArg (after 6 t) (by blk_ext [idx t])
    · exact congrArg (refCodes m c) (by blk_ext [idx t])
  · refine (hA 7).trans ?_
    refine ((rdat m c).withAfter after).arrAt_eq_of_covers 7 _ (by decide +kernel) fun t hf y => ?_
    have ht := (flush0_7 t).mp hf
    have hN : t.val < 111 := Nat.lt_of_lt_of_eq t.isLt N_0
    have hR := rows7 m c t.val t.isLt _ (hL 7 t hf)
    blk_simp
    have key := hR (y 0) (y 1) (by have : (y 0).val < 3 := (y 0).isLt; omega)
    refine Eq.trans (b := after 7 t (ix2 (y 0) (y 1))) ?_ (key.trans ?_)
    · exact congrArg (after 7 t) (by blk_ext [idx t])
    · exact congrArg (refScales m c) (by blk_ext [idx t])

/-- The run with its results: the reference's codes and scales over the arguments, which end unchanged. -/
theorem run : θ_run defs (onTc (τ := τ) (main (F := Ideal))) ⟨m, fun _ => 0, ρ⟩ (fun r => ∀ c : Dev nD,
      r.2.mem ((c.tc : Thread nD τ).loc main_v1_0) = refCodes m c
      ∧ r.2.mem ((c.tc : Thread nD τ).loc main_v1_1) = refScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(results m c h.1.1).1, (results m c h.1.1).2, h.2 c⟩)
    (θ_run_and (run_quiescent m ρ) (unchanged m ρ))

end Cert.GuKIdeal.Gu

end
-- ==== Proof.Gu.Bits.lean ====
/- The compiled program of the call and its idealised form are one program: the run of the second is the run of the first. -/
module

public import proofs.«01_k».proof.Proof.Gu.Run
public import proofs.«01_k».proof.GuK
public import proofs.«01_k».proof.Proof.Gen.GuK

@[expose] public section

set_option maxRecDepth 65536

noncomputable section

namespace Cert.GuKIdeal.Gu

open Cert.GuKIdeal Cert.GuKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

theorem sig_eq : Cert.GuK.sig = Cert.GuKIdeal.sig := rfl

/-- The body tables are one. -/
theorem defs₀_eq : Cert.GuK.defs₀ (F := F) = Cert.GuKIdeal.defs₀ (F := F) := by
  unfold Cert.GuK.defs₀ Cert.GuKIdeal.defs₀
  refine congrArg Defs.onTc ?_
  funext l x
  match l, x with
  | 0, (t, s) => rfl

/-- With the pipeline's own, too. -/
theorem defs_eq : Cert.GuK.defs (F := F) = Cert.GuKIdeal.defs (F := F) := by
  unfold Cert.GuK.defs Cert.GuKIdeal.defs
  rw [defs₀_eq]
  rfl

theorem main_eq : Cert.GuK.main (F := F) = Cert.GuKIdeal.main (F := F) := rfl

variable (m : (ℓ : Loc Cert.GuK.nD Cert.GuK.τ Cert.GuK.sig) → Buf (Elt F) ℓ) (ρ : Dev Cert.GuK.nD → PrngReg)

/-- The frame claim of the compiled program, at any numbers. -/
theorem frame_k : θ_run (Cert.GuK.defs (F := F)) (onTc (τ := Cert.GuK.τ) (Cert.GuK.main (F := F))) ⟨m, fun _ => 0, ρ⟩ (fun r => (∀ c : Dev Cert.GuK.nD,
      r.2.mem ((c.tc : Thread Cert.GuK.nD Cert.GuK.τ).loc Cert.GuK.main_arg0) = m ((c.tc : Thread Cert.GuK.nD Cert.GuK.τ).loc Cert.GuK.main_arg0)
      ∧ r.2.mem ((c.tc : Thread Cert.GuK.nD Cert.GuK.τ).loc Cert.GuK.main_arg1) = m ((c.tc : Thread Cert.GuK.nD Cert.GuK.τ).loc Cert.GuK.main_arg1)
      ∧ r.2.mem ((c.tc : Thread Cert.GuK.nD Cert.GuK.τ).loc Cert.GuK.main_arg2) = m ((c.tc : Thread Cert.GuK.nD Cert.GuK.τ).loc Cert.GuK.main_arg2)
      ∧ r.2.mem ((c.tc : Thread Cert.GuK.nD Cert.GuK.τ).loc Cert.GuK.main_arg3) = m ((c.tc : Thread Cert.GuK.nD Cert.GuK.τ).loc Cert.GuK.main_arg3))
      ∧ r.2.sem = fun _ => 0) := by
  rw [defs_eq, main_eq]
  exact frame (F := F) m ρ

end Cert.GuKIdeal.Gu

end
-- ==== Proof.Op.Vals.lean ====
/- The values the output-projection kernel holds: the hidden rows, their codes and scales; and what its stores leave, read back. -/
module

public import proofs.«01_k».proof.Proof.Gen.OprojKIdeal.Frame
public import proofs.«01_k».proof.Proof.Gen.OprojKIdeal.Skeleton
public import proofs.«01_k».proof.Proof.Gu.Vals

@[expose] public section

set_option maxRecDepth 16384

noncomputable section

namespace Cert.OprojKIdeal.Op

open Cert.OprojKIdeal Cert.OprojKIdeal.Gen
open Cert.GuKIdeal.Gu (stack rows lanes setRow read_setRow read_stack readAt_rows rows_stack column_apply concat5)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- Block `j` of 256 columns of the weights. -/
def wcols (x4 : Vec F S1792x3584 .fp8e4m3) (j : Fin 14) : Vec F S1792x256 .fp8e4m3 :=
  fun z => x4 (ix2 (z 0) (⟨256 * j.val + (z 1).val, by have h : (z 1).val < 256 := (z 1).isLt; omega⟩ : Fin 3584))
/-- Block `j` of 128 columns of the residual rows. -/
def xcols (x2 : Vec F S1x640x3584 .bf16) (j : Fin 28) : Vec F S1x640x128 .bf16 :=
  fun z => x2 (ix3 (z 0) (z 1) (⟨128 * j.val + (z 2).val, by have h : (z 2).val < 128 := (z 2).isLt; omega⟩ : Fin 3584))
/-- Block `j` of 128 weight scales. -/
def scols (x5 : Vec F S1x3584 .f32) (j : Fin 28) : Vec F S1x128 .f32 :=
  fun z => x5 (ix2 (z 0) (⟨128 * j.val + (z 1).val, by have h : (z 1).val < 128 := (z 1).isLt; omega⟩ : Fin 3584))

/-- The hidden rows' first 128 columns of block `j`. -/
def colL (x0 : Vec F S1x640x1792 .fp8e4m3) (x2 : Vec F S1x640x3584 .bf16) (x4 : Vec F S1792x3584 .fp8e4m3) (x5 : Vec F S1x3584 .f32)
    (s : Vec F S640x128 .f32) (j : Fin 14) : FVec F S1x640x128 .f32 :=
  k0_pay13 x0 (wcols x4 j) (xcols x2 ⟨2 * j.val, by omega⟩) s (scols x5 ⟨2 * j.val, by omega⟩)
/-- The hidden rows' last 128 columns of block `j`. -/
def colH (x0 : Vec F S1x640x1792 .fp8e4m3) (x2 : Vec F S1x640x3584 .bf16) (x4 : Vec F S1792x3584 .fp8e4m3) (x5 : Vec F S1x3584 .f32)
    (s : Vec F S640x128 .f32) (j : Fin 14) : FVec F S640x128 .f32 :=
  k0_pay14 x0 (wcols x4 j) (xcols x2 ⟨2 * j.val + 1, by omega⟩) s (scols x5 ⟨2 * j.val + 1, by omega⟩)
/-- The hidden value at row `r` and column `k`. -/
def hid (x0 : Vec F S1x640x1792 .fp8e4m3) (x2 : Vec F S1x640x3584 .bf16) (x4 : Vec F S1792x3584 .fp8e4m3) (x5 : Vec F S1x3584 .f32)
    (s : Vec F S640x128 .f32) (r : Fin 640) (k : Fin 3584) : F .f32 :=
  if k.val % 256 < 128 then colL x0 x2 x4 x5 s ⟨k.val / 256, by omega⟩ (ix3 (0 : Fin 1) r (⟨k.val % 128, by omega⟩ : Fin 128))
  else colH x0 x2 x4 x5 s ⟨k.val / 256, by omega⟩ (ix2 r (⟨k.val % 128, by omega⟩ : Fin 128))
/-- The hidden rows. -/
def hidV (x0 : Vec F S1x640x1792 .fp8e4m3) (x2 : Vec F S1x640x3584 .bf16) (x4 : Vec F S1792x3584 .fp8e4m3) (x5 : Vec F S1x3584 .f32)
    (s : Vec F S640x128 .f32) : S1x640x3584.Idx → F .f32 := fun y => hid x0 x2 x4 x5 s (y 1) (y 2)

theorem hid_low (x0 : Vec F S1x640x1792 .fp8e4m3) (x2 : Vec F S1x640x3584 .bf16) (x4 : Vec F S1792x3584 .fp8e4m3) (x5 : Vec F S1x3584 .f32)
    (s : Vec F S640x128 .f32) (j : Fin 14) (r : Fin 640) (l : Fin 128) (k : Fin 3584) (hk : k.val = 256 * j.val + l.val) :
    colL x0 x2 x4 x5 s j (ix3 (0 : Fin 1) r l) = hid x0 x2 x4 x5 s r k := by
  unfold hid
  rw [if_pos (by omega)]
  have e : (⟨k.val / 256, by omega⟩ : Fin 14) = j := Fin.ext (by dsimp only; omega)
  rw [e]
  exact congrArg (fun l => colL x0 x2 x4 x5 s j (ix3 (0 : Fin 1) r l)) (Fin.ext (by dsimp only; omega))

theorem hid_high (x0 : Vec F S1x640x1792 .fp8e4m3) (x2 : Vec F S1x640x3584 .bf16) (x4 : Vec F S1792x3584 .fp8e4m3) (x5 : Vec F S1x3584 .f32)
    (s : Vec F S640x128 .f32) (j : Fin 14) (r : Fin 640) (l : Fin 128) (k : Fin 3584) (hk : k.val = 256 * j.val + 128 + l.val) :
    colH x0 x2 x4 x5 s j (ix2 r l) = hid x0 x2 x4 x5 s r k := by
  unfold hid
  rw [if_neg (by omega)]
  have e : (⟨k.val / 256, by omega⟩ : Fin 14) = j := Fin.ext (by dsimp only; omega)
  rw [e]
  exact congrArg (fun l => colH x0 x2 x4 x5 s j (ix2 r l)) (Fin.ext (by dsimp only; omega))

/-- Rows `32 j` to `32 j + 31` of the hidden rows. -/
def rows32 (H : S1x640x3584.Idx → F .f32) (j : Fin 20) : Vec F S1x32x3584 .f32 :=
  fun z => H (ix3 (0 : Fin 1) (⟨32 * j.val + (z 1).val, by have h : (z 1).val < 32 := (z 1).isLt; omega⟩ : Fin 640) (z 2))
/-- The codes of the normalised hidden rows. -/
def codesOf (H : S1x640x3584.Idx → F .f32) (ln : Vec F S1x3584 .f32) : S1x640x3584.Idx → F .fp8e4m3 :=
  fun y => k0_pay3 (rows32 H ⟨(y 1).val / 32, by have h : (y 1).val < 640 := (y 1).isLt; omega⟩) ln (ix3 (0 : Fin 1) (⟨(y 1).val % 32, Nat.mod_lt _ (by decide)⟩ : Fin 32) (y 2))
/-- Their scales, each over 128 lanes. -/
def scalesOf (H : S1x640x3584.Idx → F .f32) (ln : Vec F S1x3584 .f32) : S640x128.Idx → F .f32 :=
  fun y => k0_pay4 (rows32 H ⟨(y 0).val / 32, by have h : (y 0).val < 640 := (y 0).isLt; omega⟩) ln (ix2 (⟨(y 0).val % 32, Nat.mod_lt _ (by decide)⟩ : Fin 32) (y 1))
/-- Scales over 128 lanes as one row. -/
def scaleRow (X : S640x128.Idx → F .f32) : S1x640.Idx → F .f32 :=
  k0_pay69 (rows X 0) (rows X 1) (rows X 2) (rows X 3) (rows X 4)

/-- The first `n` columns hold the values `H`. -/
def Cols (H : Fin 640 → Fin 3584 → F .f32) (n : ℕ) (X : S1x640x3584.Idx → F .f32) : Prop :=
  ∀ (r : Fin 640) (k : Fin 3584), k.val < n → X (ix3 (0 : Fin 1) r k) = H r k

section Reads

variable {sig' : RefSig} {κ : Kind} {sp : Space}

/-- A store of the next 128 columns. -/
theorem cols_step (v : View sig' κ sp S1x640x3584 .f32) (f : v.ty.Contents (Elt F)) (H : Fin 640 → Fin 3584 → F .f32) (o : ℕ) (inb)
    (w : S1x640x128.Idx → F .f32) (L : List (View.Piece (Elt F) S1x640x3584 .f32))
    (hw : ∀ (r : Fin 640) (l : Fin 128) (k : Fin 3584), k.val = o + l.val → w (ix3 (0 : Fin 1) r l) = H r k)
    (h : Cols H o (v.read (Elt F) (v.writes (Elt F) f L))) :
    Cols H (o + 128) (v.read (Elt F) (v.writes (Elt F) f (⟨Rect.unit (s := S1x640x3584) ![0, 0, o] S1x640x128.size inb, w⟩ :: L))) := by
  intro r k hk
  by_cases ho : k.val < o
  · rw [View.read_writes_cons_unit_of_not_mem _ _ _ _ _ _ rfl (2 : Fin 3) (by left; show k.val < o; omega)]
    exact h r k ho
  · rw [View.read_writes_cons_unit_of_mem _ _ _ _ _ _ (ix3 (0 : Fin 1) r (⟨k.val - o, by omega⟩ : Fin 128)) rfl (by
      intro x; match x with
        | ⟨0, _⟩ => rfl
        | ⟨1, _⟩ => show r.val = 0 + r.val; omega
        | ⟨2, _⟩ => show k.val = o + (k.val - o); omega)]
    exact hw r _ k (by dsimp only; omega)

theorem readAt_wcols (v : View sig' κ sp S1792x3584 .fp8e4m3) (f : v.ty.Contents (Elt F)) (j : Fin 14) (o : ℕ) (h : o = 256 * j.val) (inb) :
    v.readAt (Elt F) (Rect.unit (s := S1792x3584) ![0, o] S1792x256.size inb).toLoadRect f = wcols (v.read (Elt F) f) j := by
  subst h
  funext z
  refine congrArg (v.read (Elt F) f) (funext fun x => Fin.ext ?_)
  match x with
    | ⟨0, _⟩ => show 0 + 1 * (z 0).val = (z 0).val; omega
    | ⟨1, _⟩ => show 256 * j.val + 1 * (z 1).val = 256 * j.val + (z 1).val; omega

theorem readAt_xcols (v : View sig' κ sp S1x640x3584 .bf16) (f : v.ty.Contents (Elt F)) (j : Fin 28) (o : ℕ) (h : o = 128 * j.val) (inb) :
    v.readAt (Elt F) (Rect.unit (s := S1x640x3584) ![0, 0, o] S1x640x128.size inb).toLoadRect f = xcols (v.read (Elt F) f) j := by
  subst h
  funext z
  refine congrArg (v.read (Elt F) f) (funext fun x => Fin.ext ?_)
  match x with
    | ⟨0, _⟩ => show 0 + 1 * (z 0).val = (z 0).val; omega
    | ⟨1, _⟩ => show 0 + 1 * (z 1).val = (z 1).val; omega
    | ⟨2, _⟩ => show 128 * j.val + 1 * (z 2).val = 128 * j.val + (z 2).val; omega

theorem readAt_scols (v : View sig' κ sp S1x3584 .f32) (f : v.ty.Contents (Elt F)) (j : Fin 28) (o : ℕ) (h : o = 128 * j.val) (inb) :
    v.readAt (Elt F) (Rect.unit (s := S1x3584) ![0, o] S1x128.size inb).toLoadRect f = scols (v.read (Elt F) f) j := by
  subst h
  funext z
  refine congrArg (v.read (Elt F) f) (funext fun x => Fin.ext ?_)
  match x with
    | ⟨0, _⟩ => show 0 + 1 * (z 0).val = (z 0).val; omega
    | ⟨1, _⟩ => show 128 * j.val + 1 * (z 1).val = 128 * j.val + (z 1).val; omega

theorem readAt_rows32 (v : View sig' κ sp S1x640x3584 .f32) (f : v.ty.Contents (Elt F)) (j : Fin 20) (off : Fin 3 → ℕ) (h : off = ![0, 32 * j.val, 0]) (inb) :
    v.readAt (Elt F) (Rect.unit (s := S1x640x3584) off S1x32x3584.size inb).toLoadRect f = rows32 (v.read (Elt F) f) j := by
  subst h
  funext z
  have hz : (z 0).val < 1 := (z 0).isLt
  refine congrArg (v.read (Elt F) f) (funext fun x => Fin.ext ?_)
  match x with
    | ⟨0, _⟩ => show 0 + 1 * (z 0).val = 0; omega
    | ⟨1, _⟩ => show 32 * j.val + 1 * (z 1).val = 32 * j.val + (z 1).val; omega
    | ⟨2, _⟩ => show 0 + 1 * (z 2).val = (z 2).val; omega

end Reads

/-- A block of 640 rows stored in the window's shape. -/
theorem pay15_apply (v : FVec F S640x128 .f32) (r : Fin 640) (l : Fin 128) : k0_pay15 v (ix3 (0 : Fin 1) r l) = v (ix2 r l) := by
  unfold k0_pay15
  erw [shapeCast_ab_1ab_apply]

/-- The chosen row of the three rows of scales, transposed and repeated over the lanes. -/
theorem stack_lanes (i : grid0.Coords) (x1 : Vec F S3x640 .f32)
    (v0 v2 v5 : Vec F S1x640 .f32) (e0 : ∀ r : Fin 640, v0 (ix2 (0 : Fin 1) r) = x1 (ix2 (0 : Fin 3) r))
    (e1 : ∀ r : Fin 640, v2 (ix2 (0 : Fin 1) r) = x1 (ix2 (1 : Fin 3) r)) (e2 : ∀ r : Fin 640, v5 (ix2 (0 : Fin 1) r) = x1 (ix2 (2 : Fin 3) r)) :
    stack ![k0_pay6 i v0 v2 v5, k0_pay7 i v0 v2 v5, k0_pay8 i v0 v2 v5, k0_pay9 i v0 v2 v5, k0_pay11 (k0_pay10 i v0 v2 v5)] = lanes (i 0) x1 := by
  have h2 : ∀ r : Fin 640, k0_pay5 i v0 v2 v5 (ix2 (0 : Fin 1) r) = x1 (ix2 (i 0) r) := by
    intro r
    unfold k0_pay5
    obtain ⟨b, hb⟩ : ∃ b : Fin 3, b = i 0 := ⟨_, rfl⟩
    rw [← hb]
    match b with
      | ⟨0, _⟩ => exact e0 r
      | ⟨1, _⟩ => exact e1 r
      | ⟨2, _⟩ => exact e2 r
  funext y
  have h0 : (y 0).val < 640 := (y 0).isLt
  unfold stack lanes
  obtain ⟨k, hk⟩ : ∃ k : Fin 5, k = (⟨(y 0).val / 128, by omega⟩ : Fin 5) := ⟨_, rfl⟩
  obtain ⟨m, hm⟩ : ∃ m : Fin 128, m = (⟨(y 0).val % 128, Nat.mod_lt _ (by decide)⟩ : Fin 128) := ⟨_, rfl⟩
  have hkv : k.val = (y 0).val / 128 := by rw [hk]
  have hmv : m.val = (y 0).val % 128 := by rw [hm]
  rw [← hk, ← hm]
  have fin : ∀ (o : ℕ) (hy : o + m.val < 640), o = 128 * k.val →
      k0_pay5 i v0 v2 v5 (ix2 (0 : Fin 1) (⟨o + m.val, hy⟩ : Fin 640)) = x1 (ix2 (i 0) (y 0)) := fun o hy ho => by
    rw [h2]
    exact congrArg (fun r : Fin 640 => x1 (ix2 (i 0) r)) (Fin.ext (show o + m.val = (y 0).val by omega))
  match k, fin with
    | ⟨0, _⟩, fin => exact (column_apply 0 (by decide) (k0_pay5 i v0 v2 v5) slices_S1x640_o0_0_S1x128 shapeCasts_S1x128_S1x128 broadcasts_S1x128_S128x128 transposes_S128x128_p1_0_S128x128 shapeCasts_S128x128_S128x128 m (y 1)).trans (fin 0 (by omega) rfl)
    | ⟨1, _⟩, fin => exact (column_apply 128 (by decide) (k0_pay5 i v0 v2 v5) slices_S1x640_o0_128_S1x128 shapeCasts_S1x128_S1x128 broadcasts_S1x128_S128x128 transposes_S128x128_p1_0_S128x128 shapeCasts_S128x128_S128x128 m (y 1)).trans (fin 128 (by omega) rfl)
    | ⟨2, _⟩, fin => exact (column_apply 256 (by decide) (k0_pay5 i v0 v2 v5) slices_S1x640_o0_256_S1x128 shapeCasts_S1x128_S1x128 broadcasts_S1x128_S128x128 transposes_S128x128_p1_0_S128x128 shapeCasts_S128x128_S128x128 m (y 1)).trans (fin 256 (by omega) rfl)
    | ⟨3, _⟩, fin => exact (column_apply 384 (by decide) (k0_pay5 i v0 v2 v5) slices_S1x640_o0_384_S1x128 shapeCasts_S1x128_S1x128 broadcasts_S1x128_S128x128 transposes_S128x128_p1_0_S128x128 shapeCasts_S128x128_S128x128 m (y 1)).trans (fin 384 (by omega) rfl)
    | ⟨4, _⟩, fin => exact (column_apply 512 (by decide) (k0_pay5 i v0 v2 v5) slices_S1x640_o0_512_S1x128 shapeCasts_S1x128_S1x128 broadcasts_S1x128_S128x128 transposes_S128x128_p1_0_S128x128 shapeCasts_S128x128_S128x128 m (y 1)).trans (fin 512 (by omega) rfl)

/-- The row of scales holds the first lane of the scales. -/
theorem scaleRow_apply (X : S640x128.Idx → F .f32) (r : Fin 640) : scaleRow X (ix2 (0 : Fin 1) r) = X (ix2 r (0 : Fin 128)) := by
  have hr := r.isLt
  have step := concat5 (fun k => Cert.GuKIdeal.Gen.k0_pay16 (rows X k)) concatenates_S1x128_S1x128_S1x128_S1x128_S1x128_S1x640_d1 r
    ⟨r.val / 128, by omega⟩ rfl
  refine step.trans ((Cert.GuKIdeal.Gu.pay16_apply _ _).trans ?_)
  exact congrArg (fun r : Fin 640 => X (ix2 r (0 : Fin 128))) (Fin.ext (show 128 * (r.val / 128) + r.val % 128 = r.val by omega))

end Cert.OprojKIdeal.Op

end
-- ==== Proof.Op.Cols.lean ====
/- The columns of the hidden rows, 256 at a time. -/
module

public import proofs.«01_k».proof.Proof.Op.Vals
public import Idealize.ShloMosaic.Lib.VecWindow

@[expose] public section

set_option maxRecDepth 16384

noncomputable section

namespace Cert.OprojKIdeal.Op

open Cert.OprojKIdeal Cert.OprojKIdeal.Gen
open Cert.GuKIdeal.Gu (stack rows lanes setRow read_setRow read_stack readAt_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg1 : Memref sig .tc .vmem S1x640x1792 .fp8e4m3) (harg1 : arg1.IsWhole)
  (arg2 : Memref sig .tc .vmem S3x640 .f32) (harg2 : arg2.IsWhole)
  (arg3 : Memref sig .tc .vmem S1x640x3584 .bf16) (harg3 : arg3.IsWhole)
  (arg4 : Memref sig .tc .vmem S1x3584 .f32) (harg4 : arg4.IsWhole)
  (arg5 : Memref sig .tc .vmem S1792x3584 .fp8e4m3) (harg5 : arg5.IsWhole)
  (arg6 : Memref sig .tc .vmem S1x3584 .f32) (harg6 : arg6.IsWhole)
  (arg7 : Memref sig .tc .vmem S1x640x3584 .f32) (harg7 : arg7.IsWhole)
  (arg8 : Memref sig .tc .vmem S1x640x3584 .fp8e4m3) (harg8 : arg8.IsWhole)
  (arg9 : Memref sig .tc .vmem S3x640 .f32) (harg9 : arg9.IsWhole)
  (arg10 : Memref sig .tc .vmem S640x128 .f32) (harg10 : arg10.IsWhole)

variable (c : Dev nD) (E : Set ℕ) (x0 : Vec F S1x640x1792 .fp8e4m3) (x1 : Vec F S3x640 .f32) (x2 : Vec F S1x640x3584 .bf16) (x3 : Vec F S1x3584 .f32)
  (x4 : Vec F S1792x3584 .fp8e4m3) (x5 : Vec F S1x3584 .f32) (s : S640x128.Idx → F .f32)

/-- A program run after another: from what the first leaves with its value, the second reaches the post. -/
theorem wp_seq {α β : Type} {P : sProp 𝕄} {R : α → sProp 𝕄} {p : Prog (TpuEff nD τ sig (Elt F) Λ₀ .tc) α} {k : α → Prog (TpuEff nD τ sig (Elt F) Λ₀ .tc) β} {Q : β → sProp 𝕄}
    (h : P ⊢ wp frame (wpE (defs₀ (F := F)) Variants.none (c : Thread nD τ) none) E p R)
    (hk : ∀ x, R x ⊢ wp frame (wpE (defs₀ (F := F)) Variants.none (c : Thread nD τ) none) E (k x) Q) :
    P ⊢ wp frame (wpE (defs₀ (F := F)) Variants.none (c : Thread nD τ) none) E (p >>= k) Q := by
  rw [wp_bind]
  iintro H
  iapply (wp_wand_r frame (wpE (defs₀ (F := F)) Variants.none (c : Thread nD τ) none) E)
  isplitl [H]
  · iapply h; iexact H
  · iintro %x H
    iapply (hk x); iexact H

/-- The six inputs of a grid point, held. -/
def Ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

/-- What is held between two blocks of columns: the inputs and the scales; the first `q` columns of the hidden rows stored, and
    the next 128 in hand. -/
def St (q : ℕ) (v : FVec F S640x128 .f32) : sProp 𝕄 :=
  iprop(⌜∀ (r : Fin 640) (l : Fin 128) (k : Fin 3584), k.val = q + l.val → v (ix2 r l) = hid x0 x2 x4 x5 s r k⌝
    ∗ Ins arg1 arg2 arg3 arg4 arg5 arg6 c x0 x1 x2 x3 x4 x5 ∗ owns (c : Thread nD τ) arg10 fullShare s
    ∗ ∃ X, ⌜Cols (hid x0 x2 x4 x5 s) q X⌝ ∗ owns (c : Thread nD τ) arg7 fullShare X)

/-- The memory operations of one block of 256 columns: the 128 in hand stored, the block's product taken, its first 128
    columns stored and its last 128 made. -/
def chunk (q o o' : ℕ) (iq : ∀ x, (![0, 0, q] : Fin 3 → ℕ) x + S1x640x128.size x ≤ S1x640x3584.size x)
    (iw : ∀ x, (![0, o] : Fin 2 → ℕ) x + S1792x256.size x ≤ S1792x3584.size x)
    (io : ∀ x, (![0, 0, o] : Fin 3 → ℕ) x + S1x640x128.size x ≤ S1x640x3584.size x)
    (is : ∀ x, (![0, o] : Fin 2 → ℕ) x + S1x128.size x ≤ S1x3584.size x)
    (io' : ∀ x, (![0, 0, o'] : Fin 3 → ℕ) x + S1x640x128.size x ≤ S1x640x3584.size x)
    (is' : ∀ x, (![0, o'] : Fin 2 → ℕ) x + S1x128.size x ≤ S1x3584.size x) (v70 : FVec F S640x128 .f32) :
    Prog (TpuEff nD τ sig (Elt F) Λ₀ .tc) (FVec F S640x128 .f32) := do
  let v71 : Vec F S1x640x128 .f32 ← Prog.lift (.load arg7 (Rect.unit (s := S1x640x3584) ![0, 0, q] S1x640x128.size iq).toLoadRect (View.loadsAt_vmem h_S1x640x128))
  Prog.lift (.store arg7 (Rect.unit (s := S1x640x3584) ![0, 0, q] S1x640x128.size iq) (k0_pay15 v70) Finset.univ (View.stores_vmem_bits_univ h_S1x640x128 rfl) (.inl rfl))
  let v74 : Vec F S1x640x1792 .fp8e4m3 ← Prog.lift (.load arg1 (Rect.unit (s := S1x640x1792) ![0, 0, 0] S1x640x1792.size inb_S1x640x1792_S1x640x1792_0_0_0).toLoadRect (View.loadsAt_vmem h_S1x640x1792))
  let v76 : Vec F S1792x256 .fp8e4m3 ← Prog.lift (.load arg5 (Rect.unit (s := S1792x3584) ![0, o] S1792x256.size iw).toLoadRect (View.loadsAt_vmem h_S1792x256))
  let v78 : Vec F S1x640x128 .bf16 ← Prog.lift (.load arg3 (Rect.unit (s := S1x640x3584) ![0, 0, o] S1x640x128.size io).toLoadRect (View.loadsAt_vmem h_S1x640x128))
  let v82 : Vec F S640x128 .f32 ← Prog.lift (.load arg10 (Rect.unit (s := S640x128) ![0, 0] S640x128.size inb_S640x128_S640x128_0_0).toLoadRect (View.loadsAt_vmem h_S640x128))
  let v84 : Vec F S1x128 .f32 ← Prog.lift (.load arg6 (Rect.unit (s := S1x3584) ![0, o] S1x128.size is).toLoadRect (View.loadsAt_vmem h_S1x128))
  let v89 : Vec F S1x640x128 .f32 ← Prog.lift (.load arg7 (Rect.unit (s := S1x640x3584) ![0, 0, o] S1x640x128.size io).toLoadRect (View.loadsAt_vmem h_S1x640x128))
  Prog.lift (.store arg7 (Rect.unit (s := S1x640x3584) ![0, 0, o] S1x640x128.size io) (k0_pay13 v74 v76 v78 v82 v84) Finset.univ (View.stores_vmem_bits_univ h_S1x640x128 rfl) (.inl rfl))
  let v92 : Vec F S1x640x128 .bf16 ← Prog.lift (.load arg3 (Rect.unit (s := S1x640x3584) ![0, 0, o'] S1x640x128.size io').toLoadRect (View.loadsAt_vmem h_S1x640x128))
  let v96 : Vec F S640x128 .f32 ← Prog.lift (.load arg10 (Rect.unit (s := S640x128) ![0, 0] S640x128.size inb_S640x128_S640x128_0_0).toLoadRect (View.loadsAt_vmem h_S640x128))
  let v98 : Vec F S1x128 .f32 ← Prog.lift (.load arg6 (Rect.unit (s := S1x3584) ![0, o'] S1x128.size is').toLoadRect (View.loadsAt_vmem h_S1x128))
  pure (k0_pay14 v74 v76 v92 v96 v98)

/-- A block takes the hidden rows from their first `q` columns to `256` more. -/
theorem wp_chunk (j : Fin 14) (q o o' : ℕ) (ho : o = 256 * j.val) (hq : o = q + 128) (ho' : o' = o + 128) (iq) (iw) (io) (is) (io') (is') (v70 : FVec F S640x128 .f32) :
    St arg1 arg2 arg3 arg4 arg5 arg6 arg7 arg10 c x0 x1 x2 x3 x4 x5 s q v70
    ⊢ wp frame (wpE (defs₀ (F := F)) Variants.none (c : Thread nD τ) none) E (chunk arg1 arg3 arg5 arg6 arg7 arg10 q o o' iq iw io is io' is' v70) (fun v => (St arg1 arg2 arg3 arg4 arg5 arg6 arg7 arg10 c x0 x1 x2 x3 x4 x5 s o' v : sProp 𝕄)) := by
  unfold chunk St Ins owns
  iintro ⟨%hv, ⟨⟨%f1, %h1, H1⟩, ⟨%f2, %h2, H2⟩, ⟨%f3, %h3, H3⟩, ⟨%f4, %h4, H4⟩, ⟨%f5, %h5, H5⟩, ⟨%f6, %h6, H6⟩⟩, ⟨%f10, %h10, H10⟩, %X, %hX, %f7, %h7, H7⟩
  subst h1 h2 h3 h4 h5 h6 h7 h10
  sl_exec
  rw [View.readAt_full arg1.view f1 inb_S1x640x1792_S1x640x1792_0_0_0, View.readAt_full arg10.view f10 inb_S640x128_S640x128_0_0,
    readAt_wcols arg5.view f5 j o ho iw, readAt_xcols arg3.view f3 ⟨2 * j.val, by omega⟩ o (by dsimp only; omega) io, readAt_xcols arg3.view f3 ⟨2 * j.val + 1, by omega⟩ o' (by dsimp only; omega) io',
    readAt_scols arg6.view f6 ⟨2 * j.val, by omega⟩ o (by dsimp only; omega) is, readAt_scols arg6.view f6 ⟨2 * j.val + 1, by omega⟩ o' (by dsimp only; omega) is']
  rw [wp_ret]
  imodintro
  isplitr
  · ipureintro
    intro r l k hk
    exact hid_high _ _ _ _ _ j r l k (by omega)
  isplitl [H1 H2 H3 H4 H5 H6]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists f6; isplitr; · ipureintro; rfl
    iexact H6
  isplitl [H10]; · iexists f10; isplitr; · ipureintro; rfl
                   iexact H10
  iexists _; isplitr; swap
  · iexists _; isplitr; swap; · iexact H7
    ipureintro; rfl
  ipureintro
  subst ho' hq
  refine cols_step arg7.view f7 _ _ _ _ _ (fun r l k hk => hid_low _ _ _ _ _ j r l k (by omega)) ?_
  refine cols_step arg7.view f7 _ _ _ _ [] (fun r l k hk => (pay15_apply _ r l).trans (hv r l k hk)) ?_
  exact hX

end Cert.OprojKIdeal.Op

end
-- ==== Proof.Op.Head.lean ====
/- The first part of a grid point: the batch's scales laid out, and the first 256 columns of the hidden rows. -/
module

public import proofs.«01_k».proof.Proof.Op.Cols

@[expose] public section

set_option maxRecDepth 16384

noncomputable section

namespace Cert.OprojKIdeal.Op

open Cert.OprojKIdeal Cert.OprojKIdeal.Gen
open Cert.GuKIdeal.Gu (stack rows lanes setRow read_setRow read_stack readAt_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg1 : Memref sig .tc .vmem S1x640x1792 .fp8e4m3) (harg1 : arg1.IsWhole)
  (arg2 : Memref sig .tc .vmem S3x640 .f32) (harg2 : arg2.IsWhole)
  (arg3 : Memref sig .tc .vmem S1x640x3584 .bf16) (harg3 : arg3.IsWhole)
  (arg4 : Memref sig .tc .vmem S1x3584 .f32) (harg4 : arg4.IsWhole)
  (arg5 : Memref sig .tc .vmem S1792x3584 .fp8e4m3) (harg5 : arg5.IsWhole)
  (arg6 : Memref sig .tc .vmem S1x3584 .f32) (harg6 : arg6.IsWhole)
  (arg7 : Memref sig .tc .vmem S1x640x3584 .f32) (harg7 : arg7.IsWhole)
  (arg8 : Memref sig .tc .vmem S1x640x3584 .fp8e4m3) (harg8 : arg8.IsWhole)
  (arg9 : Memref sig .tc .vmem S3x640 .f32) (harg9 : arg9.IsWhole)
  (arg10 : Memref sig .tc .vmem S640x128 .f32) (harg10 : arg10.IsWhole)

variable (c : Dev nD) (E : Set ℕ) (x0 : Vec F S1x640x1792 .fp8e4m3) (x1 : Vec F S3x640 .f32) (x2 : Vec F S1x640x3584 .bf16) (x3 : Vec F S1x3584 .f32)
  (x4 : Vec F S1792x3584 .fp8e4m3) (x5 : Vec F S1x3584 .f32) (s : S640x128.Idx → F .f32)

/-- The end of a program leaves what it holds. -/
theorem wp_end {α : Type} {P : sProp 𝕄} (x : α) :
    P ⊢ wp frame (wpE (defs₀ (F := F)) Variants.none (c : Thread nD τ) none) E (pure x : Prog (TpuEff nD τ sig (Elt F) Λ₀ .tc) α) (fun _ => P) := by
  show P ⊢ wp frame (wpE (defs₀ (F := F)) Variants.none (c : Thread nD τ) none) E (.ret x : Prog (TpuEff nD τ sig (Elt F) Λ₀ .tc) α) (fun _ => P)
  rw [wp_ret]
  iintro H
  imodintro
  iexact H

/-- A load of one row of three. -/
theorem at_row (v : View sig .tc .vmem S3x640 .f32) (f : v.ty.Contents (Elt F)) (b : Fin 3) (o : ℕ) (h : o = b.val) (inb) (r : Fin 640) :
    v.readAt (Elt F) (Rect.unit (s := S3x640) ![o, 0] S1x640.size inb).toLoadRect f (ix2 (0 : Fin 1) r) = v.read (Elt F) f (ix2 b r) := by
  subst h
  refine congrArg (v.read (Elt F) f) (funext fun x => Fin.ext ?_)
  match x with
    | ⟨0, _⟩ => rfl
    | ⟨1, _⟩ => show 0 + 1 * r.val = r.val; omega

/-- What is held after the first four blocks of 128 scales are laid out: storing the fifth completes them. -/
def Mid (v : FVec F S128x128 .f32) : sProp 𝕄 :=
  iprop(Ins arg1 arg2 arg3 arg4 arg5 arg6 c x0 x1 x2 x3 x4 x5 ∗ (∃ X, owns (c : Thread nD τ) arg7 fullShare X)
    ∗ ∃ f : BufTy.Contents (Elt F) arg10.view.ty, ⌜arg10.view.read (Elt F) (arg10.view.writes (Elt F) f [⟨Rect.unit (s := S640x128) ![512, 0] S128x128.size inb_S640x128_S128x128_512_0, k0_pay11 v⟩]) = lanes (i 0) x1⌝
      ∗ (arg10.view.loc (c : Thread nD τ) ↦[arg10.view.set]{fullShare} f))

/-- The first part lays out four blocks of the batch's scales and makes the fifth. -/
theorem wp_part2 (X7 : S1x640x3584.Idx → F .f32) (X10 : S640x128.Idx → F .f32) :
    iprop(Ins arg1 arg2 arg3 arg4 arg5 arg6 c x0 x1 x2 x3 x4 x5 ∗ owns (c : Thread nD τ) arg7 fullShare X7 ∗ owns (c : Thread nD τ) arg10 fullShare X10)
    ⊢ wp frame (wpE (defs₀ (F := F)) Variants.none (c : Thread nD τ) none) E (k0_part2_skel i arg1 harg1 arg2 harg2 arg3 harg3 arg4 harg4 arg5 harg5 arg6 harg6 arg7 harg7 arg8 harg8 arg9 harg9 arg10 harg10) (fun x => (Mid i arg1 arg2 arg3 arg4 arg5 arg6 arg7 arg10 c x0 x1 x2 x3 x4 x5 x.2 : sProp 𝕄)) := by
  unfold k0_part2_skel Ins owns
  iintro ⟨⟨H1, ⟨%f2, %h2, H2⟩, HR⟩, H7, ⟨%f10, %h10, H10⟩⟩
  subst h2 h10
  sl_exec
  sl_step
  unfold Mid Ins owns
  isplitl [H1 H2 HR]
  · isplitl [H1]; · iexact H1
    isplitl [H2]; · iexists f2; isplitr; · ipureintro; rfl
                    iexact H2
    iexact HR
  isplitl [H7]; · iexists X7; iexact H7
  iexists _; isplitr; swap; · iexact H10
  ipureintro
  exact (read_stack arg10.view f10 ![_, _, _, _, _] inb_S640x128_S128x128_0_0 inb_S640x128_S128x128_128_0 inb_S640x128_S128x128_256_0
      inb_S640x128_S128x128_384_0 inb_S640x128_S128x128_512_0).trans
      (stack_lanes i (arg2.view.read (Elt F) f2) _ _ _ (fun _ => at_row _ _ 0 0 rfl inb_S3x640_S1x640_0_0 _) (fun _ => at_row _ _ 1 1 rfl inb_S3x640_S1x640_1_0 _) (fun _ => at_row _ _ 2 2 rfl inb_S3x640_S1x640_2_0 _))

/-- The second stores the fifth block and the first 128 columns, and makes the next 128. -/
theorem wp_part3 (v38 : FVec F S128x128 .f32) :
    Mid i arg1 arg2 arg3 arg4 arg5 arg6 arg7 arg10 c x0 x1 x2 x3 x4 x5 v38
    ⊢ wp frame (wpE (defs₀ (F := F)) Variants.none (c : Thread nD τ) none) E (k0_part3_skel i arg1 harg1 arg2 harg2 arg3 harg3 arg4 harg4 arg5 harg5 arg6 harg6 arg7 harg7 arg8 harg8 arg9 harg9 arg10 harg10 v38) (fun v => (St arg1 arg2 arg3 arg4 arg5 arg6 arg7 arg10 c x0 x1 x2 x3 x4 x5 (lanes (i 0) x1) 128 v : sProp 𝕄)) := by
  unfold k0_part3_skel Mid Ins owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%X, %f7, %h7, H7⟩, %f10, %h10, H10⟩
  subst h1 h2 h3 h4 h5 h6 h7
  sl_exec
  have e10 : arg10.view.readAt (Elt F) (Rect.unit (s := S640x128) ![0, 0] S640x128.size inb_S640x128_S640x128_0_0).toLoadRect (arg10.view.writes (Elt F) f10 (wp_part3.sl.H10_1 v38)) = lanes (i 0) (arg2.view.read (Elt F) f2) :=
    (View.readAt_full arg10.view _ inb_S640x128_S640x128_0_0).trans h10
  rw [View.readAt_full arg1.view f1 inb_S1x640x1792_S1x640x1792_0_0_0, e10,
    readAt_wcols arg5.view f5 0 0 rfl inb_S1792x3584_S1792x256_0_0, readAt_xcols arg3.view f3 0 0 rfl inb_S1x640x3584_S1x640x128_0_0_0, readAt_xcols arg3.view f3 1 128 rfl inb_S1x640x3584_S1x640x128_0_0_128,
    readAt_scols arg6.view f6 0 0 rfl inb_S1x3584_S1x128_0_0, readAt_scols arg6.view f6 1 128 rfl inb_S1x3584_S1x128_0_128]
  rw [wp_ret]
  imodintro
  unfold St
  isplitr
  · ipureintro
    intro r l k hk
    exact hid_high _ _ _ _ _ 0 r l k hk
  isplitl [H1 H2 H3 H4 H5 H6]
  · unfold Ins owns
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists f6; isplitr; · ipureintro; rfl
    iexact H6
  unfold owns
  isplitl [H10]; · iexists _; isplitr; swap; · iexact H10
                   ipureintro; exact h10
  iexists _; isplitr; swap
  · iexists _; isplitr; swap; · iexact H7
    ipureintro; rfl
  ipureintro
  exact cols_step arg7.view f7 _ 0 _ _ [] (fun r l k hk => hid_low _ _ _ _ _ 0 r l k (by have h0 : (0 : Fin 14).val = 0 := rfl; omega)) (fun r k h => absurd h (Nat.not_lt_zero _))

end Cert.OprojKIdeal.Op

end
-- ==== Proof.Op.Loop.lean ====
/- The loop over the rows, 32 at a time: their codes and scales. -/
module

public import proofs.«01_k».proof.Proof.Op.Head

@[expose] public section

set_option maxRecDepth 16384

noncomputable section

namespace Cert.OprojKIdeal.Op

open Cert.OprojKIdeal Cert.OprojKIdeal.Gen
open Cert.GuKIdeal.Gu (stack rows lanes setRow read_setRow read_stack readAt_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg1 : Memref sig .tc .vmem S1x640x1792 .fp8e4m3) (harg1 : arg1.IsWhole)
  (arg2 : Memref sig .tc .vmem S3x640 .f32) (harg2 : arg2.IsWhole)
  (arg3 : Memref sig .tc .vmem S1x640x3584 .bf16) (harg3 : arg3.IsWhole)
  (arg4 : Memref sig .tc .vmem S1x3584 .f32) (harg4 : arg4.IsWhole)
  (arg5 : Memref sig .tc .vmem S1792x3584 .fp8e4m3) (harg5 : arg5.IsWhole)
  (arg6 : Memref sig .tc .vmem S1x3584 .f32) (harg6 : arg6.IsWhole)
  (arg7 : Memref sig .tc .vmem S1x640x3584 .f32) (harg7 : arg7.IsWhole)
  (arg8 : Memref sig .tc .vmem S1x640x3584 .fp8e4m3) (harg8 : arg8.IsWhole)
  (arg9 : Memref sig .tc .vmem S3x640 .f32) (harg9 : arg9.IsWhole)
  (arg10 : Memref sig .tc .vmem S640x128 .f32) (harg10 : arg10.IsWhole)

variable (c : Dev nD) (E : Set ℕ) (x0 : Vec F S1x640x1792 .fp8e4m3) (x1 : Vec F S3x640 .f32) (x2 : Vec F S1x640x3584 .bf16) (x3 : Vec F S1x3584 .f32)
  (x4 : Vec F S1792x3584 .fp8e4m3) (x5 : Vec F S1x3584 .f32) (s : S640x128.Idx → F .f32)

variable (H : S1x640x3584.Idx → F .f32)

theorem off1_eq : ∀ k : Fin k0_t1_loop.trips, k0_off1 k = ![0, 32 * k.val, 0] := by decide +kernel
theorem off2_eq : ∀ k : Fin k0_t1_loop.trips, k0_off2 k = ![32 * k.val, 0] := by decide +kernel

/-- The first `n` rows of codes and of scales are done. -/
def Done (n : ℕ) (G : S1x640x3584.Idx → F .fp8e4m3) (S : S640x128.Idx → F .f32) : Prop :=
  (∀ (r : Fin 640) (k : Fin 3584), r.val < n → G (ix3 (0 : Fin 1) r k) = codesOf H x3 (ix3 (0 : Fin 1) r k))
  ∧ ∀ (r : Fin 640) (l : Fin 128), r.val < n → S (ix2 r l) = scalesOf H x3 (ix2 r l)

/-- A trip takes them 32 rows further. -/
theorem done_step (n : Fin 20) (a : Fin 3 → ℕ) (b : Fin 2 → ℕ) (ia) (ib) (ea : a = ![0, 32 * n.val, 0]) (eb : b = ![32 * n.val, 0])
    (f8 : BufTy.Contents (Elt F) arg8.view.ty) (f10 : BufTy.Contents (Elt F) arg10.view.ty)
    (h : Done x3 H (32 * n.val) (arg8.view.read (Elt F) f8) (arg10.view.read (Elt F) f10)) :
    Done x3 H (32 * (n.val + 1))
      (arg8.view.read (Elt F) (arg8.view.writes (Elt F) f8 [⟨Rect.unit (s := S1x640x3584) a S1x32x3584.size ia, k0_pay3 (rows32 H n) x3⟩]))
      (arg10.view.read (Elt F) (arg10.view.writes (Elt F) f10 [⟨Rect.unit (s := S640x128) b S32x128.size ib, k0_pay68 (k0_pay4 (rows32 H n) x3)⟩])) := by
  subst ea eb
  obtain ⟨hG, hS⟩ := h
  constructor
  · intro r k hr
    by_cases ho : r.val < 32 * n.val
    · rw [View.read_writes_cons_unit_of_not_mem _ _ _ _ _ _ rfl (1 : Fin 3) (by left; show r.val < 32 * n.val; omega)]
      exact hG r k ho
    · rw [View.read_writes_cons_unit_of_mem _ _ _ _ _ _ (ix3 (0 : Fin 1) (⟨r.val - 32 * n.val, by omega⟩ : Fin 32) k) rfl (by
        intro x; match x with
          | ⟨0, _⟩ => rfl
          | ⟨1, _⟩ => show r.val = 32 * n.val + (r.val - 32 * n.val); omega
          | ⟨2, _⟩ => show k.val = 0 + k.val; omega)]
      have e : (⟨r.val / 32, by omega⟩ : Fin 20) = n := Fin.ext (by dsimp only; omega)
      have e' : (⟨r.val % 32, Nat.mod_lt _ (by decide)⟩ : Fin 32) = ⟨r.val - 32 * n.val, by omega⟩ := Fin.ext (by dsimp only; omega)
      show _ = k0_pay3 (rows32 H ⟨r.val / 32, _⟩) x3 (ix3 (0 : Fin 1) (⟨r.val % 32, _⟩ : Fin 32) k)
      rw [e, e']
  · intro r l hr
    by_cases ho : r.val < 32 * n.val
    · rw [View.read_writes_cons_unit_of_not_mem _ _ _ _ _ _ rfl (0 : Fin 2) (by left; show r.val < 32 * n.val; omega)]
      exact hS r l ho
    · rw [View.read_writes_cons_unit_of_mem _ _ _ _ _ _ (ix2 (⟨r.val - 32 * n.val, by omega⟩ : Fin 32) l) rfl (by
        intro x; match x with
          | ⟨0, _⟩ => show r.val = 32 * n.val + (r.val - 32 * n.val); omega
          | ⟨1, _⟩ => show l.val = 0 + l.val; omega)]
      have e : (⟨r.val / 32, by omega⟩ : Fin 20) = n := Fin.ext (by dsimp only; omega)
      have e' : (⟨r.val % 32, Nat.mod_lt _ (by decide)⟩ : Fin 32) = ⟨r.val - 32 * n.val, by omega⟩ := Fin.ext (by dsimp only; omega)
      show _ = k0_pay4 (rows32 H ⟨r.val / 32, _⟩) x3 (ix2 (⟨r.val % 32, _⟩ : Fin 32) l)
      rw [e, e']
      unfold k0_pay68
      rw [shapeCast_self]

/-- What the loop holds: the hidden rows and the weights of the norm, and the codes and scales with their first `n` rows done. -/
def Held (n : ℕ) : sProp 𝕄 :=
  iprop(owns (c : Thread nD τ) arg7 fullShare H ∗ owns (c : Thread nD τ) arg4 fullShare x3
    ∗ ∃ G S, ⌜Done x3 H n G S⌝ ∗ owns (c : Thread nD τ) arg8 fullShare G ∗ owns (c : Thread nD τ) arg10 fullShare S)

/-- One trip of the loop. -/
theorem wp_trip (k : Fin k0_t1_loop.trips) (u : Unit) :
    Held arg4 arg7 arg8 arg10 c x3 H (32 * k.val)
    ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 k u) (fun _ => (Held arg4 arg7 arg8 arg10 c x3 H (32 * (k.val + 1)) : sProp 𝕄)) := by
  unfold k0_t1_body Held owns
  rw [k0_part1_eq_skeleton]
  unfold k0_part1_skel
  iintro ⟨⟨%f7, %h7, H7⟩, ⟨%f4, %h4, H4⟩, %G, %S, %hD, ⟨%f8, %h8, H8⟩, %f10, %h10, H10⟩
  subst h7 h4 h8 h10
  sl_exec
  have hk : k.val < 20 := Nat.lt_of_lt_of_eq k.isLt (by decide +kernel)
  rw [readAt_rows32 arg7.view f7 ⟨k.val, hk⟩ (k0_off1 k) (off1_eq k), View.readAt_full arg4.view f4 inb_S1x3584_S1x3584_0_0]
  rw [wp_ret]
  imodintro
  isplitl [H7]; · iexists f7; isplitr; · ipureintro; rfl
                  iexact H7
  isplitl [H4]; · iexists f4; isplitr; · ipureintro; rfl
                  iexact H4
  iexists _; iexists _; isplitr; swap
  · isplitl [H8]; · iexists _; isplitr; swap; · iexact H8
                    ipureintro; rfl
    iexists _; isplitr; swap; · iexact H10
    ipureintro; rfl
  ipureintro
  exact done_step arg8 arg10 _ _ ⟨k.val, hk⟩ _ _ _ _ (off1_eq k) (off2_eq k) f8 f10 hD

/-- The loop does all 640 rows. -/
theorem wp_loop :
    Held arg4 arg7 arg8 arg10 c x3 H 0
    ⊢ wp frame (wpE (defs₀ (F := F)) Variants.none (c : Thread nD τ) none) E (Scf.Loop.for k0_t1_loop k0_t1_ok ⟨⟩ (k0_t1_body i arg1 harg1 arg2 harg2 arg3 harg3 arg4 harg4 arg5 harg5 arg6 harg6 arg7 harg7 arg8 harg8 arg9 harg9 arg10 harg10)) (fun _ => (Held arg4 arg7 arg8 arg10 c x3 H 640 : sProp 𝕄)) := by
  unfold Scf.Loop.for
  iintro HH
  iapply (Scf.wp_for (M := 𝕄) frame (wpE (defs₀ (F := F)) Variants.none (c : Thread nD τ) none) E k0_t1_loop.lb k0_t1_loop.ub k0_t1_loop.st k0_t1_ok ⟨⟩
    (k0_t1_body i arg1 harg1 arg2 harg2 arg3 harg3 arg4 harg4 arg5 harg5 arg6 harg6 arg7 harg7 arg8 harg8 arg9 harg9 arg10 harg10)
    (fun n _ => Held arg4 arg7 arg8 arg10 c x3 H (32 * n)) ?_)
  rotate_left
  · isplitl [HH]; · iexact HH
    iintro %_ HH
    have hh : Scf.trips k0_t1_loop.lb k0_t1_loop.ub k0_t1_loop.st = 20 := by decide +kernel
    rw [hh]
    iexact HH
  · intro k u
    exact wp_trip i arg1 harg1 arg2 harg2 arg3 harg3 arg4 harg4 arg5 harg5 arg6 harg6 arg7 harg7 arg8 harg8 arg9 harg9 arg10 harg10 c E x3 H k u

end Cert.OprojKIdeal.Op

end
-- ==== Proof.Op.Body.lean ====
/- A grid point: all columns of the hidden rows, then the rows' codes and scales, then the batch's row of scales. -/
module

public import proofs.«01_k».proof.Proof.Op.Loop

@[expose] public section

set_option maxRecDepth 16384

noncomputable section

namespace Cert.OprojKIdeal.Op

open Cert.OprojKIdeal Cert.OprojKIdeal.Gen
open Cert.GuKIdeal.Gu (stack rows lanes setRow read_setRow read_stack readAt_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (i : grid0.Coords)
  (arg1 : Memref sig .tc .vmem S1x640x1792 .fp8e4m3) (harg1 : arg1.IsWhole)
  (arg2 : Memref sig .tc .vmem S3x640 .f32) (harg2 : arg2.IsWhole)
  (arg3 : Memref sig .tc .vmem S1x640x3584 .bf16) (harg3 : arg3.IsWhole)
  (arg4 : Memref sig .tc .vmem S1x3584 .f32) (harg4 : arg4.IsWhole)
  (arg5 : Memref sig .tc .vmem S1792x3584 .fp8e4m3) (harg5 : arg5.IsWhole)
  (arg6 : Memref sig .tc .vmem S1x3584 .f32) (harg6 : arg6.IsWhole)
  (arg7 : Memref sig .tc .vmem S1x640x3584 .f32) (harg7 : arg7.IsWhole)
  (arg8 : Memref sig .tc .vmem S1x640x3584 .fp8e4m3) (harg8 : arg8.IsWhole)
  (arg9 : Memref sig .tc .vmem S3x640 .f32) (harg9 : arg9.IsWhole)
  (arg10 : Memref sig .tc .vmem S640x128 .f32) (harg10 : arg10.IsWhole)

variable (c : Dev nD) (E : Set ℕ) (x0 : Vec F S1x640x1792 .fp8e4m3) (x1 : Vec F S3x640 .f32) (x2 : Vec F S1x640x3584 .bf16) (x3 : Vec F S1x3584 .f32)
  (x4 : Vec F S1792x3584 .fp8e4m3) (x5 : Vec F S1x3584 .f32) (s : S640x128.Idx → F .f32)

/-- One program after another, beside something held throughout. -/
theorem wp_seq_frame {α β : Type} {A : Prog (TpuEff nD τ sig (Elt F) Λ₀ .tc) α} {B : α → Prog (TpuEff nD τ sig (Elt F) Λ₀ .tc) β}
    {P Fr : sProp 𝕄} {R : α → sProp 𝕄} {Q : β → sProp 𝕄} (h : P ⊢ wp frame (wpE (defs₀ (F := F)) Variants.none (c : Thread nD τ) none) E A R) (hk : ∀ v, iprop(R v ∗ Fr) ⊢ wp frame (wpE (defs₀ (F := F)) Variants.none (c : Thread nD τ) none) E (B v) Q) :
    iprop(P ∗ Fr) ⊢ wp frame (wpE (defs₀ (F := F)) Variants.none (c : Thread nD τ) none) E (A >>= B) Q := by
  refine wp_seq c E (R := fun v => iprop(R v ∗ Fr)) ?_ hk
  iintro ⟨H, HF⟩
  iapply (wp_wand_r frame (wpE (defs₀ (F := F)) Variants.none (c : Thread nD τ) none) E)
  isplitl [H]; · iapply h; iexact H
  iintro %v H
  isplitl [H]; · iexact H
  iexact HF

/-- The batch's own row alone is stored: which of the three conditions holds. -/
theorem cond_row : (k0_cond1 i = 1#1 ∧ ¬ k0_cond2 i = 1#1 ∧ ¬ k0_cond3 i = 1#1 ∧ (i 0).val = 0) ∨ (¬ k0_cond1 i = 1#1 ∧ k0_cond2 i = 1#1 ∧ ¬ k0_cond3 i = 1#1 ∧ (i 0).val = 1)
      ∨ (¬ k0_cond1 i = 1#1 ∧ ¬ k0_cond2 i = 1#1 ∧ k0_cond3 i = 1#1 ∧ (i 0).val = 2) := by
  have h : (i 0).val < 3 := (i 0).isLt
  unfold k0_cond1 k0_cond2 k0_cond3
  obtain ⟨n, hn⟩ : ∃ n, (i 0).val = n := ⟨_, rfl⟩
  rw [hn] at h ⊢
  match n, h with
    | 0, _ => decide
    | 1, _ => decide
    | 2, _ => decide

variable (X7 : S1x640x3584.Idx → F .f32) (X8 : S1x640x3584.Idx → F .fp8e4m3) (X9 : S3x640.Idx → F .f32) (X10 : S640x128.Idx → F .f32)

/-- The array of scales after the first of the three conditional stores. -/
def row0 (v : S1x640.Idx → F .f32) : S3x640.Idx → F .f32 := if k0_cond1 i = 1#1 then setRow 0 v X9 else X9

/-- What a grid point holds before its last two conditional stores, the row of scales in hand. -/
def Fin' (v : FVec F S1x640 .f32) : sProp 𝕄 :=
  iprop(⌜v = scaleRow (scalesOf (hidV x0 x2 x4 x5 (lanes (i 0) x1)) x3)⌝ ∗ Ins arg1 arg2 arg3 arg4 arg5 arg6 c x0 x1 x2 x3 x4 x5 ∗ owns (c : Thread nD τ) arg7 fullShare (hidV x0 x2 x4 x5 (lanes (i 0) x1)) ∗ owns (c : Thread nD τ) arg8 fullShare (codesOf (hidV x0 x2 x4 x5 (lanes (i 0) x1)) x3)
    ∗ owns (c : Thread nD τ) arg9 fullShare (row0 i X9 v) ∗ owns (c : Thread nD τ) arg10 fullShare (scalesOf (hidV x0 x2 x4 x5 (lanes (i 0) x1)) x3))

/-- The five blocks of scales read back as one row, and the first conditional store. -/
theorem wp_row (a : BitVec 32) :
    iprop(owns (c : Thread nD τ) arg9 fullShare X9 ∗ owns (c : Thread nD τ) arg10 fullShare X10)
    ⊢ wp frame (wpE (defs₀ (F := F)) Variants.none (c : Thread nD τ) none) E (do
      let v491 : Vec F S128x128 .f32 ← Prog.lift (.load arg10 (Rect.unit (s := S640x128) ![0, 0] S128x128.size inb_S640x128_S128x128_0_0).toLoadRect (View.loadsAt_vmem h_S128x128))
      let v494 : Vec F S128x128 .f32 ← Prog.lift (.load arg10 (Rect.unit (s := S640x128) ![128, 0] S128x128.size inb_S640x128_S128x128_128_0).toLoadRect (View.loadsAt_vmem h_S128x128))
      let v497 : Vec F S128x128 .f32 ← Prog.lift (.load arg10 (Rect.unit (s := S640x128) ![256, 0] S128x128.size inb_S640x128_S128x128_256_0).toLoadRect (View.loadsAt_vmem h_S128x128))
      let v500 : Vec F S128x128 .f32 ← Prog.lift (.load arg10 (Rect.unit (s := S640x128) ![384, 0] S128x128.size inb_S640x128_S128x128_384_0).toLoadRect (View.loadsAt_vmem h_S128x128))
      let v503 : Vec F S128x128 .f32 ← Prog.lift (.load arg10 (Rect.unit (s := S640x128) ![512, 0] S128x128.size inb_S640x128_S128x128_512_0).toLoadRect (View.loadsAt_vmem h_S128x128))
      if k0_h1 : k0_cond1 i = 1#1 then do
        let v516 : Vec F S1x640 .f32 ← Prog.lift (.load arg9 (Rect.unit (s := S3x640) ![0, 0] S1x640.size inb_S3x640_S1x640_0_0).toLoadRect (View.loadsAt_vmem h_S1x640))
        Prog.lift (.store arg9 (Rect.unit (s := S3x640) ![0, 0] S1x640.size inb_S3x640_S1x640_0_0) (k0_pay69 v491 v494 v497 v500 v503) Finset.univ (View.stores_vmem_bits_univ h_S1x640 rfl) (.inl rfl))
        pure ⟨⟩
      else do
        pure ⟨⟩
      pure (⟨a, k0_pay69 v491 v494 v497 v500 v503, 1#32⟩ : Σ' (arg0 : BitVec 32) (v506 : FVec F S1x640 .f32), BitVec 32))
      (fun x => (iprop(⌜x.2.1 = scaleRow X10⌝ ∗ owns (c : Thread nD τ) arg9 fullShare (row0 i X9 x.2.1) ∗ owns (c : Thread nD τ) arg10 fullShare X10) : sProp 𝕄)) := by
  unfold owns row0
  iintro ⟨⟨%f9, %h9, H9⟩, ⟨%f10, %h10, H10⟩⟩
  subst h9 h10
  have e0 := readAt_rows arg10.view f10 0 0 rfl inb_S640x128_S128x128_0_0
  have e1 := readAt_rows arg10.view f10 1 128 rfl inb_S640x128_S128x128_128_0
  have e2 := readAt_rows arg10.view f10 2 256 rfl inb_S640x128_S128x128_256_0
  have e3 := readAt_rows arg10.view f10 3 384 rfl inb_S640x128_S128x128_384_0
  have e4 := readAt_rows arg10.view f10 4 512 rfl inb_S640x128_S128x128_512_0
  by_cases h1 : k0_cond1 i = 1#1
  · sl_exec (disch := first | sl_exact h1)
    rw [wp_ret]
    imodintro
    isplitr
    · ipureintro
      rfl
    isplitl [H9]; · iexists _; isplitr; swap; · iexact H9
                    ipureintro
                    rw [if_pos h1]
                    exact read_setRow arg9.view f9 0 inb_S3x640_S1x640_0_0 _
    iexists f10; isplitr; · ipureintro; rfl
    iexact H10
  · sl_exec (disch := first | sl_exact h1)
    rw [wp_ret]
    imodintro
    isplitr
    · ipureintro
      rfl
    isplitl [H9]; · iexists f9; isplitr; · ipureintro; rw [if_neg h1]
                    iexact H9
    iexists f10; isplitr; · ipureintro; rfl
    iexact H10

/-- The columns, the loop over the rows, and the first conditional store. -/
theorem wp_part17 :
    iprop(Ins arg1 arg2 arg3 arg4 arg5 arg6 c x0 x1 x2 x3 x4 x5 ∗ owns (c : Thread nD τ) arg7 fullShare X7 ∗ owns (c : Thread nD τ) arg8 fullShare X8 ∗ owns (c : Thread nD τ) arg9 fullShare X9 ∗ owns (c : Thread nD τ) arg10 fullShare X10)
    ⊢ wp frame (wpE (defs₀ (F := F)) Variants.none (c : Thread nD τ) none) E (k0_part17_skel i arg1 harg1 arg2 harg2 arg3 harg3 arg4 harg4 arg5 harg5 arg6 harg6 arg7 harg7 arg8 harg8 arg9 harg9 arg10 harg10) (fun x => (Fin' i arg1 arg2 arg3 arg4 arg5 arg6 arg7 arg8 arg9 arg10 c x0 x1 x2 x3 x4 x5 X9 x.2.1 : sProp 𝕄)) := by
  have start : iprop(Ins arg1 arg2 arg3 arg4 arg5 arg6 c x0 x1 x2 x3 x4 x5 ∗ owns (c : Thread nD τ) arg7 fullShare X7 ∗ owns (c : Thread nD τ) arg8 fullShare X8 ∗ owns (c : Thread nD τ) arg9 fullShare X9 ∗ owns (c : Thread nD τ) arg10 fullShare X10)
      ⊢ (iprop((Ins arg1 arg2 arg3 arg4 arg5 arg6 c x0 x1 x2 x3 x4 x5 ∗ owns (c : Thread nD τ) arg7 fullShare X7 ∗ owns (c : Thread nD τ) arg10 fullShare X10) ∗ owns (c : Thread nD τ) arg8 fullShare X8 ∗ owns (c : Thread nD τ) arg9 fullShare X9) : sProp 𝕄) := by
    iintro ⟨HI, H7, H8, H9, H10⟩
    isplitl [HI H7 H10]
    · isplitl [HI]; · iexact HI
      isplitl [H7]; · iexact H7
      iexact H10
    isplitl [H8]; · iexact H8
    iexact H9
  refine start.trans ?_
  unfold k0_part17_skel
  rw [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  refine wp_seq_frame c E (wp_part2 i arg1 harg1 arg2 harg2 arg3 harg3 arg4 harg4 arg5 harg5 arg6 harg6 arg7 harg7 arg8 harg8 arg9 harg9 arg10 harg10 c E x0 x1 x2 x3 x4 x5 X7 X10) fun x => ?_
  obtain ⟨a, v38⟩ := x
  dsimp only
  refine wp_seq_frame c E (wp_part3 i arg1 harg1 arg2 harg2 arg3 harg3 arg4 harg4 arg5 harg5 arg6 harg6 arg7 harg7 arg8 harg8 arg9 harg9 arg10 harg10 c E x0 x1 x2 x3 x4 x5 v38) fun v => ?_
  refine wp_seq_frame c E (wp_chunk arg1 arg2 arg3 arg4 arg5 arg6 arg7 arg10 c E x0 x1 x2 x3 x4 x5 (lanes (i 0) x1) 1 128 256 384 rfl rfl rfl _ _ _ _ _ _ v) fun v => ?_
  refine wp_seq_frame c E (wp_chunk arg1 arg2 arg3 arg4 arg5 arg6 arg7 arg10 c E x0 x1 x2 x3 x4 x5 (lanes (i 0) x1) 2 384 512 640 rfl rfl rfl _ _ _ _ _ _ v) fun v => ?_
  refine wp_seq_frame c E (wp_chunk arg1 arg2 arg3 arg4 arg5 arg6 arg7 arg10 c E x0 x1 x2 x3 x4 x5 (lanes (i 0) x1) 3 640 768 896 rfl rfl rfl _ _ _ _ _ _ v) fun v => ?_
  refine wp_seq_frame c E (wp_chunk arg1 arg2 arg3 arg4 arg5 arg6 arg7 arg10 c E x0 x1 x2 x3 x4 x5 (lanes (i 0) x1) 4 896 1024 1152 rfl rfl rfl _ _ _ _ _ _ v) fun v => ?_
  refine wp_seq_frame c E (wp_chunk arg1 arg2 arg3 arg4 arg5 arg6 arg7 arg10 c E x0 x1 x2 x3 x4 x5 (lanes (i 0) x1) 5 1152 1280 1408 rfl rfl rfl _ _ _ _ _ _ v) fun v => ?_
  refine wp_seq_frame c E (wp_chunk arg1 arg2 arg3 arg4 arg5 arg6 arg7 arg10 c E x0 x1 x2 x3 x4 x5 (lanes (i 0) x1) 6 1408 1536 1664 rfl rfl rfl _ _ _ _ _ _ v) fun v => ?_
  refine wp_seq_frame c E (wp_chunk arg1 arg2 arg3 arg4 arg5 arg6 arg7 arg10 c E x0 x1 x2 x3 x4 x5 (lanes (i 0) x1) 7 1664 1792 1920 rfl rfl rfl _ _ _ _ _ _ v) fun v => ?_
  refine wp_seq_frame c E (wp_chunk arg1 arg2 arg3 arg4 arg5 arg6 arg7 arg10 c E x0 x1 x2 x3 x4 x5 (lanes (i 0) x1) 8 1920 2048 2176 rfl rfl rfl _ _ _ _ _ _ v) fun v => ?_
  refine wp_seq_frame c E (wp_chunk arg1 arg2 arg3 arg4 arg5 arg6 arg7 arg10 c E x0 x1 x2 x3 x4 x5 (lanes (i 0) x1) 9 2176 2304 2432 rfl rfl rfl _ _ _ _ _ _ v) fun v => ?_
  refine wp_seq_frame c E (wp_chunk arg1 arg2 arg3 arg4 arg5 arg6 arg7 arg10 c E x0 x1 x2 x3 x4 x5 (lanes (i 0) x1) 10 2432 2560 2688 rfl rfl rfl _ _ _ _ _ _ v) fun v => ?_
  refine wp_seq_frame c E (wp_chunk arg1 arg2 arg3 arg4 arg5 arg6 arg7 arg10 c E x0 x1 x2 x3 x4 x5 (lanes (i 0) x1) 11 2688 2816 2944 rfl rfl rfl _ _ _ _ _ _ v) fun v => ?_
  refine wp_seq_frame c E (wp_chunk arg1 arg2 arg3 arg4 arg5 arg6 arg7 arg10 c E x0 x1 x2 x3 x4 x5 (lanes (i 0) x1) 12 2944 3072 3200 rfl rfl rfl _ _ _ _ _ _ v) fun v => ?_
  refine wp_seq_frame c E (wp_chunk arg1 arg2 arg3 arg4 arg5 arg6 arg7 arg10 c E x0 x1 x2 x3 x4 x5 (lanes (i 0) x1) 13 3200 3328 3456 rfl rfl rfl _ _ _ _ _ _ v) fun v => ?_
  unfold St Ins owns
  iintro ⟨⟨%hv, HI, H10, %X, %hX, H7⟩, H8, H9⟩
  icases H7 with ⟨%f7, %h7, H7⟩
  subst h7
  sl_exec
  have e7 : arg7.view.read (Elt F) (arg7.view.writes (Elt F) f7 [⟨Rect.unit (s := S1x640x3584) ![0, 0, 3456] S1x640x128.size inb_S1x640x3584_S1x640x128_0_0_3456, k0_pay67 v⟩]) = (hidV x0 x2 x4 x5 (lanes (i 0) x1)) := by
    have hc := cols_step arg7.view f7 _ 3456 inb_S1x640x3584_S1x640x128_0_0_3456 (k0_pay67 v) [] (fun r l k hk => (pay15_apply v r l).trans (hv r l k hk)) hX
    funext y
    have h0 : y 0 = (0 : Fin 1) := Subsingleton.elim (α := Fin 1) _ _
    have hy : y = ix3 (0 : Fin 1) (y 1) (y 2) := funext fun x => by
      match x with
        | ⟨0, _⟩ => exact h0
        | ⟨1, _⟩ => rfl
        | ⟨2, _⟩ => rfl
    have h2 : (y 2).val < 3584 := (y 2).isLt
    exact (congrArg _ hy).trans (hc (y 1) (y 2) h2)
  icases HI with ⟨H1, H2, H3, H4, H5, H6⟩
  rw [wp_bind]
  iapply (wp_wand_r frame (wpE (defs₀ (F := F)) Variants.none (c : Thread nD τ) none) E)
  isplitl [H4 H7 H8 H10]
  · iapply (wp_loop i arg1 harg1 arg2 harg2 arg3 harg3 arg4 harg4 arg5 harg5 arg6 harg6 arg7 harg7 arg8 harg8 arg9 harg9 arg10 harg10 c E x3 (hidV x0 x2 x4 x5 (lanes (i 0) x1)))
    unfold Held owns
    isplitl [H7]; · iexists _; isplitr; swap; · iexact H7
                    ipureintro; exact e7
    isplitl [H4]; · iexact H4
    iexists X8; iexists _; isplitr; swap
    · isplitl [H8]; · iexact H8
      iexact H10
    ipureintro
    exact ⟨fun r k h => absurd h (Nat.not_lt_zero _), fun r l h => absurd h (Nat.not_lt_zero _)⟩
  unfold Held owns
  iintro %_ ⟨H7, H4, %G, %S, %hD, H8, H10⟩
  have eG : G = codesOf (hidV x0 x2 x4 x5 (lanes (i 0) x1)) x3 := by
    funext y
    have h0 : y 0 = (0 : Fin 1) := Subsingleton.elim (α := Fin 1) _ _
    have hy : y = ix3 (0 : Fin 1) (y 1) (y 2) := funext fun x => by
      match x with
        | ⟨0, _⟩ => exact h0
        | ⟨1, _⟩ => rfl
        | ⟨2, _⟩ => rfl
    exact (congrArg G hy).trans ((hD.1 (y 1) (y 2) (y 1).isLt).trans (congrArg (codesOf (hidV x0 x2 x4 x5 (lanes (i 0) x1)) x3) hy.symm))
  have eS : S = scalesOf (hidV x0 x2 x4 x5 (lanes (i 0) x1)) x3 := by
    funext y
    have hy : y = ix2 (y 0) (y 1) := funext fun x => by
      match x with
        | ⟨0, _⟩ => rfl
        | ⟨1, _⟩ => rfl
    exact (congrArg S hy).trans ((hD.2 (y 0) (y 1) (y 0).isLt).trans (congrArg (scalesOf (hidV x0 x2 x4 x5 (lanes (i 0) x1)) x3) hy.symm))
  subst eG eS
  iapply (wp_wand_r frame (wpE (defs₀ (F := F)) Variants.none (c : Thread nD τ) none) E)
  isplitl [H9 H10]
  · iapply (wp_row i arg9 arg10 c E X9 (scalesOf (hidV x0 x2 x4 x5 (lanes (i 0) x1)) x3) a)
    unfold owns
    isplitl [H9]; · iexact H9
    iexact H10
  iintro %x ⟨%hx, H9, H10⟩
  unfold Fin' Ins owns
  isplitr; · ipureintro; exact hx
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  iexact H10

/-- A grid point: the hidden rows, their codes and their scales stored whole, and the batch's row of scales. -/
theorem wp_body :
    iprop(Ins arg1 arg2 arg3 arg4 arg5 arg6 c x0 x1 x2 x3 x4 x5 ∗ owns (c : Thread nD τ) arg7 fullShare X7 ∗ owns (c : Thread nD τ) arg8 fullShare X8 ∗ owns (c : Thread nD τ) arg9 fullShare X9 ∗ owns (c : Thread nD τ) arg10 fullShare X10)
    ⊢ wp frame (wpE (defs₀ (F := F)) Variants.none (c : Thread nD τ) none) E (cc0_oproj i arg1 harg1 arg2 harg2 arg3 harg3 arg4 harg4 arg5 harg5 arg6 harg6 arg7 harg7 arg8 harg8 arg9 harg9 arg10 harg10) (fun _ => (iprop(Ins arg1 arg2 arg3 arg4 arg5 arg6 c x0 x1 x2 x3 x4 x5 ∗ owns (c : Thread nD τ) arg7 fullShare (hidV x0 x2 x4 x5 (lanes (i 0) x1)) ∗ owns (c : Thread nD τ) arg8 fullShare (codesOf (hidV x0 x2 x4 x5 (lanes (i 0) x1)) x3)
      ∗ owns (c : Thread nD τ) arg9 fullShare (setRow (i 0).val (scaleRow (scalesOf (hidV x0 x2 x4 x5 (lanes (i 0) x1)) x3)) X9) ∗ owns (c : Thread nD τ) arg10 fullShare (scalesOf (hidV x0 x2 x4 x5 (lanes (i 0) x1)) x3)) : sProp 𝕄)) := by
  rw [cc0_oproj_eq_skeleton]
  unfold cc0_oproj_skel
  rw [k0_part17_eq_skeleton]
  refine wp_seq c E (wp_part17 i arg1 harg1 arg2 harg2 arg3 harg3 arg4 harg4 arg5 harg5 arg6 harg6 arg7 harg7 arg8 harg8 arg9 harg9 arg10 harg10 c E x0 x1 x2 x3 x4 x5 X7 X8 X9 X10) fun x => ?_
  obtain ⟨a, v, b⟩ := x
  dsimp only
  unfold Fin' owns row0
  iintro ⟨%hv, HI, H7, H8, ⟨%f9, %h9, H9⟩, H10⟩
  subst hv
  have hb := cond_row i
  rcases hb with ⟨h1, h2, h3, hb⟩ | ⟨h1, h2, h3, hb⟩ | ⟨h1, h2, h3, hb⟩
  · sl_exec (disch := first | sl_exact h2 | sl_exact h3)
    rw [wp_ret]
    imodintro
    isplitl [HI]; · iexact HI
    isplitl [H7]; · iexact H7
    isplitl [H8]; · iexact H8
    isplitl [H9]; · iexists _; isplitr; swap; · iexact H9
                    ipureintro
                    rw [h9, if_pos h1, hb]
    iexact H10
  · sl_exec (disch := first | sl_exact h2 | sl_exact h3)
    rw [wp_ret]
    imodintro
    isplitl [HI]; · iexact HI
    isplitl [H7]; · iexact H7
    isplitl [H8]; · iexact H8
    isplitl [H9]; · iexists _; isplitr; swap; · iexact H9
                    ipureintro
                    rw [if_neg h1] at h9
                    rw [hb, ← h9]
                    exact read_setRow arg9.view f9 1 inb_S3x640_S1x640_1_0 _
    iexact H10
  · sl_exec (disch := first | sl_exact h2 | sl_exact h3)
    rw [wp_ret]
    imodintro
    isplitl [HI]; · iexact HI
    isplitl [H7]; · iexact H7
    isplitl [H8]; · iexact H8
    isplitl [H9]; · iexists _; isplitr; swap; · iexact H9
                    ipureintro
                    rw [if_neg h1] at h9
                    rw [hb, ← h9]
                    exact read_setRow arg9.view f9 2 inb_S3x640_S1x640_2_0 _
    iexact H10

end Cert.OprojKIdeal.Op

end
-- ==== Proof.Op.Run.lean ====
/- The call at every grid point, and its run: the argument arrays stay, and each result is written as the data of the points say. -/
module

public import proofs.«01_k».proof.Proof.Op.Body
public import Idealize.ShloMosaic.Lib.Pipeline.ArrRel
public import Idealize.ShloMosaic.Lib.Claim

@[expose] public section

set_option maxRecDepth 16384

noncomputable section

namespace Cert.OprojKIdeal.Op

open Idealize.ShloMosaic.Pipeline (RDat)

open Cert.OprojKIdeal Cert.OprojKIdeal.Gen
open Cert.GuKIdeal.Gu (stack rows lanes setRow read_setRow read_stack readAt_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first coordinate of a point is its batch. -/
theorem coord0 (t : Fin cfg0.N) : (grid0.coords t 0).val = t.val := by
  have ht : t.val < 3 := Nat.lt_of_lt_of_eq t.isLt N_0
  have e : (grid0.coords t 0).val = t.val / 1 % 3 := Pipeline.Grid.coords_val t 0 (by decide) rfl
  omega

/-- The hidden rows that point `t` makes, -/
def hidP (t : Fin cfg0.N) : S1x640x3584.Idx → F .f32 :=
  hidV (iblk m c 0 t) (iblk m c 2 t) (iblk m c 4 t) (iblk m c 5 t) (lanes (grid0.coords t 0) (iblk m c 1 t))
/-- the codes of their normalised rows, -/
def codesP (t : Fin cfg0.N) : S1x640x3584.Idx → F .fp8e4m3 := codesOf (hidP m c t) (iblk m c 3 t)
/-- and the row of their scales. -/
def rowP (t : Fin cfg0.N) : S1x640.Idx → F .f32 := scaleRow (scalesOf (hidP m c t) (iblk m c 3 t))

/-- What the points may leave in the windows: an input's buffer as found; the hidden rows, the codes, and the batch's row of scales. -/
def rdat : RDat τ (Elt F) Unit ℕ (UR sig nD τ) ℕ cfg0 c where
  A w := V m c (Pipeline.arrRef spec0 w)
  after w t Y X := match w, Y, X with
    | ⟨6, _⟩, Y, X => X = hidP m c t
    | ⟨7, _⟩, Y, X => X = codesP m c t
    | ⟨8, _⟩, Y, X => X = setRow (grid0.coords t 0).val (rowP m c t) Y
    | ⟨_, _⟩, Y, X => X = Y
  Φ _ := Pipeline.ΦA spec0 c
  q w := Pipeline.shareOf spec0 w
  owed _ := 0

theorem A_eq (w : Fin cfg0.W) : (rdat m c).A w = V m c (Pipeline.arrRef spec0 w) := by dsimp only [rdat]

/-- The scratch and the generator's register as the launch hands them over. -/
theorem PhiA0_eq :
    (Pipeline.ΦA spec0 c : sProp 𝕄)
      = iprop((∃ d, owns (c : Thread nD τ) (Memref.whole cc0_scratch0 : Memref sig .tc .vmem S640x128 .f32) fullShare d) ∗ (∃ r, prngReg c r)) := by
  unfold Pipeline.ΦA; rw [scopedRest0_eq]; simp only [owns_whole]; try rfl

/-- The call at any point. -/
theorem body_at (t : Fin cfg0.N) (Y6 : S1x640x3584.Idx → F .f32) (Y7 : S1x640x3584.Idx → F .fp8e4m3) (Y8 : S3x640.Idx → F .f32) :
    iprop(Pipeline.ΦA spec0 c ∗ Ins (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) c (iblk m c 0 t) (iblk m c 1 t) (iblk m c 2 t) (iblk m c 3 t) (iblk m c 4 t) (iblk m c 5 t) ∗ owns (c : Thread nD τ) (win0_6.stage (cfg0.slots t 6)) fullShare Y6 ∗ owns (c : Thread nD τ) (win0_7.stage (cfg0.slots t 7)) fullShare Y7 ∗ owns (c : Thread nD τ) (win0_8.stage (cfg0.slots t 8)) fullShare Y8)
    ⊢ wp frame (wpE (defs₀ (F := F)) Variants.none (c : Thread nD τ) none) Set.univ (bodyAt0 t) (fun _ => (iprop(Pipeline.ΦA spec0 c ∗ Ins (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) c (iblk m c 0 t) (iblk m c 1 t) (iblk m c 2 t) (iblk m c 3 t) (iblk m c 4 t) (iblk m c 5 t) ∗ owns (c : Thread nD τ) (win0_6.stage (cfg0.slots t 6)) fullShare (hidP m c t) ∗ owns (c : Thread nD τ) (win0_7.stage (cfg0.slots t 7)) fullShare (codesP m c t) ∗ owns (c : Thread nD τ) (win0_8.stage (cfg0.slots t 8)) fullShare (setRow (grid0.coords t 0).val (rowP m c t) Y8)) : sProp 𝕄)) := by
  rw [PhiA0_eq]
  unfold bodyAt0
  iintro ⟨⟨⟨%X10, H10⟩, Hg⟩, HI, H6, H7, H8⟩
  iapply (wp_wand_r frame (wpE (defs₀ (F := F)) Variants.none (c : Thread nD τ) none) Set.univ)
  isplitl [HI H6 H7 H8 H10]
  · iapply (wp_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) c Set.univ (iblk m c 0 t) (iblk m c 1 t) (iblk m c 2 t) (iblk m c 3 t) (iblk m c 4 t) (iblk m c 5 t) Y6 Y7 Y8 X10)
    isplitl [HI]; · iexact HI
    isplitl [H6]; · iexact H6
    isplitl [H7]; · iexact H7
    isplitl [H8]; · iexact H8
    iexact H10
  iintro %_ ⟨HI, H6, H7, H8, H10⟩
  isplitl [H10 Hg]
  · isplitl [H10]; · iexists _; iexact H10
    iexact Hg
  isplitl [HI]; · iexact HI
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- Input window 0 is found at its block. -/
theorem finds0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  refine hd.trans ?_
  unfold RDat.fetched RDat.blockOf iblk; rw [A_eq]; try rfl
/-- Input window 1 is found at its block. -/
theorem finds1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  refine hd.trans ?_
  unfold RDat.fetched RDat.blockOf iblk; rw [A_eq]; try rfl
/-- Input window 2 is found at its block. -/
theorem finds2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  refine hd.trans ?_
  unfold RDat.fetched RDat.blockOf iblk; rw [A_eq]; try rfl
/-- Input window 3 is found at its block. -/
theorem finds3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  refine hd.trans ?_
  unfold RDat.fetched RDat.blockOf iblk; rw [A_eq]; try rfl
/-- Input window 4 is found at its block. -/
theorem finds4 (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  refine hd.trans ?_
  unfold RDat.fetched RDat.blockOf iblk; rw [A_eq]; try rfl
/-- Input window 5 is found at its block. -/
theorem finds5 (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  refine hd.trans ?_
  unfold RDat.fetched RDat.blockOf iblk; rw [A_eq]; try rfl

/-- The obligation of the pipeline's body. -/
theorem body_obligation : (rdat m c).BodyObligation (defs₀ (F := F)) Variants.none () Set.univ := fun t Y hY => by
  rw [show (rdat m c).Φ t.castSucc = Pipeline.ΦA spec0 c from rfl, show (rdat m c).Φ t.succ = Pipeline.ΦA spec0 c from rfl,
    show (rdat m c).owesAt () t.succ = (rdat m c).owesAt () t.castSucc from rfl]
  rw [bigSep_W0, bigSep_W0, defs₀_row, finds0 m c t _ (hY 0), finds1 m c t _ (hY 1), finds2 m c t _ (hY 2), finds3 m c t _ (hY 3), finds4 m c t _ (hY 4), finds5 m c t _ (hY 5)]
  iintro ⟨HP, Ho, H0, H1, H2, H3, H4, H5, H6, H7, H8⟩
  iapply (wp_wand_r frame (wpE (defs₀ (F := F)) Variants.none (c : Thread nD τ) none) Set.univ)
  isplitr [Ho]
  · iapply (body_at m c t (Y 6) (Y 7) (Y 8))
    isplitl [HP]; · iexact HP
    isplitl [H0 H1 H2 H3 H4 H5]
    · unfold Ins
      isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact H8
  unfold Ins
  iintro %_ ⟨HP, ⟨H0, H1, H2, H3, H4, H5⟩, H6, H7, H8⟩
  isplitl [HP]; · iexact HP
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  iexists _; isplitr; swap; · iexact H8
  ipureintro; rfl

-- the run's implicit arguments are found by unifying its conclusion with this one
set_option backward.isDefEq.respectTransparency.types false in
/-- The run: every array ends as the points' data allow, every other buffer as the call found it, every counter at zero. -/
theorem run_quiescent : θ_run defs (onTc (τ := τ) (main (F := F))) (s₀ m ρ) (fun r => (RDat.FramePost cfg0 (rdat m) (V m)) r ∧ r.2.sem = fun _ => 0) :=
  RDat.θ_run_frame_track_shared (Q' := _) cfgs (0 : Fin 1) launch0.to₀ defs₀ Variants.none (rdat m) m ρ main
    (hbody := fun c => body_obligation m c) (hq := fun _ _ _ => rfl)
    (howed := fun _ _ => rfl) (V := V m) (hmain := hmain m Variants.none) (hA := A_eq m)
    (hin := fun c => Idealize.SL.BI.Entails.refl _) (hout := fun c => Idealize.SL.BI.Entails.refl _)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(RDat.FramePost.arr_in h.1 c 0 rfl).trans ((A_eq m c 0).trans (V_main_arg0 m c)),
      (RDat.FramePost.arr_in h.1 c 1 rfl).trans ((A_eq m c 1).trans (V_main_arg1 m c)),
      (RDat.FramePost.arr_in h.1 c 2 rfl).trans ((A_eq m c 2).trans (V_main_arg2 m c)),
      ((h.1 c).2 main_arg3 (Pipeline.mem_restRefs_of main_arg3 (by decide) (by decide))).trans (V_main_arg3 m c),
      (RDat.FramePost.arr_in h.1 c 4 rfl).trans ((A_eq m c 4).trans (V_main_arg4 m c)),
      ((h.1 c).2 main_arg5 (Pipeline.mem_restRefs_of main_arg5 (by decide) (by decide))).trans (V_main_arg5 m c)⟩) (run_quiescent m ρ)

/-- The frame claim, at any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.OprojKIdeal.Op

end
-- ==== Proof.Op.Tile.lean ====
/- The hidden rows a point makes are the reference's, over the extended reals. -/
module

public import proofs.«01_k».proof.Proof.Op.Run
public import proofs.«01_k».proof.Proof.Gen.OprojRIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OprojKIdeal.Op

open Cert.OprojKIdeal Cert.OprojKIdeal.Gen
open Cert.GuKIdeal.Gu (lanes)

variable (m : (ℓ : Loc nD τ sig) → Buf (Elt Ideal) ℓ) (c : Dev nD)

/-- The windows' block indices at each of the 3 grid points. -/
theorem idx : ∀ t : Fin cfg0.N, win0_0.index t = ![t.val, 0, 0] ∧ win0_1.index t = ![0, 0] ∧ win0_2.index t = ![t.val, 0, 0]
    ∧ win0_3.index t = ![0, 0] ∧ win0_4.index t = ![0, 0] ∧ win0_5.index t = ![0, 0]
    ∧ win0_6.index t = ![t.val, 0, 0] ∧ win0_7.index t = ![t.val, 0, 0] ∧ win0_8.index t = ![0, 0] ∧ t.val < 3 :=
  (by decide +kernel : ∀ t : Fin grid0.N, _)

/-- The reference's hidden value of batch `b`, row `r`, column `k`, over the arguments. -/
def refHid (b : Fin 3) (r : Fin 640) (k : Fin 3584) : Ideal .f32 :=
  Cert.OprojRIdeal.Gen.k0_pay3 (F := Ideal) (m ((c : Thread nD τ).loc main_arg2)) (m ((c : Thread nD τ).loc main_arg0))
    (m ((c : Thread nD τ).loc main_arg1)) (m ((c : Thread nD τ).loc main_arg4)) (m ((c : Thread nD τ).loc main_arg5)) (ix3 b r k)

/-- The first 128 columns of a block of the hidden rows. -/
theorem hidL (t : Fin cfg0.N) (b : Fin 3) (hb : b.val = t.val) (j : Fin 14) (r : Fin 640) (l : Fin 128) (k : Fin 3584) (hk : k.val = 256 * j.val + l.val) :
    colL (iblk m c 0 t) (iblk m c 2 t) (iblk m c 4 t) (iblk m c 5 t) (lanes (grid0.coords t 0) (iblk m c 1 t)) j (ix3 (0 : Fin 1) r l) = refHid m c b r k := by
  unfold refHid
  pointwise [colL, wcols, xcols, scols, lanes, k0_pay12, k0_pay13, Cert.OprojRIdeal.Gen.k0_pay3]
  blk_point [iblk, V, idx t]
  all_goals exact (coord0 t).trans hb.symm

/-- The last 128 columns of a block of the hidden rows. -/
theorem hidH (t : Fin cfg0.N) (b : Fin 3) (hb : b.val = t.val) (j : Fin 14) (r : Fin 640) (l : Fin 128) (k : Fin 3584) (hk : k.val = 256 * j.val + (128 + l.val)) :
    colH (iblk m c 0 t) (iblk m c 2 t) (iblk m c 4 t) (iblk m c 5 t) (lanes (grid0.coords t 0) (iblk m c 1 t)) j (ix2 r l) = refHid m c b r k := by
  unfold refHid
  pointwise [colH, wcols, xcols, scols, lanes, k0_pay12, k0_pay14, Cert.OprojRIdeal.Gen.k0_pay3]
  blk_point [iblk, V, idx t]
  all_goals exact (coord0 t).trans hb.symm

/-- A point's hidden rows are the reference's, at the point's batch. -/
theorem hid_eq (t : Fin cfg0.N) (b : Fin 3) (hb : b.val = t.val) (r : Fin 640) (k : Fin 3584) :
    hidP m c t (ix3 (0 : Fin 1) r k) = refHid m c b r k := by
  show hid _ _ _ _ _ r k = _
  unfold hid
  split
  · rename_i h
    exact hidL m c t b hb _ r _ k (by dsimp only; omega)
  · rename_i h
    exact hidH m c t b hb _ r _ k (by dsimp only; omega)

/-- A point's norm weights are the argument. -/
theorem ln_eq (t : Fin cfg0.N) (k : Fin 3584) :
    iblk m c 3 t (ix2 (0 : Fin 1) k) = m ((c : Thread nD τ).loc main_arg3) (ix1 k) := by
  blk_point [iblk, V, idx t]

end Cert.OprojKIdeal.Op

end
-- ==== Proof.Op.Scale.lean ====
/- The normalised rows, their scales and their codes are the reference's once the hidden rows are. -/
module

public import proofs.«01_k».proof.Proof.Gu.Scale
public import proofs.«01_k».proof.Proof.Op.Vals
public import proofs.«01_k».proof.Proof.Gen.OprojRIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OprojKIdeal.Op

open Cert.OprojKIdeal Cert.OprojKIdeal.Gen
open Cert.GuKIdeal.Gu (code code_def scaleOf)

/-- The greatest magnitude of a row. -/
def maxOf (f : Fin 3584 → Ideal .f32) : Ideal .f32 :=
  (Finset.univ : Finset (Fin 3584)).fold max (FloatOps.ofBits (F := Ideal) .f32 0xFF800000#32) fun k => max (f k) (-f k)

/-- The kernel's normalised row is the reference's, if the hidden row and the norm weights are. -/
theorem norm_eq (X : Vec Ideal S1x32x3584 .f32) (ln : Vec Ideal S1x3584 .f32)
    (a2 : Vec Ideal Cert.OprojRIdeal.S3x640x3584 .bf16) (a0 : Vec Ideal Cert.OprojRIdeal.S3x640x1792 .fp8e4m3) (a1 : Vec Ideal Cert.OprojRIdeal.S3x640 .f32)
    (a4 : Vec Ideal Cert.OprojRIdeal.S1792x3584 .fp8e4m3) (a5 : Vec Ideal Cert.OprojRIdeal.S3584 .f32) (a3 : Vec Ideal Cert.OprojRIdeal.S3584 .f32)
    (b : Fin 3) (r : Fin 640) (q : Fin 32)
    (hX : ∀ k : Fin 3584, X (ix3 (0 : Fin 1) q k) = Cert.OprojRIdeal.Gen.k0_pay3 a2 a0 a1 a4 a5 (ix3 b r k))
    (hl : ∀ k : Fin 3584, ln (ix2 (0 : Fin 1) k) = a3 (ix1 k)) (k : Fin 3584) :
    k0_pay1 X ln (ix2 q k) = Cert.OprojRIdeal.Gen.k0_pay4 a2 a0 a1 a4 a5 a3 (ix3 b r k) := by
  unfold Cert.OprojRIdeal.Gen.k0_pay4
  generalize Cert.OprojRIdeal.Gen.k0_pay3 a2 a0 a1 a4 a5 = A at hX ⊢
  pointwise [k0_pay1]
  simp only [hX, hl]

/-- The kernel's scale of a row, from its normalised row. -/
theorem kScale (X : Vec Ideal S1x32x3584 .f32) (ln : Vec Ideal S1x3584 .f32) (q : Fin 32) :
    k0_pay2 X ln (ix2 q (0 : Fin 1)) = scaleOf (maxOf fun k => k0_pay1 X ln (ix2 q k)) := by
  unfold k0_pay2 maxOf scaleOf
  generalize k0_pay1 X ln = A
  pointwise []
  simp only [Ideal.absf_def]

/-- The same over any lane. -/
theorem kLane (X : Vec Ideal S1x32x3584 .f32) (ln : Vec Ideal S1x3584 .f32) (q : Fin 32) (l : Fin 128) :
    k0_pay4 X ln (ix2 q l) = k0_pay2 X ln (ix2 q (0 : Fin 1)) := by
  unfold k0_pay4
  generalize k0_pay2 X ln = A
  pointwise []

/-- A stack of one block of rows, read at a row. -/
theorem unstack (A : FVec Ideal S32x3584 .fp8e4m3) (q : Fin 32) (k : Fin 3584) :
    shapeCast S1x32x3584 A Facts₀.shapeCasts_S32x3584_S1x32x3584 (ix3 (0 : Fin 1) q k) = A (ix2 q k) := by
  pointwise []

/-- A scale per row, repeated along the row, in the kernel's block. -/
theorem repK (S : FVec Ideal S32x1 .f32) (q : Fin 32) (k : Fin 3584) :
    broadcastTo S32x3584 S Facts₀.broadcasts_S32x1_S32x3584 (ix2 q k) = S (ix2 q (0 : Fin 1)) := by
  pointwise []

/-- The kernel's code, from its normalised value and its scale. -/
theorem kCode (X : Vec Ideal S1x32x3584 .f32) (ln : Vec Ideal S1x3584 .f32) (q : Fin 32) (k : Fin 3584) :
    k0_pay3 X ln (ix3 (0 : Fin 1) q k) = code (k0_pay1 X ln (ix2 q k)) (k0_pay2 X ln (ix2 q (0 : Fin 1))) := by
  rw [code_def]
  unfold k0_pay3
  generalize k0_pay1 X ln = A
  generalize k0_pay2 X ln = S
  refine (unstack _ q k).trans ?_
  rw [truncf_apply, minimumf_apply, maximumf_apply, divf_apply, repK]
  rfl

/-- The greatest of a row of the reference. -/
theorem rowMax (A : FVec Ideal Cert.OprojRIdeal.S3x640x3584 .f32) (h hφ hacc) (b : Fin 3) (r : Fin 640) :
    multiReduction .maximumf [2] Cert.OprojRIdeal.S3x640 A 0xFF800000#32 h hφ hacc (ix2 b r)
      = (Finset.univ : Finset (Fin 3584)).fold max (FloatOps.ofBits (F := Ideal) .f32 0xFF800000#32) fun k => A (ix3 b r k) := by
  pointwise []

/-- The quantiser's scale taken entry by entry. -/
theorem scaleOf_vec (M : FVec Ideal Cert.OprojRIdeal.S3x640 .f32) (i : Cert.OprojRIdeal.S3x640.Idx) :
    select (cmpf .oeq M (broadcast Cert.OprojRIdeal.S3x640 (Scalar.ofBits .f32 0x00000000#32)))
      (broadcast Cert.OprojRIdeal.S3x640 (Scalar.ofBits .f32 0x3F800000#32))
      (divf M (broadcast Cert.OprojRIdeal.S3x640 (Scalar.ofBits .f32 0x43E00000#32))) i = scaleOf (M i) := rfl

/-- The reference's scale, from its normalised rows. -/
theorem pay1_eq (a0 : Vec Ideal Cert.OprojRIdeal.S3x640x1792 .fp8e4m3) (a1 : Vec Ideal Cert.OprojRIdeal.S3x640 .f32) (a2 : Vec Ideal Cert.OprojRIdeal.S3x640x3584 .bf16)
    (a3 : Vec Ideal Cert.OprojRIdeal.S3584 .f32) (a4 : Vec Ideal Cert.OprojRIdeal.S1792x3584 .fp8e4m3) (a5 : Vec Ideal Cert.OprojRIdeal.S3584 .f32)
    (i : Cert.OprojRIdeal.S3x640.Idx) :
    Cert.OprojRIdeal.Gen.k0_pay1 (Cert.OprojRIdeal.Gen.k0_pay6 a2 a0 a1 a4 a5 a3) (Cert.OprojRIdeal.Gen.k0_pay7 a2 a0 a1 a4 a5 a3) i
      = scaleOf (Cert.OprojRIdeal.Gen.k0_pay5 a2 a0 a1 a4 a5 a3 i) := by
  unfold Cert.OprojRIdeal.Gen.k0_pay1 Cert.OprojRIdeal.Gen.k0_pay6 Cert.OprojRIdeal.Gen.k0_pay7
  generalize Cert.OprojRIdeal.Gen.k0_pay5 a2 a0 a1 a4 a5 a3 = M
  exact scaleOf_vec M i

/-- The greatest magnitude of a row of the reference. -/
theorem pay5_eq (a0 : Vec Ideal Cert.OprojRIdeal.S3x640x1792 .fp8e4m3) (a1 : Vec Ideal Cert.OprojRIdeal.S3x640 .f32) (a2 : Vec Ideal Cert.OprojRIdeal.S3x640x3584 .bf16)
    (a3 : Vec Ideal Cert.OprojRIdeal.S3584 .f32) (a4 : Vec Ideal Cert.OprojRIdeal.S1792x3584 .fp8e4m3) (a5 : Vec Ideal Cert.OprojRIdeal.S3584 .f32)
    (b : Fin 3) (r : Fin 640) :
    Cert.OprojRIdeal.Gen.k0_pay5 a2 a0 a1 a4 a5 a3 (ix2 b r) = maxOf fun k => Cert.OprojRIdeal.Gen.k0_pay4 a2 a0 a1 a4 a5 a3 (ix3 b r k) := by
  unfold Cert.OprojRIdeal.Gen.k0_pay5 maxOf
  generalize Cert.OprojRIdeal.Gen.k0_pay4 a2 a0 a1 a4 a5 a3 = A
  have h := rowMax (absf A) Cert.OprojRIdeal.Gen.reduces_S3x640x3584_S3x640 (.inl rfl) rfl b r
  simp only [absf_apply, Ideal.absf_def] at h
  exact h

/-- The reference's scale of a row, from its normalised row. -/
theorem rScale (a0 : Vec Ideal Cert.OprojRIdeal.S3x640x1792 .fp8e4m3) (a1 : Vec Ideal Cert.OprojRIdeal.S3x640 .f32) (a2 : Vec Ideal Cert.OprojRIdeal.S3x640x3584 .bf16)
    (a3 : Vec Ideal Cert.OprojRIdeal.S3584 .f32) (a4 : Vec Ideal Cert.OprojRIdeal.S1792x3584 .fp8e4m3) (a5 : Vec Ideal Cert.OprojRIdeal.S3584 .f32)
    (b : Fin 3) (r : Fin 640) :
    Cert.OprojRIdeal.Value.G8 a0 a1 a2 a3 a4 a5 (ix2 b r) = scaleOf (maxOf fun k => Cert.OprojRIdeal.Gen.k0_pay4 a2 a0 a1 a4 a5 a3 (ix3 b r k)) := by
  have e8 : Cert.OprojRIdeal.Gen.k0_pay8 a0 a1 a2 a3 a4 a5 = Cert.OprojRIdeal.Gen.k0_pay6 a2 a0 a1 a4 a5 a3 := by
    unfold Cert.OprojRIdeal.Gen.k0_pay8
    rw [View.ld_unit_zero (S := Cert.OprojRIdeal.S3x640x3584) Cert.OprojRIdeal.Value.hz2 _ a2, View.ld_unit_zero (S := Cert.OprojRIdeal.S3x640x1792) Cert.OprojRIdeal.Value.hz0 _ a0, View.ld_unit_zero (S := Cert.OprojRIdeal.S3x640) Cert.OprojRIdeal.Value.hz1 _ a1, View.ld_unit_zero (S := Cert.OprojRIdeal.S1792x3584) Cert.OprojRIdeal.Value.hz4 _ a4, View.ld_unit_zero (S := Cert.OprojRIdeal.S3584) Cert.OprojRIdeal.Value.hz5 _ a5, View.ld_unit_zero (S := Cert.OprojRIdeal.S3584) Cert.OprojRIdeal.Value.hz5 _ a3]
  have e9 : Cert.OprojRIdeal.Gen.k0_pay9 a0 a1 a2 a3 a4 a5 = Cert.OprojRIdeal.Gen.k0_pay7 a2 a0 a1 a4 a5 a3 := by
    unfold Cert.OprojRIdeal.Gen.k0_pay9
    rw [View.ld_unit_zero (S := Cert.OprojRIdeal.S3x640x3584) Cert.OprojRIdeal.Value.hz2 _ a2, View.ld_unit_zero (S := Cert.OprojRIdeal.S3x640x1792) Cert.OprojRIdeal.Value.hz0 _ a0, View.ld_unit_zero (S := Cert.OprojRIdeal.S3x640) Cert.OprojRIdeal.Value.hz1 _ a1, View.ld_unit_zero (S := Cert.OprojRIdeal.S1792x3584) Cert.OprojRIdeal.Value.hz4 _ a4, View.ld_unit_zero (S := Cert.OprojRIdeal.S3584) Cert.OprojRIdeal.Value.hz5 _ a5, View.ld_unit_zero (S := Cert.OprojRIdeal.S3584) Cert.OprojRIdeal.Value.hz5 _ a3]
  show Cert.OprojRIdeal.Gen.k0_pay1 (Cert.OprojRIdeal.Gen.k0_pay8 a0 a1 a2 a3 a4 a5) (Cert.OprojRIdeal.Gen.k0_pay9 a0 a1 a2 a3 a4 a5) (ix2 b r) = _
  rw [e8, e9]
  exact (pay1_eq a0 a1 a2 a3 a4 a5 _).trans (congrArg scaleOf (pay5_eq a0 a1 a2 a3 a4 a5 b r))

/-- A scale per row, repeated along the row. -/
theorem rep (S : FVec Ideal Cert.OprojRIdeal.S3x640 .f32) (b : Fin 3) (r : Fin 640) (k : Fin 3584) :
    broadcastTo Cert.OprojRIdeal.S3x640x3584 (shapeCast Cert.OprojRIdeal.S3x640x1 S Cert.OprojRIdeal.Facts₀.shapeCasts_S3x640_S3x640x1) Cert.OprojRIdeal.Facts₀.broadcasts_S3x640x1_S3x640x3584 (ix3 b r k) = S (ix2 b r) := by
  pointwise []

/-- The reference's code, from its normalised value and its scale. -/
theorem rCode (a0 : Vec Ideal Cert.OprojRIdeal.S3x640x1792 .fp8e4m3) (a1 : Vec Ideal Cert.OprojRIdeal.S3x640 .f32) (a2 : Vec Ideal Cert.OprojRIdeal.S3x640x3584 .bf16)
    (a3 : Vec Ideal Cert.OprojRIdeal.S3584 .f32) (a4 : Vec Ideal Cert.OprojRIdeal.S1792x3584 .fp8e4m3) (a5 : Vec Ideal Cert.OprojRIdeal.S3584 .f32)
    (b : Fin 3) (r : Fin 640) (k : Fin 3584) :
    Cert.OprojRIdeal.Value.G7 a0 a1 a2 a3 a4 a5 (ix3 b r k)
      = code (Cert.OprojRIdeal.Gen.k0_pay4 a2 a0 a1 a4 a5 a3 (ix3 b r k)) (Cert.OprojRIdeal.Value.G8 a0 a1 a2 a3 a4 a5 (ix2 b r)) := by
  rw [code_def]
  unfold Cert.OprojRIdeal.Value.G7 Cert.OprojRIdeal.Value.G8 Cert.OprojRIdeal.Gen.k0_pay2
  generalize Cert.OprojRIdeal.Gen.k0_pay4 a2 a0 a1 a4 a5 a3 = A
  generalize Cert.OprojRIdeal.Gen.k0_pay1 (Cert.OprojRIdeal.Gen.k0_pay8 a0 a1 a2 a3 a4 a5) (Cert.OprojRIdeal.Gen.k0_pay9 a0 a1 a2 a3 a4 a5) = S
  rw [truncf_apply, minimumf_apply, maximumf_apply, divf_apply, rep]
  rfl

end Cert.OprojKIdeal.Op

end
-- ==== Proof.Op.Out.lean ====
/- What the output-projection call computes: its hidden rows, codes and scales are the reference's terms over the same arguments. -/
module

public import proofs.«01_k».proof.Proof.Op.Tile
public import proofs.«01_k».proof.Proof.Op.Scale
public import Idealize.ShloMosaic.Lib.Pipeline.ArrRel

@[expose] public section

set_option maxRecDepth 16384

noncomputable section

open Idealize.ShloMosaic Idealize.ShloMosaic.TcCoe Idealize.SL.Sem
open Idealize.ShloMosaic.Pipeline (RDat Dat)

namespace Cert.OprojKIdeal.Op

open Cert.OprojKIdeal Cert.OprojKIdeal.Gen
open Cert.GuKIdeal.Gu (setRow code scaleOf)

variable (m : (ℓ : Loc nD τ sig) → Buf (Elt Ideal) ℓ) (ρ : Dev nD → PrngReg) (c : Dev nD)

/-- The reference's hidden rows, over the arguments. -/
def refRows : Cert.OprojRIdeal.S3x640x3584.Idx → Ideal .f32 :=
  Cert.OprojRIdeal.Value.G6 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's codes, over the arguments. -/
def refCodes : Cert.OprojRIdeal.S3x640x3584.Idx → Ideal .fp8e4m3 :=
  Cert.OprojRIdeal.Value.G7 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's scales, over the arguments. -/
def refScales : Cert.OprojRIdeal.S3x640.Idx → Ideal .f32 :=
  Cert.OprojRIdeal.Value.G8 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Row `q` of block `j` of a point's hidden rows is the reference's. -/
theorem block_eq (t : Fin cfg0.N) (b : Fin 3) (hb : b.val = t.val) (j : Fin 20) (q : Fin 32) (r : Fin 640) (hr : r.val = 32 * j.val + q.val) (k : Fin 3584) :
    rows32 (hidP m c t) j (ix3 (0 : Fin 1) q k) = refHid m c b r k := by
  refine Eq.trans ?_ (hid_eq m c t b hb r k)
  exact congrArg (fun r : Fin 640 => hidP m c t (ix3 (0 : Fin 1) r k)) (Fin.ext hr.symm)

/-- The normalised value of a point is the reference's. -/
theorem normP (t : Fin cfg0.N) (b : Fin 3) (hb : b.val = t.val) (j : Fin 20) (q : Fin 32) (r : Fin 640) (hr : r.val = 32 * j.val + q.val) (k : Fin 3584) :
    k0_pay1 (rows32 (hidP m c t) j) (iblk m c 3 t) (ix2 q k)
      = Cert.OprojRIdeal.Gen.k0_pay4 (F := Ideal) (m ((c : Thread nD τ).loc main_arg2)) (m ((c : Thread nD τ).loc main_arg0)) (m ((c : Thread nD τ).loc main_arg1))
          (m ((c : Thread nD τ).loc main_arg4)) (m ((c : Thread nD τ).loc main_arg5)) (m ((c : Thread nD τ).loc main_arg3)) (ix3 b r k) :=
  norm_eq _ _ _ _ _ _ _ _ b r q (fun k => block_eq m c t b hb j q r hr k) (fun k => ln_eq m c t k) k

/-- The scale of a row of a point is the reference's. -/
theorem scaleP (t : Fin cfg0.N) (b : Fin 3) (hb : b.val = t.val) (j : Fin 20) (q : Fin 32) (r : Fin 640) (hr : r.val = 32 * j.val + q.val) :
    k0_pay2 (rows32 (hidP m c t) j) (iblk m c 3 t) (ix2 q (0 : Fin 1)) = refScales m c (ix2 b r) := by
  refine (kScale _ _ q).trans (Eq.trans ?_ (rScale _ _ _ _ _ _ b r).symm)
  exact congrArg (fun f => scaleOf (maxOf f)) (funext fun k => normP m c t b hb j q r hr k)

/-- A point's codes are the reference's, at the point's batch. -/
theorem codes_eq (t : Fin cfg0.N) (b : Fin 3) (hb : b.val = t.val) (r : Fin 640) (k : Fin 3584) :
    codesP m c t (ix3 (0 : Fin 1) r k) = refCodes m c (ix3 b r k) := by
  have hr := r.isLt
  refine (kCode _ _ (⟨r.val % 32, Nat.mod_lt _ (by decide)⟩ : Fin 32) k).trans (Eq.trans ?_ (rCode _ _ _ _ _ _ b r k).symm)
  have hd : r.val = 32 * (r.val / 32) + r.val % 32 := by omega
  exact congrArg₂ code (normP m c t b hb ⟨r.val / 32, by omega⟩ _ r hd k) (scaleP m c t b hb ⟨r.val / 32, by omega⟩ _ r hd)

/-- A point's row of scales is the reference's, at the point's batch. -/
theorem row_eq (t : Fin cfg0.N) (b : Fin 3) (hb : b.val = t.val) (r : Fin 640) :
    rowP m c t (ix2 (0 : Fin 1) r) = refScales m c (ix2 b r) := by
  have hr := r.isLt
  refine (scaleRow_apply _ r).trans ?_
  refine (kLane _ _ (⟨r.val % 32, Nat.mod_lt _ (by decide)⟩ : Fin 32) (0 : Fin 128)).trans ?_
  exact scaleP m c t b hb ⟨r.val / 32, by omega⟩ _ r (show r.val = 32 * (r.val / 32) + r.val % 32 by omega)

/-- What a point may leave in the window of hidden rows. -/
theorem leaves6 (t : Fin cfg0.N) (X : S1x640x3584.Idx → Ideal .f32) (hX : (rdat m c).Leaves 6 t X) : X = hidP m c t := by
  obtain ⟨Y, _, hY⟩ := hX
  exact hY

/-- What a point may leave in the window of codes. -/
theorem leaves7 (t : Fin cfg0.N) (X : S1x640x3584.Idx → Ideal .fp8e4m3) (hX : (rdat m c).Leaves 7 t X) : X = codesP m c t := by
  obtain ⟨Y, _, hY⟩ := hX
  exact hY

/-- What a point may leave in the window of scales, over what it found there. -/
theorem leaves8 (t : Fin cfg0.N) (X : S3x640.Idx → Ideal .f32) (hX : (rdat m c).Leaves 8 t X) :
    ∃ Y, (rdat m c).Finds 8 t Y ∧ X = setRow (grid0.coords t 0).val (rowP m c t) Y := hX

/-- The point's own row of scales, once it has run, is the reference's. -/
theorem own_row (t : Fin cfg0.N) (Y : S3x640.Idx → Ideal .f32) (b : Fin 3) (hb : b.val = t.val) (r : Fin 640) :
    setRow (grid0.coords t 0).val (rowP m c t) Y (ix2 b r) = refScales m c (ix2 b r) := by
  unfold setRow
  exact (if_pos (show b.val = _ from hb.trans (coord0 t).symm)).trans (row_eq m c t b hb r)

/-- The rows of scales of the batches done up to point `n` are the reference's. -/
theorem rows8 : ∀ (n : ℕ) (hn : n < cfg0.N) (X : S3x640.Idx → Ideal .f32), (rdat m c).Leaves 8 ⟨n, hn⟩ X →
    ∀ (b : Fin 3) (r : Fin 640), b.val ≤ n → X (ix2 b r) = refScales m c (ix2 b r) := by
  intro n
  induction n with
  | zero =>
    intro hn X hX b r hb
    obtain ⟨Y, _, h1⟩ := leaves8 m c _ X hX
    rw [h1]
    exact own_row m c _ Y b (by dsimp only; omega) r
  | succ n ih =>
    intro hn X hX b r hb
    have hN : n + 1 < 3 := Nat.lt_of_lt_of_eq hn N_0
    obtain ⟨Y, hF, h1⟩ := leaves8 m c _ X hX
    have hL := ((rdat m c).finds_of_pos (w := 8) (t := ⟨n + 1, hn⟩) rfl (Nat.succ_ne_zero n) Y).mp hF
    have hY : ∀ (b : Fin 3) (r : Fin 640), b.val ≤ n → Y (ix2 b r) = refScales m c (ix2 b r) := by
      rcases hL with hf | hl
      · have := (flush0_8 _).mp hf
        dsimp only at this
        omega
      · exact ih _ Y hl
    rw [h1]
    by_cases hbn : b.val = n + 1
    · exact own_row m c _ Y b hbn r
    · unfold setRow
      refine (if_neg (show ¬ b.val = _ from fun e => hbn (e.trans (coord0 _)))).trans ?_
      exact hY b r (by omega)

/-- After the run the result arrays hold the reference's hidden rows, codes and scales. -/
theorem results {r : PUnit × MemSt nD τ sig (Elt Ideal)} (h : RDat.FramePost cfg0 (rdat m) (V m) r) :
    r.2.mem ((c.tc : Thread nD τ).loc main_v2_0) = refRows m c ∧ r.2.mem ((c.tc : Thread nD τ).loc main_v2_1) = refCodes m c
      ∧ r.2.mem ((c.tc : Thread nD τ).loc main_v2_2) = refScales m c := by
  obtain ⟨after, hL, hA⟩ := RDat.FramePost.exists_exact h c
  refine ⟨?_, ?_, ?_⟩
  · refine (hA 6).trans ?_
    refine ((rdat m c).withAfter after).arrAt_eq_of_covers 6 _ (by decide +kernel) fun t hf y => ?_
    have hN : t.val < 3 := Nat.lt_of_lt_of_eq t.isLt N_0
    have hX := leaves6 m c t _ (hL 6 t hf)
    blk_simp
    have key := hid_eq m c t ⟨t.val, hN⟩ rfl (y 1) (y 2)
    rw [← hX] at key
    refine Eq.trans (b := after 6 t (ix3 0 (y 1) (y 2))) ?_ (key.trans ?_)
    · exact congrArg (after 6 t) (by blk_ext [idx t])
    · exact congrArg (refRows m c) (by blk_ext [idx t])
  · refine (hA 7).trans ?_
    refine ((rdat m c).withAfter after).arrAt_eq_of_covers 7 _ (by decide +kernel) fun t hf y => ?_
    have hN : t.val < 3 := Nat.lt_of_lt_of_eq t.isLt N_0
    have hX := leaves7 m c t _ (hL 7 t hf)
    blk_simp
    have key := codes_eq m c t ⟨t.val, hN⟩ rfl (y 1) (y 2)
    rw [← hX] at key
    refine Eq.trans (b := after 7 t (ix3 0 (y 1) (y 2))) ?_ (key.trans ?_)
    · exact congrArg (after 7 t) (by blk_ext [idx t])
    · exact congrArg (refCodes m c) (by blk_ext [idx t])
  · refine (hA 8).trans ?_
    refine ((rdat m c).withAfter after).arrAt_eq_of_covers 8 _ (by decide +kernel) fun t hf y => ?_
    have ht := (flush0_8 t).mp hf
    have hN : t.val < 3 := Nat.lt_of_lt_of_eq t.isLt N_0
    have hR := rows8 m c t.val t.isLt _ (hL 8 t hf)
    blk_simp
    have key := hR (y 0) (y 1) (by have : (y 0).val < 3 := (y 0).isLt; omega)
    refine Eq.trans (b := after 8 t (ix2 (y 0) (y 1))) ?_ (key.trans ?_)
    · exact congrArg (after 8 t) (by blk_ext [idx t])
    · exact congrArg (refScales m c) (by blk_ext [idx t])

/-- The run with its results: the reference's hidden rows, codes and scales over the arguments, which end unchanged. -/
theorem run : θ_run defs (onTc (τ := τ) (main (F := Ideal))) ⟨m, fun _ => 0, ρ⟩ (fun r => ∀ c : Dev nD,
      r.2.mem ((c.tc : Thread nD τ).loc main_v2_0) = refRows m c
      ∧ r.2.mem ((c.tc : Thread nD τ).loc main_v2_1) = refCodes m c
      ∧ r.2.mem ((c.tc : Thread nD τ).loc main_v2_2) = refScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(results m c h.1.1).1, (results m c h.1.1).2.1, (results m c h.1.1).2.2, h.2 c⟩)
    (θ_run_and (run_quiescent m ρ) (unchanged m ρ))

end Cert.OprojKIdeal.Op

end
-- ==== Proof.Op.Bits.lean ====
/- The compiled program of the call and its idealised form are one program: the run of the second is the run of the first. -/
module

public import proofs.«01_k».proof.Proof.Op.Run
public import proofs.«01_k».proof.OprojK
public import proofs.«01_k».proof.Proof.Gen.OprojK

@[expose] public section

set_option maxRecDepth 65536

noncomputable section

namespace Cert.OprojKIdeal.Op

open Cert.OprojKIdeal Cert.OprojKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

theorem sig_eq : Cert.OprojK.sig = Cert.OprojKIdeal.sig := rfl

/-- The body tables are one. -/
theorem defs₀_eq : Cert.OprojK.defs₀ (F := F) = Cert.OprojKIdeal.defs₀ (F := F) := by
  unfold Cert.OprojK.defs₀ Cert.OprojKIdeal.defs₀
  refine congrArg Defs.onTc ?_
  funext l x
  match l, x with
  | 0, (t, s) => rfl

/-- With the pipeline's own, too. -/
theorem defs_eq : Cert.OprojK.defs (F := F) = Cert.OprojKIdeal.defs (F := F) := by
  unfold Cert.OprojK.defs Cert.OprojKIdeal.defs
  rw [defs₀_eq]
  rfl

theorem main_eq : Cert.OprojK.main (F := F) = Cert.OprojKIdeal.main (F := F) := rfl

variable (m : (ℓ : Loc Cert.OprojK.nD Cert.OprojK.τ Cert.OprojK.sig) → Buf (Elt F) ℓ) (ρ : Dev Cert.OprojK.nD → PrngReg)

/-- The frame claim of the compiled program, at any numbers. -/
theorem frame_k : θ_run (Cert.OprojK.defs (F := F)) (onTc (τ := Cert.OprojK.τ) (Cert.OprojK.main (F := F))) ⟨m, fun _ => 0, ρ⟩ (fun r => (∀ c : Dev Cert.OprojK.nD,
      r.2.mem ((c.tc : Thread Cert.OprojK.nD Cert.OprojK.τ).loc Cert.OprojK.main_arg0) = m ((c.tc : Thread Cert.OprojK.nD Cert.OprojK.τ).loc Cert.OprojK.main_arg0)
      ∧ r.2.mem ((c.tc : Thread Cert.OprojK.nD Cert.OprojK.τ).loc Cert.OprojK.main_arg1) = m ((c.tc : Thread Cert.OprojK.nD Cert.OprojK.τ).loc Cert.OprojK.main_arg1)
      ∧ r.2.mem ((c.tc : Thread Cert.OprojK.nD Cert.OprojK.τ).loc Cert.OprojK.main_arg2) = m ((c.tc : Thread Cert.OprojK.nD Cert.OprojK.τ).loc Cert.OprojK.main_arg2)
      ∧ r.2.mem ((c.tc : Thread Cert.OprojK.nD Cert.OprojK.τ).loc Cert.OprojK.main_arg3) = m ((c.tc : Thread Cert.OprojK.nD Cert.OprojK.τ).loc Cert.OprojK.main_arg3)
      ∧ r.2.mem ((c.tc : Thread Cert.OprojK.nD Cert.OprojK.τ).loc Cert.OprojK.main_arg4) = m ((c.tc : Thread Cert.OprojK.nD Cert.OprojK.τ).loc Cert.OprojK.main_arg4)
      ∧ r.2.mem ((c.tc : Thread Cert.OprojK.nD Cert.OprojK.τ).loc Cert.OprojK.main_arg5) = m ((c.tc : Thread Cert.OprojK.nD Cert.OprojK.τ).loc Cert.OprojK.main_arg5))
      ∧ r.2.sem = fun _ => 0) := by
  rw [defs_eq, main_eq]
  exact frame (F := F) m ρ

end Cert.OprojKIdeal.Op

end
-- ==== Proof.lean ====
/- The certificate: each claim of `Cert.Claim` from the runs of the programs. -/
module

public import proofs.«01_k».proof.Defs
public import proofs.«01_k».proof.Proof.Gen.DownK
public import proofs.«01_k».proof.Proof.Gen.DownK.Skeleton
public import proofs.«01_k».proof.Proof.Gen.DownK.Launch
public import proofs.«01_k».proof.Proof.Gen.DownK.Points
public import proofs.«01_k».proof.Proof.Gen.DownK.Frame
public import proofs.«01_k».proof.Proof.Gen.DownKIdeal
public import proofs.«01_k».proof.Proof.Gen.DownKIdeal.Skeleton
public import proofs.«01_k».proof.Proof.Gen.DownKIdeal.Launch
public import proofs.«01_k».proof.Proof.Gen.DownKIdeal.Points
public import proofs.«01_k».proof.Proof.Gen.DownKIdeal.Frame
public import proofs.«01_k».proof.Proof.Gen.DownRIdeal
public import proofs.«01_k».proof.Proof.Gen.DownRIdeal.Skeleton
public import proofs.«01_k».proof.Proof.Gen.DownRIdeal.Launch
public import proofs.«01_k».proof.Proof.Gen.DownRIdeal.Points
public import proofs.«01_k».proof.Proof.Gen.DownRIdeal.Frame
public import proofs.«01_k».proof.Proof.Gen.DownKIdeal.Value
public import proofs.«01_k».proof.Proof.Gen.DownRIdeal.Value
public import proofs.«01_k».proof.Proof.Gen.GuK
public import proofs.«01_k».proof.Proof.Gen.GuKIdeal
public import proofs.«01_k».proof.Proof.Gen.GuKIdeal.Skeleton
public import proofs.«01_k».proof.Proof.Gen.GuKIdeal.Launch
public import proofs.«01_k».proof.Proof.Gen.GuKIdeal.Points
public import proofs.«01_k».proof.Proof.Gen.GuKIdeal.Frame
public import proofs.«01_k».proof.Proof.Gen.GuRIdeal
public import proofs.«01_k».proof.Proof.Gen.GuRIdeal.Skeleton
public import proofs.«01_k».proof.Proof.Gen.GuRIdeal.Launch
public import proofs.«01_k».proof.Proof.Gen.GuRIdeal.Points
public import proofs.«01_k».proof.Proof.Gen.GuRIdeal.Frame
public import proofs.«01_k».proof.Proof.Gen.GuRIdeal.Value
public import proofs.«01_k».proof.Proof.Gen.OprojK
public import proofs.«01_k».proof.Proof.Gen.OprojKIdeal
public import proofs.«01_k».proof.Proof.Gen.OprojKIdeal.Skeleton
public import proofs.«01_k».proof.Proof.Gen.OprojKIdeal.Launch
public import proofs.«01_k».proof.Proof.Gen.OprojKIdeal.Points
public import proofs.«01_k».proof.Proof.Gen.OprojKIdeal.Frame
public import proofs.«01_k».proof.Proof.Gen.OprojRIdeal
public import proofs.«01_k».proof.Proof.Gen.OprojRIdeal.Frame
public import proofs.«01_k».proof.Proof.Gen.OprojRIdeal.Value
public import proofs.«01_k».proof.Proof.DownValue
public import proofs.«01_k».proof.Proof.Gu.Out
public import proofs.«01_k».proof.Proof.Gu.Bits
public import proofs.«01_k».proof.Proof.Op.Out
public import proofs.«01_k».proof.Proof.Op.Bits
public import Idealize.ShloMosaic.Adequacy
public import Idealize.ShloMosaic.Init

@[expose] public section

set_option maxRecDepth 16384

noncomputable section

namespace Cert.Proof

open Idealize.ShloMosaic Idealize.SL.Sem

/-- The down-projection kernel and the reference compute the same array over the extended reals. -/
theorem algebraic_down : Cert.algebraic_DownKIdeal_DownRIdeal := by
  pair_intro
  · run_from Cert.DownKIdeal.Value.run_blocks m g
  · run_from Cert.DownRIdeal.Value.run m' g'
    exact (Cert.DownKIdeal.Claimed.final m c).symm

/-- The reference's codes of equal arguments are equal. -/
theorem codes_congr {a0 b0 : Cert.GuRIdeal.S3x640x3584.Idx → Ideal .fp8e4m3} {a1 b1 : Cert.GuRIdeal.S3x640.Idx → Ideal .f32}
    {a2 b2 : Cert.GuRIdeal.S3584x18944.Idx → Ideal .fp8e4m3} {a3 b3 : Cert.GuRIdeal.S18944.Idx → Ideal .f32}
    (h0 : a0 = b0) (h1 : a1 = b1) (h2 : a2 = b2) (h3 : a3 = b3) :
    Cert.GuRIdeal.Value.G4 (F := Ideal) a0 a1 a2 a3 = Cert.GuRIdeal.Gen.k0_pay3 (F := Ideal) b0 b1 b2 b3 := by
  subst h0 h1 h2 h3
  rfl

/-- The reference's scales of equal arguments are equal. -/
theorem scales_congr {a0 b0 : Cert.GuRIdeal.S3x640x3584.Idx → Ideal .fp8e4m3} {a1 b1 : Cert.GuRIdeal.S3x640.Idx → Ideal .f32}
    {a2 b2 : Cert.GuRIdeal.S3584x18944.Idx → Ideal .fp8e4m3} {a3 b3 : Cert.GuRIdeal.S18944.Idx → Ideal .f32}
    (h0 : a0 = b0) (h1 : a1 = b1) (h2 : a2 = b2) (h3 : a3 = b3) :
    Cert.GuRIdeal.Value.G5 (F := Ideal) a0 a1 a2 a3 = Cert.GuRIdeal.Gen.k0_pay2 (F := Ideal) b0 b1 b2 b3 := by
  subst h0 h1 h2 h3
  rfl

/-- The gate-and-up kernel and the reference compute the same codes and the same scales over the extended reals. -/
theorem algebraic_gu : Cert.algebraic_GuKIdeal_GuRIdeal := by
  intro m g m' g' _ h
  refine ⟨fun c => Cert.GuKIdeal.Gu.refCodes m c, fun c => Cert.GuKIdeal.Gu.refScales m c, Cert.GuKIdeal.Gu.run m g, ?_⟩
  refine (θ_run _ _ _).mono (fun r hr c => ?_) (Cert.GuRIdeal.Value.run m' g')
  obtain ⟨h0, h1, h2, h3⟩ := h c
  exact ⟨(hr c).1.trans (codes_congr h0 h1 h2 h3), (hr c).2.1.trans (scales_congr h0 h1 h2 h3), (hr c).2.2⟩

/-- The reference's hidden rows, codes and scales of equal arguments are equal. -/
theorem oproj_congr {a0 b0 : Cert.OprojRIdeal.S3x640x1792.Idx → Ideal .fp8e4m3} {a1 b1 : Cert.OprojRIdeal.S3x640.Idx → Ideal .f32}
    {a2 b2 : Cert.OprojRIdeal.S3x640x3584.Idx → Ideal .bf16} {a3 b3 : Cert.OprojRIdeal.S3584.Idx → Ideal .f32}
    {a4 b4 : Cert.OprojRIdeal.S1792x3584.Idx → Ideal .fp8e4m3} {a5 b5 : Cert.OprojRIdeal.S3584.Idx → Ideal .f32}
    (h0 : a0 = b0) (h1 : a1 = b1) (h2 : a2 = b2) (h3 : a3 = b3) (h4 : a4 = b4) (h5 : a5 = b5) :
    Cert.OprojRIdeal.Value.G6 (F := Ideal) a0 a1 a2 a3 a4 a5 = Cert.OprojRIdeal.Value.G6 (F := Ideal) b0 b1 b2 b3 b4 b5
    ∧ Cert.OprojRIdeal.Value.G7 (F := Ideal) a0 a1 a2 a3 a4 a5 = Cert.OprojRIdeal.Value.G7 (F := Ideal) b0 b1 b2 b3 b4 b5
    ∧ Cert.OprojRIdeal.Value.G8 (F := Ideal) a0 a1 a2 a3 a4 a5 = Cert.OprojRIdeal.Value.G8 (F := Ideal) b0 b1 b2 b3 b4 b5 := by
  subst h0 h1 h2 h3 h4 h5
  exact ⟨rfl, rfl, rfl⟩

/-- The output-projection kernel and the reference compute the same hidden rows, codes and scales over the extended reals. -/
theorem algebraic_oproj : Cert.algebraic_OprojKIdeal_OprojRIdeal := by
  intro m g m' g' _ h
  refine ⟨fun c => Cert.OprojKIdeal.Op.refRows m c, fun c => Cert.OprojKIdeal.Op.refCodes m c, fun c => Cert.OprojKIdeal.Op.refScales m c,
    Cert.OprojKIdeal.Op.run m g, ?_⟩
  refine (θ_run _ _ _).mono (fun r hr c => ?_) (Cert.OprojRIdeal.Value.run m' g')
  obtain ⟨h0, h1, h2, h3, h4, h5⟩ := h c
  have e := oproj_congr h0 h1 h2 h3 h4 h5
  exact ⟨(hr c).1.trans e.1, (hr c).2.1.trans e.2.1, (hr c).2.2.1.trans e.2.2, (hr c).2.2.2⟩

/-- Every claim of the certificate. -/
theorem claim : Cert.Claim :=
  ⟨Cert.DownK.Gen.facts, Cert.DownKIdeal.Gen.facts, Cert.DownRIdeal.Gen.facts,
    Cert.GuK.Gen.facts, Cert.GuKIdeal.Gen.facts, Cert.GuRIdeal.Gen.facts,
    Cert.OprojK.Gen.facts, Cert.OprojKIdeal.Gen.facts, Cert.OprojRIdeal.Gen.facts,
    fun m ρ _ => Cert.DownK.Gen.frame m ρ, fun m ρ _ => Cert.DownKIdeal.Gen.frame m ρ,
    fun m ρ _ => Cert.DownRIdeal.Gen.frame m ρ, fun m ρ _ => Cert.GuKIdeal.Gu.frame_k m ρ,
    fun m ρ _ => Cert.GuKIdeal.Gu.frame m ρ, fun m ρ _ => Cert.GuRIdeal.Gen.frame m ρ,
    fun m ρ _ => Cert.OprojKIdeal.Op.frame_k m ρ, fun m ρ _ => Cert.OprojKIdeal.Op.frame m ρ,
    fun m ρ _ => Cert.OprojRIdeal.Gen.frame m ρ,
    trivial, algebraic_down, trivial, algebraic_gu, trivial, algebraic_oproj⟩

end Cert.Proof

end
